-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceOnceIdeal (m : (ℓ : Loc Cert.ReferenceOnceIdeal.nD Cert.ReferenceOnceIdeal.τ Cert.ReferenceOnceIdeal.sig) → Buf (Elt Ideal) ℓ) : Prop :=
  True

def Pre_ReferenceOnceIdeal_finite [hPre_finite : Cert.Pre_finite.Facts] (m : (ℓ : Loc Cert.ReferenceOnceIdeal.nD Cert.ReferenceOnceIdeal.τ Cert.ReferenceOnceIdeal.sig) → Buf (Elt Ideal) ℓ) : Prop :=
  ∀ c : Dev Cert.ReferenceOnceIdeal.nD,
    (Cert.Pre_finite.fn (F := Ideal) (m ((c.tc : Thread Cert.ReferenceOnceIdeal.nD Cert.ReferenceOnceIdeal.τ).loc Cert.ReferenceOnceIdeal.main_arg0)) (m ((c.tc : Thread Cert.ReferenceOnceIdeal.nD Cert.ReferenceOnceIdeal.τ).loc Cert.ReferenceOnceIdeal.main_arg1)) (m ((c.tc : Thread Cert.ReferenceOnceIdeal.nD Cert.ReferenceOnceIdeal.τ).loc Cert.ReferenceOnceIdeal.main_arg2)) (m ((c.tc : Thread Cert.ReferenceOnceIdeal.nD Cert.ReferenceOnceIdeal.τ).loc Cert.ReferenceOnceIdeal.main_arg3)) (m ((c.tc : Thread Cert.ReferenceOnceIdeal.nD Cert.ReferenceOnceIdeal.τ).loc Cert.ReferenceOnceIdeal.main_arg4)) (m ((c.tc : Thread Cert.ReferenceOnceIdeal.nD Cert.ReferenceOnceIdeal.τ).loc Cert.ReferenceOnceIdeal.main_arg5)) (m ((c.tc : Thread Cert.ReferenceOnceIdeal.nD Cert.ReferenceOnceIdeal.τ).loc Cert.ReferenceOnceIdeal.main_arg6)) (m ((c.tc : Thread Cert.ReferenceOnceIdeal.nD Cert.ReferenceOnceIdeal.τ).loc Cert.ReferenceOnceIdeal.main_arg7)) (m ((c.tc : Thread Cert.ReferenceOnceIdeal.nD Cert.ReferenceOnceIdeal.τ).loc Cert.ReferenceOnceIdeal.main_arg8)) (m ((c.tc : Thread Cert.ReferenceOnceIdeal.nD Cert.ReferenceOnceIdeal.τ).loc Cert.ReferenceOnceIdeal.main_arg9)) (m ((c.tc : Thread Cert.ReferenceOnceIdeal.nD Cert.ReferenceOnceIdeal.τ).loc Cert.ReferenceOnceIdeal.main_arg10)) (m ((c.tc : Thread Cert.ReferenceOnceIdeal.nD Cert.ReferenceOnceIdeal.τ).loc Cert.ReferenceOnceIdeal.main_arg11))).1 = (fun _ => 1#1)
    ∧ (Cert.Pre_finite.fn (F := Ideal) (m ((c.tc : Thread Cert.ReferenceOnceIdeal.nD Cert.ReferenceOnceIdeal.τ).loc Cert.ReferenceOnceIdeal.main_arg0)) (m ((c.tc : Thread Cert.ReferenceOnceIdeal.nD Cert.ReferenceOnceIdeal.τ).loc Cert.ReferenceOnceIdeal.main_arg1)) (m ((c.tc : Thread Cert.ReferenceOnceIdeal.nD Cert.ReferenceOnceIdeal.τ).loc Cert.ReferenceOnceIdeal.main_arg2)) (m ((c.tc : Thread Cert.ReferenceOnceIdeal.nD Cert.ReferenceOnceIdeal.τ).loc Cert.ReferenceOnceIdeal.main_arg3)) (m ((c.tc : Thread Cert.ReferenceOnceIdeal.nD Cert.ReferenceOnceIdeal.τ).loc Cert.ReferenceOnceIdeal.main_arg4)) (m ((c.tc : Thread Cert.ReferenceOnceIdeal.nD Cert.ReferenceOnceIdeal.τ).loc Cert.ReferenceOnceIdeal.main_arg5)) (m ((c.tc : Thread Cert.ReferenceOnceIdeal.nD Cert.ReferenceOnceIdeal.τ).loc Cert.ReferenceOnceIdeal.main_arg6)) (m ((c.tc : Thread Cert.ReferenceOnceIdeal.nD Cert.ReferenceOnceIdeal.τ).loc Cert.ReferenceOnceIdeal.main_arg7)) (m ((c.tc : Thread Cert.ReferenceOnceIdeal.nD Cert.ReferenceOnceIdeal.τ).loc Cert.ReferenceOnceIdeal.main_arg8)) (m ((c.tc : Thread Cert.ReferenceOnceIdeal.nD Cert.ReferenceOnceIdeal.τ).loc Cert.ReferenceOnceIdeal.main_arg9)) (m ((c.tc : Thread Cert.ReferenceOnceIdeal.nD Cert.ReferenceOnceIdeal.τ).loc Cert.ReferenceOnceIdeal.main_arg10)) (m ((c.tc : Thread Cert.ReferenceOnceIdeal.nD Cert.ReferenceOnceIdeal.τ).loc Cert.ReferenceOnceIdeal.main_arg11))).2.1 = (fun _ => 1#1)
    ∧ (Cert.Pre_finite.fn (F := Ideal) (m ((c.tc : Thread Cert.ReferenceOnceIdeal.nD Cert.ReferenceOnceIdeal.τ).loc Cert.ReferenceOnceIdeal.main_arg0)) (m ((c.tc : Thread Cert.ReferenceOnceIdeal.nD Cert.ReferenceOnceIdeal.τ).loc Cert.ReferenceOnceIdeal.main_arg1)) (m ((c.tc : Thread Cert.ReferenceOnceIdeal.nD Cert.ReferenceOnceIdeal.τ).loc Cert.ReferenceOnceIdeal.main_arg2)) (m ((c.tc : Thread Cert.ReferenceOnceIdeal.nD Cert.ReferenceOnceIdeal.τ).loc Cert.ReferenceOnceIdeal.main_arg3)) (m ((c.tc : Thread Cert.ReferenceOnceIdeal.nD Cert.ReferenceOnceIdeal.τ).loc Cert.ReferenceOnceIdeal.main_arg4)) (m ((c.tc : Thread Cert.ReferenceOnceIdeal.nD Cert.ReferenceOnceIdeal.τ).loc Cert.ReferenceOnceIdeal.main_arg5)) (m ((c.tc : Thread Cert.ReferenceOnceIdeal.nD Cert.ReferenceOnceIdeal.τ).loc Cert.ReferenceOnceIdeal.main_arg6)) (m ((c.tc : Thread Cert.ReferenceOnceIdeal.nD Cert.ReferenceOnceIdeal.τ).loc Cert.ReferenceOnceIdeal.main_arg7)) (m ((c.tc : Thread Cert.ReferenceOnceIdeal.nD Cert.ReferenceOnceIdeal.τ).loc Cert.ReferenceOnceIdeal.main_arg8)) (m ((c.tc : Thread Cert.ReferenceOnceIdeal.nD Cert.ReferenceOnceIdeal.τ).loc Cert.ReferenceOnceIdeal.main_arg9)) (m ((c.tc : Thread Cert.ReferenceOnceIdeal.nD Cert.ReferenceOnceIdeal.τ).loc Cert.ReferenceOnceIdeal.main_arg10)) (m ((c.tc : Thread Cert.ReferenceOnceIdeal.nD Cert.ReferenceOnceIdeal.τ).loc Cert.ReferenceOnceIdeal.main_arg11))).2.2.1 = (fun _ => 1#1)
    ∧ (Cert.Pre_finite.fn (F := Ideal) (m ((c.tc : Thread Cert.ReferenceOnceIdeal.nD Cert.ReferenceOnceIdeal.τ).loc Cert.ReferenceOnceIdeal.main_arg0)) (m ((c.tc : Thread Cert.ReferenceOnceIdeal.nD Cert.ReferenceOnceIdeal.τ).loc Cert.ReferenceOnceIdeal.main_arg1)) (m ((c.tc : Thread Cert.ReferenceOnceIdeal.nD Cert.ReferenceOnceIdeal.τ).loc Cert.ReferenceOnceIdeal.main_arg2)) (m ((c.tc : Thread Cert.ReferenceOnceIdeal.nD Cert.ReferenceOnceIdeal.τ).loc Cert.ReferenceOnceIdeal.main_arg3)) (m ((c.tc : Thread Cert.ReferenceOnceIdeal.nD Cert.ReferenceOnceIdeal.τ).loc Cert.ReferenceOnceIdeal.main_arg4)) (m ((c.tc : Thread Cert.ReferenceOnceIdeal.nD Cert.ReferenceOnceIdeal.τ).loc Cert.ReferenceOnceIdeal.main_arg5)) (m ((c.tc : Thread Cert.ReferenceOnceIdeal.nD Cert.ReferenceOnceIdeal.τ).loc Cert.ReferenceOnceIdeal.main_arg6)) (m ((c.tc : Thread Cert.ReferenceOnceIdeal.nD Cert.ReferenceOnceIdeal.τ).loc Cert.ReferenceOnceIdeal.main_arg7)) (m ((c.tc : Thread Cert.ReferenceOnceIdeal.nD Cert.ReferenceOnceIdeal.τ).loc Cert.ReferenceOnceIdeal.main_arg8)) (m ((c.tc : Thread Cert.ReferenceOnceIdeal.nD Cert.ReferenceOnceIdeal.τ).loc Cert.ReferenceOnceIdeal.main_arg9)) (m ((c.tc : Thread Cert.ReferenceOnceIdeal.nD Cert.ReferenceOnceIdeal.τ).loc Cert.ReferenceOnceIdeal.main_arg10)) (m ((c.tc : Thread Cert.ReferenceOnceIdeal.nD Cert.ReferenceOnceIdeal.τ).loc Cert.ReferenceOnceIdeal.main_arg11))).2.2.2.1 = (fun _ => 1#1)
    ∧ (Cert.Pre_finite.fn (F := Ideal) (m ((c.tc : Thread Cert.ReferenceOnceIdeal.nD Cert.ReferenceOnceIdeal.τ).loc Cert.ReferenceOnceIdeal.main_arg0)) (m ((c.tc : Thread Cert.ReferenceOnceIdeal.nD Cert.ReferenceOnceIdeal.τ).loc Cert.ReferenceOnceIdeal.main_arg1)) (m ((c.tc : Thread Cert.ReferenceOnceIdeal.nD Cert.ReferenceOnceIdeal.τ).loc Cert.ReferenceOnceIdeal.main_arg2)) (m ((c.tc : Thread Cert.ReferenceOnceIdeal.nD Cert.ReferenceOnceIdeal.τ).loc Cert.ReferenceOnceIdeal.main_arg3)) (m ((c.tc : Thread Cert.ReferenceOnceIdeal.nD Cert.ReferenceOnceIdeal.τ).loc Cert.ReferenceOnceIdeal.main_arg4)) (m ((c.tc : Thread Cert.ReferenceOnceIdeal.nD Cert.ReferenceOnceIdeal.τ).loc Cert.ReferenceOnceIdeal.main_arg5)) (m ((c.tc : Thread Cert.ReferenceOnceIdeal.nD Cert.ReferenceOnceIdeal.τ).loc Cert.ReferenceOnceIdeal.main_arg6)) (m ((c.tc : Thread Cert.ReferenceOnceIdeal.nD Cert.ReferenceOnceIdeal.τ).loc Cert.ReferenceOnceIdeal.main_arg7)) (m ((c.tc : Thread Cert.ReferenceOnceIdeal.nD Cert.ReferenceOnceIdeal.τ).loc Cert.ReferenceOnceIdeal.main_arg8)) (m ((c.tc : Thread Cert.ReferenceOnceIdeal.nD Cert.ReferenceOnceIdeal.τ).loc Cert.ReferenceOnceIdeal.main_arg9)) (m ((c.tc : Thread Cert.ReferenceOnceIdeal.nD Cert.ReferenceOnceIdeal.τ).loc Cert.ReferenceOnceIdeal.main_arg10)) (m ((c.tc : Thread Cert.ReferenceOnceIdeal.nD Cert.ReferenceOnceIdeal.τ).loc Cert.ReferenceOnceIdeal.main_arg11))).2.2.2.2.1 = (fun _ => 1#1)
    ∧ (Cert.Pre_finite.fn (F := Ideal) (m ((c.tc : Thread Cert.ReferenceOnceIdeal.nD Cert.ReferenceOnceIdeal.τ).loc Cert.ReferenceOnceIdeal.main_arg0)) (m ((c.tc : Thread Cert.ReferenceOnceIdeal.nD Cert.ReferenceOnceIdeal.τ).loc Cert.ReferenceOnceIdeal.main_arg1)) (m ((c.tc : Thread Cert.ReferenceOnceIdeal.nD Cert.ReferenceOnceIdeal.τ).loc Cert.ReferenceOnceIdeal.main_arg2)) (m ((c.tc : Thread Cert.ReferenceOnceIdeal.nD Cert.ReferenceOnceIdeal.τ).loc Cert.ReferenceOnceIdeal.main_arg3)) (m ((c.tc : Thread Cert.ReferenceOnceIdeal.nD Cert.ReferenceOnceIdeal.τ).loc Cert.ReferenceOnceIdeal.main_arg4)) (m ((c.tc : Thread Cert.ReferenceOnceIdeal.nD Cert.ReferenceOnceIdeal.τ).loc Cert.ReferenceOnceIdeal.main_arg5)) (m ((c.tc : Thread Cert.ReferenceOnceIdeal.nD Cert.ReferenceOnceIdeal.τ).loc Cert.ReferenceOnceIdeal.main_arg6)) (m ((c.tc : Thread Cert.ReferenceOnceIdeal.nD Cert.ReferenceOnceIdeal.τ).loc Cert.ReferenceOnceIdeal.main_arg7)) (m ((c.tc : Thread Cert.ReferenceOnceIdeal.nD Cert.ReferenceOnceIdeal.τ).loc Cert.ReferenceOnceIdeal.main_arg8)) (m ((c.tc : Thread Cert.ReferenceOnceIdeal.nD Cert.ReferenceOnceIdeal.τ).loc Cert.ReferenceOnceIdeal.main_arg9)) (m ((c.tc : Thread Cert.ReferenceOnceIdeal.nD Cert.ReferenceOnceIdeal.τ).loc Cert.ReferenceOnceIdeal.main_arg10)) (m ((c.tc : Thread Cert.ReferenceOnceIdeal.nD Cert.ReferenceOnceIdeal.τ).loc Cert.ReferenceOnceIdeal.main_arg11))).2.2.2.2.2.1 = (fun _ => 1#1)
    ∧ (Cert.Pre_finite.fn (F := Ideal) (m ((c.tc : Thread Cert.ReferenceOnceIdeal.nD Cert.ReferenceOnceIdeal.τ).loc Cert.ReferenceOnceIdeal.main_arg0)) (m ((c.tc : Thread Cert.ReferenceOnceIdeal.nD Cert.ReferenceOnceIdeal.τ).loc Cert.ReferenceOnceIdeal.main_arg1)) (m ((c.tc : Thread Cert.ReferenceOnceIdeal.nD Cert.ReferenceOnceIdeal.τ).loc Cert.ReferenceOnceIdeal.main_arg2)) (m ((c.tc : Thread Cert.ReferenceOnceIdeal.nD Cert.ReferenceOnceIdeal.τ).loc Cert.ReferenceOnceIdeal.main_arg3)) (m ((c.tc : Thread Cert.ReferenceOnceIdeal.nD Cert.ReferenceOnceIdeal.τ).loc Cert.ReferenceOnceIdeal.main_arg4)) (m ((c.tc : Thread Cert.ReferenceOnceIdeal.nD Cert.ReferenceOnceIdeal.τ).loc Cert.ReferenceOnceIdeal.main_arg5)) (m ((c.tc : Thread Cert.ReferenceOnceIdeal.nD Cert.ReferenceOnceIdeal.τ).loc Cert.ReferenceOnceIdeal.main_arg6)) (m ((c.tc : Thread Cert.ReferenceOnceIdeal.nD Cert.ReferenceOnceIdeal.τ).loc Cert.ReferenceOnceIdeal.main_arg7)) (m ((c.tc : Thread Cert.ReferenceOnceIdeal.nD Cert.ReferenceOnceIdeal.τ).loc Cert.ReferenceOnceIdeal.main_arg8)) (m ((c.tc : Thread Cert.ReferenceOnceIdeal.nD Cert.ReferenceOnceIdeal.τ).loc Cert.ReferenceOnceIdeal.main_arg9)) (m ((c.tc : Thread Cert.ReferenceOnceIdeal.nD Cert.ReferenceOnceIdeal.τ).loc Cert.ReferenceOnceIdeal.main_arg10)) (m ((c.tc : Thread Cert.ReferenceOnceIdeal.nD Cert.ReferenceOnceIdeal.τ).loc Cert.ReferenceOnceIdeal.main_arg11))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceOnceIdeal [hReferenceOnceIdeal : Cert.ReferenceOnceIdeal.Facts] : Prop :=
  ∀ (m : (ℓ : Loc Cert.ReferenceOnceIdeal.nD Cert.ReferenceOnceIdeal.τ Cert.ReferenceOnceIdeal.sig) → Buf (Elt Ideal) ℓ) (g : Dev Cert.ReferenceOnceIdeal.nD → PrngReg), Pre_ReferenceOnceIdeal m →
    θ_run (Cert.ReferenceOnceIdeal.defs (F := Ideal)) (onTc (τ := Cert.ReferenceOnceIdeal.τ) (Cert.ReferenceOnceIdeal.main (F := Ideal))) ⟨m, fun _ => 0, g⟩ (fun r => (∀ c : Dev Cert.ReferenceOnceIdeal.nD,
      r.2.mem ((c.tc : Thread Cert.ReferenceOnceIdeal.nD Cert.ReferenceOnceIdeal.τ).loc Cert.ReferenceOnceIdeal.main_arg0) = m ((c.tc : Thread Cert.ReferenceOnceIdeal.nD Cert.ReferenceOnceIdeal.τ).loc Cert.ReferenceOnceIdeal.main_arg0)
      ∧ r.2.mem ((c.tc : Thread Cert.ReferenceOnceIdeal.nD Cert.ReferenceOnceIdeal.τ).loc Cert.ReferenceOnceIdeal.main_arg1) = m ((c.tc : Thread Cert.ReferenceOnceIdeal.nD Cert.ReferenceOnceIdeal.τ).loc Cert.ReferenceOnceIdeal.main_arg1)
      ∧ r.2.mem ((c.tc : Thread Cert.ReferenceOnceIdeal.nD Cert.ReferenceOnceIdeal.τ).loc Cert.ReferenceOnceIdeal.main_arg2) = m ((c.tc : Thread Cert.ReferenceOnceIdeal.nD Cert.ReferenceOnceIdeal.τ).loc Cert.ReferenceOnceIdeal.main_arg2)
      ∧ r.2.mem ((c.tc : Thread Cert.ReferenceOnceIdeal.nD Cert.ReferenceOnceIdeal.τ).loc Cert.ReferenceOnceIdeal.main_arg3) = m ((c.tc : Thread Cert.ReferenceOnceIdeal.nD Cert.ReferenceOnceIdeal.τ).loc Cert.ReferenceOnceIdeal.main_arg3)
      ∧ r.2.mem ((c.tc : Thread Cert.ReferenceOnceIdeal.nD Cert.ReferenceOnceIdeal.τ).loc Cert.ReferenceOnceIdeal.main_arg4) = m ((c.tc : Thread Cert.ReferenceOnceIdeal.nD Cert.ReferenceOnceIdeal.τ).loc Cert.ReferenceOnceIdeal.main_arg4)
      ∧ r.2.mem ((c.tc : Thread Cert.ReferenceOnceIdeal.nD Cert.ReferenceOnceIdeal.τ).loc Cert.ReferenceOnceIdeal.main_arg5) = m ((c.tc : Thread Cert.ReferenceOnceIdeal.nD Cert.ReferenceOnceIdeal.τ).loc Cert.ReferenceOnceIdeal.main_arg5)
      ∧ r.2.mem ((c.tc : Thread Cert.ReferenceOnceIdeal.nD Cert.ReferenceOnceIdeal.τ).loc Cert.ReferenceOnceIdeal.main_arg6) = m ((c.tc : Thread Cert.ReferenceOnceIdeal.nD Cert.ReferenceOnceIdeal.τ).loc Cert.ReferenceOnceIdeal.main_arg6)
      ∧ r.2.mem ((c.tc : Thread Cert.ReferenceOnceIdeal.nD Cert.ReferenceOnceIdeal.τ).loc Cert.ReferenceOnceIdeal.main_arg7) = m ((c.tc : Thread Cert.ReferenceOnceIdeal.nD Cert.ReferenceOnceIdeal.τ).loc Cert.ReferenceOnceIdeal.main_arg7)
      ∧ r.2.mem ((c.tc : Thread Cert.ReferenceOnceIdeal.nD Cert.ReferenceOnceIdeal.τ).loc Cert.ReferenceOnceIdeal.main_arg8) = m ((c.tc : Thread Cert.ReferenceOnceIdeal.nD Cert.ReferenceOnceIdeal.τ).loc Cert.ReferenceOnceIdeal.main_arg8)
      ∧ r.2.mem ((c.tc : Thread Cert.ReferenceOnceIdeal.nD Cert.ReferenceOnceIdeal.τ).loc Cert.ReferenceOnceIdeal.main_arg9) = m ((c.tc : Thread Cert.ReferenceOnceIdeal.nD Cert.ReferenceOnceIdeal.τ).loc Cert.ReferenceOnceIdeal.main_arg9)
      ∧ r.2.mem ((c.tc : Thread Cert.ReferenceOnceIdeal.nD Cert.ReferenceOnceIdeal.τ).loc Cert.ReferenceOnceIdeal.main_arg10) = m ((c.tc : Thread Cert.ReferenceOnceIdeal.nD Cert.ReferenceOnceIdeal.τ).loc Cert.ReferenceOnceIdeal.main_arg10)
      ∧ r.2.mem ((c.tc : Thread Cert.ReferenceOnceIdeal.nD Cert.ReferenceOnceIdeal.τ).loc Cert.ReferenceOnceIdeal.main_arg11) = m ((c.tc : Thread Cert.ReferenceOnceIdeal.nD Cert.ReferenceOnceIdeal.τ).loc Cert.ReferenceOnceIdeal.main_arg11))
      ∧ r.2.sem = fun _ => 0)

def quiescent_ReferenceOnceIdeal_pre_finite [hReferenceOnceIdeal : Cert.ReferenceOnceIdeal.Facts] [hPre_finite : Cert.Pre_finite.Facts] : Prop :=
  ∀ (m : (ℓ : Loc Cert.ReferenceOnceIdeal.nD Cert.ReferenceOnceIdeal.τ Cert.ReferenceOnceIdeal.sig) → Buf (Elt Ideal) ℓ) (g : Dev Cert.ReferenceOnceIdeal.nD → PrngReg), Pre_ReferenceOnceIdeal_finite m →
    θ_run (Cert.ReferenceOnceIdeal.defs (F := Ideal)) (onTc (τ := Cert.ReferenceOnceIdeal.τ) (Cert.ReferenceOnceIdeal.main (F := Ideal))) ⟨m, fun _ => 0, g⟩ (fun r => (∀ c : Dev Cert.ReferenceOnceIdeal.nD,
      r.2.mem ((c.tc : Thread Cert.ReferenceOnceIdeal.nD Cert.ReferenceOnceIdeal.τ).loc Cert.ReferenceOnceIdeal.main_arg0) = m ((c.tc : Thread Cert.ReferenceOnceIdeal.nD Cert.ReferenceOnceIdeal.τ).loc Cert.ReferenceOnceIdeal.main_arg0)
      ∧ r.2.mem ((c.tc : Thread Cert.ReferenceOnceIdeal.nD Cert.ReferenceOnceIdeal.τ).loc Cert.ReferenceOnceIdeal.main_arg1) = m ((c.tc : Thread Cert.ReferenceOnceIdeal.nD Cert.ReferenceOnceIdeal.τ).loc Cert.ReferenceOnceIdeal.main_arg1)
      ∧ r.2.mem ((c.tc : Thread Cert.ReferenceOnceIdeal.nD Cert.ReferenceOnceIdeal.τ).loc Cert.ReferenceOnceIdeal.main_arg2) = m ((c.tc : Thread Cert.ReferenceOnceIdeal.nD Cert.ReferenceOnceIdeal.τ).loc Cert.ReferenceOnceIdeal.main_arg2)
      ∧ r.2.mem ((c.tc : Thread Cert.ReferenceOnceIdeal.nD Cert.ReferenceOnceIdeal.τ).loc Cert.ReferenceOnceIdeal.main_arg3) = m ((c.tc : Thread Cert.ReferenceOnceIdeal.nD Cert.ReferenceOnceIdeal.τ).loc Cert.ReferenceOnceIdeal.main_arg3)
      ∧ r.2.mem ((c.tc : Thread Cert.ReferenceOnceIdeal.nD Cert.ReferenceOnceIdeal.τ).loc Cert.ReferenceOnceIdeal.main_arg4) = m ((c.tc : Thread Cert.ReferenceOnceIdeal.nD Cert.ReferenceOnceIdeal.τ).loc Cert.ReferenceOnceIdeal.main_arg4)
      ∧ r.2.mem ((c.tc : Thread Cert.ReferenceOnceIdeal.nD Cert.ReferenceOnceIdeal.τ).loc Cert.ReferenceOnceIdeal.main_arg5) = m ((c.tc : Thread Cert.ReferenceOnceIdeal.nD Cert.ReferenceOnceIdeal.τ).loc Cert.ReferenceOnceIdeal.main_arg5)
      ∧ r.2.mem ((c.tc : Thread Cert.ReferenceOnceIdeal.nD Cert.ReferenceOnceIdeal.τ).loc Cert.ReferenceOnceIdeal.main_arg6) = m ((c.tc : Thread Cert.ReferenceOnceIdeal.nD Cert.ReferenceOnceIdeal.τ).loc Cert.ReferenceOnceIdeal.main_arg6)
      ∧ r.2.mem ((c.tc : Thread Cert.ReferenceOnceIdeal.nD Cert.ReferenceOnceIdeal.τ).loc Cert.ReferenceOnceIdeal.main_arg7) = m ((c.tc : Thread Cert.ReferenceOnceIdeal.nD Cert.ReferenceOnceIdeal.τ).loc Cert.ReferenceOnceIdeal.main_arg7)
      ∧ r.2.mem ((c.tc : Thread Cert.ReferenceOnceIdeal.nD Cert.ReferenceOnceIdeal.τ).loc Cert.ReferenceOnceIdeal.main_arg8) = m ((c.tc : Thread Cert.ReferenceOnceIdeal.nD Cert.ReferenceOnceIdeal.τ).loc Cert.ReferenceOnceIdeal.main_arg8)
      ∧ r.2.mem ((c.tc : Thread Cert.ReferenceOnceIdeal.nD Cert.ReferenceOnceIdeal.τ).loc Cert.ReferenceOnceIdeal.main_arg9) = m ((c.tc : Thread Cert.ReferenceOnceIdeal.nD Cert.ReferenceOnceIdeal.τ).loc Cert.ReferenceOnceIdeal.main_arg9)
      ∧ r.2.mem ((c.tc : Thread Cert.ReferenceOnceIdeal.nD Cert.ReferenceOnceIdeal.τ).loc Cert.ReferenceOnceIdeal.main_arg10) = m ((c.tc : Thread Cert.ReferenceOnceIdeal.nD Cert.ReferenceOnceIdeal.τ).loc Cert.ReferenceOnceIdeal.main_arg10)
      ∧ r.2.mem ((c.tc : Thread Cert.ReferenceOnceIdeal.nD Cert.ReferenceOnceIdeal.τ).loc Cert.ReferenceOnceIdeal.main_arg11) = m ((c.tc : Thread Cert.ReferenceOnceIdeal.nD Cert.ReferenceOnceIdeal.τ).loc Cert.ReferenceOnceIdeal.main_arg11))
      ∧ r.2.sem = fun _ => 0)

def preserves_Kernel_KernelIdeal : Prop :=
  True

def algebraic_KernelIdeal_ReferenceIdeal_on_inner_rows [hKernelIdeal : Cert.KernelIdeal.Facts] [hReferenceIdeal : Cert.ReferenceIdeal.Facts] [hOn_inner_rows : Cert.On_inner_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v43)) (v3 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 512, 512]⟩ : Shape).Idx, (Cert.On_inner_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v36_0) i = v0 c i)
          ∧ (∀ i : (⟨1, ![4]⟩ : Shape).Idx, (Cert.On_inner_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v44) i = v1 c i)
          ∧ (∀ i : (⟨3, ![4, 512, 256]⟩ : Shape).Idx, (Cert.On_inner_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.KernelIdeal.nD Cert.KernelIdeal.τ).loc Cert.KernelIdeal.main_v43) i = v2 c i)
          ∧ (∀ i : (⟨3, ![4, 512, 256]⟩ : Shape).Idx, (Cert.On_inner_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 i = 1#1 → r.2.mem ((c.tc : Thread Cert.KernelIdeal.nD Cert.KernelIdeal.τ).loc Cert.KernelIdeal.main_v1_0) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 512, 512]⟩ : Shape).Idx, (Cert.On_inner_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v457) i = v0 c i)
          ∧ (∀ i : (⟨1, ![4]⟩ : Shape).Idx, (Cert.On_inner_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceIdeal.nD Cert.ReferenceIdeal.τ).loc Cert.ReferenceIdeal.main_v465) i = v1 c i)
          ∧ (∀ i : (⟨3, ![4, 512, 256]⟩ : Shape).Idx, (Cert.On_inner_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.ReferenceIdeal.nD Cert.ReferenceIdeal.τ).loc Cert.ReferenceIdeal.main_v483) i = v2 c i)
          ∧ (∀ i : (⟨3, ![4, 512, 256]⟩ : Shape).Idx, (Cert.On_inner_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 i = 1#1 → r.2.mem ((c.tc : Thread Cert.ReferenceIdeal.nD Cert.ReferenceIdeal.τ).loc Cert.ReferenceIdeal.main_v39) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def algebraic_KernelIdeal_ReferenceOnceIdeal_on_all_but_dis [hKernelIdeal : Cert.KernelIdeal.Facts] [hReferenceOnceIdeal : Cert.ReferenceOnceIdeal.Facts] [hOn_all_but_dis : Cert.On_all_but_dis.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceOnceIdeal.nD Cert.ReferenceOnceIdeal.τ Cert.ReferenceOnceIdeal.sig) → Buf (Elt Ideal) ℓ) (g' : Dev Cert.ReferenceOnceIdeal.nD → PrngReg), Pre_KernelIdeal m →
    (∀ c : Dev Cert.KernelIdeal.nD,
      m' ((c.tc : Thread Cert.ReferenceOnceIdeal.nD Cert.ReferenceOnceIdeal.τ).loc Cert.ReferenceOnceIdeal.main_arg0) = m ((c.tc : Thread Cert.KernelIdeal.nD Cert.KernelIdeal.τ).loc Cert.KernelIdeal.main_arg0)
      ∧ m' ((c.tc : Thread Cert.ReferenceOnceIdeal.nD Cert.ReferenceOnceIdeal.τ).loc Cert.ReferenceOnceIdeal.main_arg1) = m ((c.tc : Thread Cert.KernelIdeal.nD Cert.KernelIdeal.τ).loc Cert.KernelIdeal.main_arg1)
      ∧ m' ((c.tc : Thread Cert.ReferenceOnceIdeal.nD Cert.ReferenceOnceIdeal.τ).loc Cert.ReferenceOnceIdeal.main_arg2) = m ((c.tc : Thread Cert.KernelIdeal.nD Cert.KernelIdeal.τ).loc Cert.KernelIdeal.main_arg2)
      ∧ m' ((c.tc : Thread Cert.ReferenceOnceIdeal.nD Cert.ReferenceOnceIdeal.τ).loc Cert.ReferenceOnceIdeal.main_arg3) = m ((c.tc : Thread Cert.KernelIdeal.nD Cert.KernelIdeal.τ).loc Cert.KernelIdeal.main_arg3)
      ∧ m' ((c.tc : Thread Cert.ReferenceOnceIdeal.nD Cert.ReferenceOnceIdeal.τ).loc Cert.ReferenceOnceIdeal.main_arg4) = m ((c.tc : Thread Cert.KernelIdeal.nD Cert.KernelIdeal.τ).loc Cert.KernelIdeal.main_arg4)
      ∧ m' ((c.tc : Thread Cert.ReferenceOnceIdeal.nD Cert.ReferenceOnceIdeal.τ).loc Cert.ReferenceOnceIdeal.main_arg5) = m ((c.tc : Thread Cert.KernelIdeal.nD Cert.KernelIdeal.τ).loc Cert.KernelIdeal.main_arg5)
      ∧ m' ((c.tc : Thread Cert.ReferenceOnceIdeal.nD Cert.ReferenceOnceIdeal.τ).loc Cert.ReferenceOnceIdeal.main_arg6) = m ((c.tc : Thread Cert.KernelIdeal.nD Cert.KernelIdeal.τ).loc Cert.KernelIdeal.main_arg6)
      ∧ m' ((c.tc : Thread Cert.ReferenceOnceIdeal.nD Cert.ReferenceOnceIdeal.τ).loc Cert.ReferenceOnceIdeal.main_arg7) = m ((c.tc : Thread Cert.KernelIdeal.nD Cert.KernelIdeal.τ).loc Cert.KernelIdeal.main_arg7)
      ∧ m' ((c.tc : Thread Cert.ReferenceOnceIdeal.nD Cert.ReferenceOnceIdeal.τ).loc Cert.ReferenceOnceIdeal.main_arg8) = m ((c.tc : Thread Cert.KernelIdeal.nD Cert.KernelIdeal.τ).loc Cert.KernelIdeal.main_arg8)
      ∧ m' ((c.tc : Thread Cert.ReferenceOnceIdeal.nD Cert.ReferenceOnceIdeal.τ).loc Cert.ReferenceOnceIdeal.main_arg9) = m ((c.tc : Thread Cert.KernelIdeal.nD Cert.KernelIdeal.τ).loc Cert.KernelIdeal.main_arg9)
      ∧ m' ((c.tc : Thread Cert.ReferenceOnceIdeal.nD Cert.ReferenceOnceIdeal.τ).loc Cert.ReferenceOnceIdeal.main_arg10) = m ((c.tc : Thread Cert.KernelIdeal.nD Cert.KernelIdeal.τ).loc Cert.KernelIdeal.main_arg10)
      ∧ m' ((c.tc : Thread Cert.ReferenceOnceIdeal.nD Cert.ReferenceOnceIdeal.τ).loc Cert.ReferenceOnceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v43)) (v3 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 512, 512]⟩ : Shape).Idx, (Cert.On_all_but_dis.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v36_0) i = v0 c i)
          ∧ (∀ i : (⟨1, ![4]⟩ : Shape).Idx, (Cert.On_all_but_dis.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v44) i = v1 c i)
          ∧ (∀ i : (⟨3, ![4, 512, 256]⟩ : Shape).Idx, (Cert.On_all_but_dis.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.KernelIdeal.nD Cert.KernelIdeal.τ).loc Cert.KernelIdeal.main_v43) i = v2 c i)
          ∧ (∀ i : (⟨3, ![4, 512, 256]⟩ : Shape).Idx, (Cert.On_all_but_dis.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 i = 1#1 → r.2.mem ((c.tc : Thread Cert.KernelIdeal.nD Cert.KernelIdeal.τ).loc Cert.KernelIdeal.main_v1_0) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceOnceIdeal.defs (F := Ideal)) (onTc (τ := Cert.ReferenceOnceIdeal.τ) (Cert.ReferenceOnceIdeal.main (F := Ideal))) ⟨m', fun _ => 0, g'⟩ (fun r => ∀ c : Dev Cert.ReferenceOnceIdeal.nD,
          (∀ i : (⟨3, ![4, 512, 512]⟩ : Shape).Idx, (Cert.On_all_but_dis.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceOnceIdeal.nD Cert.ReferenceOnceIdeal.τ).loc Cert.ReferenceOnceIdeal.main_v459) i = v0 c i)
          ∧ (∀ i : (⟨1, ![4]⟩ : Shape).Idx, (Cert.On_all_but_dis.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceOnceIdeal.nD Cert.ReferenceOnceIdeal.τ).loc Cert.ReferenceOnceIdeal.main_v467) i = v1 c i)
          ∧ (∀ i : (⟨3, ![4, 512, 256]⟩ : Shape).Idx, (Cert.On_all_but_dis.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.ReferenceOnceIdeal.nD Cert.ReferenceOnceIdeal.τ).loc Cert.ReferenceOnceIdeal.main_v485) i = v2 c i)
          ∧ (∀ i : (⟨3, ![4, 512, 256]⟩ : Shape).Idx, (Cert.On_all_but_dis.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 i = 1#1 → r.2.mem ((c.tc : Thread Cert.ReferenceOnceIdeal.nD Cert.ReferenceOnceIdeal.τ).loc Cert.ReferenceOnceIdeal.main_v39) i = v3 c i)
          ∧ r.2.mem ((c.tc : Thread Cert.ReferenceOnceIdeal.nD Cert.ReferenceOnceIdeal.τ).loc Cert.ReferenceOnceIdeal.main_arg0) = m' ((c.tc : Thread Cert.ReferenceOnceIdeal.nD Cert.ReferenceOnceIdeal.τ).loc Cert.ReferenceOnceIdeal.main_arg0)
          ∧ r.2.mem ((c.tc : Thread Cert.ReferenceOnceIdeal.nD Cert.ReferenceOnceIdeal.τ).loc Cert.ReferenceOnceIdeal.main_arg1) = m' ((c.tc : Thread Cert.ReferenceOnceIdeal.nD Cert.ReferenceOnceIdeal.τ).loc Cert.ReferenceOnceIdeal.main_arg1)
          ∧ r.2.mem ((c.tc : Thread Cert.ReferenceOnceIdeal.nD Cert.ReferenceOnceIdeal.τ).loc Cert.ReferenceOnceIdeal.main_arg2) = m' ((c.tc : Thread Cert.ReferenceOnceIdeal.nD Cert.ReferenceOnceIdeal.τ).loc Cert.ReferenceOnceIdeal.main_arg2)
          ∧ r.2.mem ((c.tc : Thread Cert.ReferenceOnceIdeal.nD Cert.ReferenceOnceIdeal.τ).loc Cert.ReferenceOnceIdeal.main_arg3) = m' ((c.tc : Thread Cert.ReferenceOnceIdeal.nD Cert.ReferenceOnceIdeal.τ).loc Cert.ReferenceOnceIdeal.main_arg3)
          ∧ r.2.mem ((c.tc : Thread Cert.ReferenceOnceIdeal.nD Cert.ReferenceOnceIdeal.τ).loc Cert.ReferenceOnceIdeal.main_arg4) = m' ((c.tc : Thread Cert.ReferenceOnceIdeal.nD Cert.ReferenceOnceIdeal.τ).loc Cert.ReferenceOnceIdeal.main_arg4)
          ∧ r.2.mem ((c.tc : Thread Cert.ReferenceOnceIdeal.nD Cert.ReferenceOnceIdeal.τ).loc Cert.ReferenceOnceIdeal.main_arg5) = m' ((c.tc : Thread Cert.ReferenceOnceIdeal.nD Cert.ReferenceOnceIdeal.τ).loc Cert.ReferenceOnceIdeal.main_arg5)
          ∧ r.2.mem ((c.tc : Thread Cert.ReferenceOnceIdeal.nD Cert.ReferenceOnceIdeal.τ).loc Cert.ReferenceOnceIdeal.main_arg6) = m' ((c.tc : Thread Cert.ReferenceOnceIdeal.nD Cert.ReferenceOnceIdeal.τ).loc Cert.ReferenceOnceIdeal.main_arg6)
          ∧ r.2.mem ((c.tc : Thread Cert.ReferenceOnceIdeal.nD Cert.ReferenceOnceIdeal.τ).loc Cert.ReferenceOnceIdeal.main_arg7) = m' ((c.tc : Thread Cert.ReferenceOnceIdeal.nD Cert.ReferenceOnceIdeal.τ).loc Cert.ReferenceOnceIdeal.main_arg7)
          ∧ r.2.mem ((c.tc : Thread Cert.ReferenceOnceIdeal.nD Cert.ReferenceOnceIdeal.τ).loc Cert.ReferenceOnceIdeal.main_arg8) = m' ((c.tc : Thread Cert.ReferenceOnceIdeal.nD Cert.ReferenceOnceIdeal.τ).loc Cert.ReferenceOnceIdeal.main_arg8)
          ∧ r.2.mem ((c.tc : Thread Cert.ReferenceOnceIdeal.nD Cert.ReferenceOnceIdeal.τ).loc Cert.ReferenceOnceIdeal.main_arg9) = m' ((c.tc : Thread Cert.ReferenceOnceIdeal.nD Cert.ReferenceOnceIdeal.τ).loc Cert.ReferenceOnceIdeal.main_arg9)
          ∧ r.2.mem ((c.tc : Thread Cert.ReferenceOnceIdeal.nD Cert.ReferenceOnceIdeal.τ).loc Cert.ReferenceOnceIdeal.main_arg10) = m' ((c.tc : Thread Cert.ReferenceOnceIdeal.nD Cert.ReferenceOnceIdeal.τ).loc Cert.ReferenceOnceIdeal.main_arg10)
          ∧ r.2.mem ((c.tc : Thread Cert.ReferenceOnceIdeal.nD Cert.ReferenceOnceIdeal.τ).loc Cert.ReferenceOnceIdeal.main_arg11) = m' ((c.tc : Thread Cert.ReferenceOnceIdeal.nD Cert.ReferenceOnceIdeal.τ).loc Cert.ReferenceOnceIdeal.main_arg11))

def algebraic_KernelIdeal_ReferenceOnceIdeal_pre_finite [hKernelIdeal : Cert.KernelIdeal.Facts] [hReferenceOnceIdeal : Cert.ReferenceOnceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceOnceIdeal.nD Cert.ReferenceOnceIdeal.τ Cert.ReferenceOnceIdeal.sig) → Buf (Elt Ideal) ℓ) (g' : Dev Cert.ReferenceOnceIdeal.nD → PrngReg), Pre_KernelIdeal_finite m →
    (∀ c : Dev Cert.KernelIdeal.nD,
      m' ((c.tc : Thread Cert.ReferenceOnceIdeal.nD Cert.ReferenceOnceIdeal.τ).loc Cert.ReferenceOnceIdeal.main_arg0) = m ((c.tc : Thread Cert.KernelIdeal.nD Cert.KernelIdeal.τ).loc Cert.KernelIdeal.main_arg0)
      ∧ m' ((c.tc : Thread Cert.ReferenceOnceIdeal.nD Cert.ReferenceOnceIdeal.τ).loc Cert.ReferenceOnceIdeal.main_arg1) = m ((c.tc : Thread Cert.KernelIdeal.nD Cert.KernelIdeal.τ).loc Cert.KernelIdeal.main_arg1)
      ∧ m' ((c.tc : Thread Cert.ReferenceOnceIdeal.nD Cert.ReferenceOnceIdeal.τ).loc Cert.ReferenceOnceIdeal.main_arg2) = m ((c.tc : Thread Cert.KernelIdeal.nD Cert.KernelIdeal.τ).loc Cert.KernelIdeal.main_arg2)
      ∧ m' ((c.tc : Thread Cert.ReferenceOnceIdeal.nD Cert.ReferenceOnceIdeal.τ).loc Cert.ReferenceOnceIdeal.main_arg3) = m ((c.tc : Thread Cert.KernelIdeal.nD Cert.KernelIdeal.τ).loc Cert.KernelIdeal.main_arg3)
      ∧ m' ((c.tc : Thread Cert.ReferenceOnceIdeal.nD Cert.ReferenceOnceIdeal.τ).loc Cert.ReferenceOnceIdeal.main_arg4) = m ((c.tc : Thread Cert.KernelIdeal.nD Cert.KernelIdeal.τ).loc Cert.KernelIdeal.main_arg4)
      ∧ m' ((c.tc : Thread Cert.ReferenceOnceIdeal.nD Cert.ReferenceOnceIdeal.τ).loc Cert.ReferenceOnceIdeal.main_arg5) = m ((c.tc : Thread Cert.KernelIdeal.nD Cert.KernelIdeal.τ).loc Cert.KernelIdeal.main_arg5)
      ∧ m' ((c.tc : Thread Cert.ReferenceOnceIdeal.nD Cert.ReferenceOnceIdeal.τ).loc Cert.ReferenceOnceIdeal.main_arg6) = m ((c.tc : Thread Cert.KernelIdeal.nD Cert.KernelIdeal.τ).loc Cert.KernelIdeal.main_arg6)
      ∧ m' ((c.tc : Thread Cert.ReferenceOnceIdeal.nD Cert.ReferenceOnceIdeal.τ).loc Cert.ReferenceOnceIdeal.main_arg7) = m ((c.tc : Thread Cert.KernelIdeal.nD Cert.KernelIdeal.τ).loc Cert.KernelIdeal.main_arg7)
      ∧ m' ((c.tc : Thread Cert.ReferenceOnceIdeal.nD Cert.ReferenceOnceIdeal.τ).loc Cert.ReferenceOnceIdeal.main_arg8) = m ((c.tc : Thread Cert.KernelIdeal.nD Cert.KernelIdeal.τ).loc Cert.KernelIdeal.main_arg8)
      ∧ m' ((c.tc : Thread Cert.ReferenceOnceIdeal.nD Cert.ReferenceOnceIdeal.τ).loc Cert.ReferenceOnceIdeal.main_arg9) = m ((c.tc : Thread Cert.KernelIdeal.nD Cert.KernelIdeal.τ).loc Cert.KernelIdeal.main_arg9)
      ∧ m' ((c.tc : Thread Cert.ReferenceOnceIdeal.nD Cert.ReferenceOnceIdeal.τ).loc Cert.ReferenceOnceIdeal.main_arg10) = m ((c.tc : Thread Cert.KernelIdeal.nD Cert.KernelIdeal.τ).loc Cert.KernelIdeal.main_arg10)
      ∧ m' ((c.tc : Thread Cert.ReferenceOnceIdeal.nD Cert.ReferenceOnceIdeal.τ).loc Cert.ReferenceOnceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v43)) (v3 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceOnceIdeal.defs (F := Ideal)) (onTc (τ := Cert.ReferenceOnceIdeal.τ) (Cert.ReferenceOnceIdeal.main (F := Ideal))) ⟨m', fun _ => 0, g'⟩ (fun r => ∀ c : Dev Cert.ReferenceOnceIdeal.nD,
          r.2.mem ((c.tc : Thread Cert.ReferenceOnceIdeal.nD Cert.ReferenceOnceIdeal.τ).loc Cert.ReferenceOnceIdeal.main_v459) = v0 c
          ∧ r.2.mem ((c.tc : Thread Cert.ReferenceOnceIdeal.nD Cert.ReferenceOnceIdeal.τ).loc Cert.ReferenceOnceIdeal.main_v467) = v1 c
          ∧ r.2.mem ((c.tc : Thread Cert.ReferenceOnceIdeal.nD Cert.ReferenceOnceIdeal.τ).loc Cert.ReferenceOnceIdeal.main_v485) = v2 c
          ∧ r.2.mem ((c.tc : Thread Cert.ReferenceOnceIdeal.nD Cert.ReferenceOnceIdeal.τ).loc Cert.ReferenceOnceIdeal.main_v39) = v3 c
          ∧ r.2.mem ((c.tc : Thread Cert.ReferenceOnceIdeal.nD Cert.ReferenceOnceIdeal.τ).loc Cert.ReferenceOnceIdeal.main_arg0) = m' ((c.tc : Thread Cert.ReferenceOnceIdeal.nD Cert.ReferenceOnceIdeal.τ).loc Cert.ReferenceOnceIdeal.main_arg0)
          ∧ r.2.mem ((c.tc : Thread Cert.ReferenceOnceIdeal.nD Cert.ReferenceOnceIdeal.τ).loc Cert.ReferenceOnceIdeal.main_arg1) = m' ((c.tc : Thread Cert.ReferenceOnceIdeal.nD Cert.ReferenceOnceIdeal.τ).loc Cert.ReferenceOnceIdeal.main_arg1)
          ∧ r.2.mem ((c.tc : Thread Cert.ReferenceOnceIdeal.nD Cert.ReferenceOnceIdeal.τ).loc Cert.ReferenceOnceIdeal.main_arg2) = m' ((c.tc : Thread Cert.ReferenceOnceIdeal.nD Cert.ReferenceOnceIdeal.τ).loc Cert.ReferenceOnceIdeal.main_arg2)
          ∧ r.2.mem ((c.tc : Thread Cert.ReferenceOnceIdeal.nD Cert.ReferenceOnceIdeal.τ).loc Cert.ReferenceOnceIdeal.main_arg3) = m' ((c.tc : Thread Cert.ReferenceOnceIdeal.nD Cert.ReferenceOnceIdeal.τ).loc Cert.ReferenceOnceIdeal.main_arg3)
          ∧ r.2.mem ((c.tc : Thread Cert.ReferenceOnceIdeal.nD Cert.ReferenceOnceIdeal.τ).loc Cert.ReferenceOnceIdeal.main_arg4) = m' ((c.tc : Thread Cert.ReferenceOnceIdeal.nD Cert.ReferenceOnceIdeal.τ).loc Cert.ReferenceOnceIdeal.main_arg4)
          ∧ r.2.mem ((c.tc : Thread Cert.ReferenceOnceIdeal.nD Cert.ReferenceOnceIdeal.τ).loc Cert.ReferenceOnceIdeal.main_arg5) = m' ((c.tc : Thread Cert.ReferenceOnceIdeal.nD Cert.ReferenceOnceIdeal.τ).loc Cert.ReferenceOnceIdeal.main_arg5)
          ∧ r.2.mem ((c.tc : Thread Cert.ReferenceOnceIdeal.nD Cert.ReferenceOnceIdeal.τ).loc Cert.ReferenceOnceIdeal.main_arg6) = m' ((c.tc : Thread Cert.ReferenceOnceIdeal.nD Cert.ReferenceOnceIdeal.τ).loc Cert.ReferenceOnceIdeal.main_arg6)
          ∧ r.2.mem ((c.tc : Thread Cert.ReferenceOnceIdeal.nD Cert.ReferenceOnceIdeal.τ).loc Cert.ReferenceOnceIdeal.main_arg7) = m' ((c.tc : Thread Cert.ReferenceOnceIdeal.nD Cert.ReferenceOnceIdeal.τ).loc Cert.ReferenceOnceIdeal.main_arg7)
          ∧ r.2.mem ((c.tc : Thread Cert.ReferenceOnceIdeal.nD Cert.ReferenceOnceIdeal.τ).loc Cert.ReferenceOnceIdeal.main_arg8) = m' ((c.tc : Thread Cert.ReferenceOnceIdeal.nD Cert.ReferenceOnceIdeal.τ).loc Cert.ReferenceOnceIdeal.main_arg8)
          ∧ r.2.mem ((c.tc : Thread Cert.ReferenceOnceIdeal.nD Cert.ReferenceOnceIdeal.τ).loc Cert.ReferenceOnceIdeal.main_arg9) = m' ((c.tc : Thread Cert.ReferenceOnceIdeal.nD Cert.ReferenceOnceIdeal.τ).loc Cert.ReferenceOnceIdeal.main_arg9)
          ∧ r.2.mem ((c.tc : Thread Cert.ReferenceOnceIdeal.nD Cert.ReferenceOnceIdeal.τ).loc Cert.ReferenceOnceIdeal.main_arg10) = m' ((c.tc : Thread Cert.ReferenceOnceIdeal.nD Cert.ReferenceOnceIdeal.τ).loc Cert.ReferenceOnceIdeal.main_arg10)
          ∧ r.2.mem ((c.tc : Thread Cert.ReferenceOnceIdeal.nD Cert.ReferenceOnceIdeal.τ).loc Cert.ReferenceOnceIdeal.main_arg11) = m' ((c.tc : Thread Cert.ReferenceOnceIdeal.nD Cert.ReferenceOnceIdeal.τ).loc Cert.ReferenceOnceIdeal.main_arg11))

def Claim : Prop :=
  ∃ (hKernel : Cert.Kernel.Facts) (hKernelIdeal : Cert.KernelIdeal.Facts) (hReferenceIdeal : Cert.ReferenceIdeal.Facts) (hReferenceOnceIdeal : Cert.ReferenceOnceIdeal.Facts) (hPre_finite : Cert.Pre_finite.Facts) (hOn_inner_rows : Cert.On_inner_rows.Facts) (hOn_all_but_dis : Cert.On_all_but_dis.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceOnceIdeal (hReferenceOnceIdeal := hReferenceOnceIdeal)
    ∧ quiescent_ReferenceOnceIdeal_pre_finite (hReferenceOnceIdeal := hReferenceOnceIdeal) (hPre_finite := hPre_finite)
    ∧ preserves_Kernel_KernelIdeal
    ∧ algebraic_KernelIdeal_ReferenceIdeal_on_inner_rows (hKernelIdeal := hKernelIdeal) (hReferenceIdeal := hReferenceIdeal) (hOn_inner_rows := hOn_inner_rows)
    ∧ algebraic_KernelIdeal_ReferenceOnceIdeal_on_all_but_dis (hKernelIdeal := hKernelIdeal) (hReferenceOnceIdeal := hReferenceOnceIdeal) (hOn_all_but_dis := hOn_all_but_dis)
    ∧ algebraic_KernelIdeal_ReferenceOnceIdeal_pre_finite (hKernelIdeal := hKernelIdeal) (hReferenceOnceIdeal := hReferenceOnceIdeal) (hPre_finite := hPre_finite)
-- ==== On_all_but_dis.lean ====
abbrev S4x512x256 : Shape := ⟨3, ![4, 512, 256]⟩
abbrev S4 : Shape := ⟨1, ![4]⟩
abbrev S30x2x5x5 : Shape := ⟨4, ![30, 2, 5, 5]⟩
abbrev S30 : Shape := ⟨1, ![30]⟩
abbrev S30x30x5x5 : Shape := ⟨4, ![30, 30, 5, 5]⟩
abbrev S1x30x3x3 : Shape := ⟨4, ![1, 30, 3, 3]⟩
abbrev S1 : Shape := ⟨1, ![1]⟩
abbrev S256x256 : Shape := ⟨2, ![256, 256]⟩
abbrev S256 : Shape := ⟨1, ![256]⟩
abbrev S_ : Shape := ⟨0, ![]⟩
abbrev S4x512x512 : Shape := ⟨3, ![4, 512, 512]⟩

class Facts : Prop where
  bcast_S_S4x512x512 : S_.BroadcastsInDim S4x512x512 (![] : Fin 0 → Fin S4x512x512.rank)
  bcast_S_S4 : S_.BroadcastsInDim S4 (![] : Fin 0 → Fin S4.rank)
  bcast_S_S4x512x256 : S_.BroadcastsInDim S4x512x256 (![] : Fin 0 → Fin S4x512x256.rank)

variable [Facts]

def fn {F : FTy → Type} [FloatOps F] (main_arg0 : FVec F S4x512x256 .f32) (main_arg1 : IVec S4 32) (main_arg2 : FVec F S30x2x5x5 .f32) (main_arg3 : FVec F S30 .f32) (main_arg4 : FVec F S30x30x5x5 .f32) (main_arg5 : FVec F S30 .f32) (main_arg6 : FVec F S1x30x3x3 .f32) (main_arg7 : FVec F S1 .f32) (main_arg8 : FVec F S256x256 .f32) (main_arg9 : FVec F S256 .f32) (main_arg10 : FVec F S256x256 .f32) (main_arg11 : FVec F S256 .f32) : IVec S4x512x512 1 × IVec S4 1 × IVec S4x512x256 1 × IVec S4x512x256 1 :=
  let main_c : IVec S_ 1 := constantI S_ 1 1#1
  let main_v0 : IVec S4x512x512 1 := broadcastInDim S4x512x512 ![] bcast_S_S4x512x512 main_c
  let main_c_0 : IVec S_ 1 := constantI S_ 1 0#1
  let main_v1 : IVec S4 1 := broadcastInDim S4 ![] bcast_S_S4 main_c_0
  let main_c_1 : IVec S_ 1 := constantI S_ 1 1#1
  let main_v2 : IVec S4x512x256 1 := broadcastInDim S4x512x256 ![] bcast_S_S4x512x256 main_c_1
  let main_c_2 : IVec S_ 1 := constantI S_ 1 1#1
  let main_v3 : IVec S4x512x256 1 := broadcastInDim S4x512x256 ![] bcast_S_S4x512x256 main_c_2
  (main_v0, main_v1, main_v2, main_v3)
-- ==== On_inner_rows.lean ====
abbrev S4x512x256 : Shape := ⟨3, ![4, 512, 256]⟩
abbrev S4 : Shape := ⟨1, ![4]⟩
abbrev S30x2x5x5 : Shape := ⟨4, ![30, 2, 5, 5]⟩
abbrev S30 : Shape := ⟨1, ![30]⟩
abbrev S30x30x5x5 : Shape := ⟨4, ![30, 30, 5, 5]⟩
abbrev S1x30x3x3 : Shape := ⟨4, ![1, 30, 3, 3]⟩
abbrev S1 : Shape := ⟨1, ![1]⟩
abbrev S256x256 : Shape := ⟨2, ![256, 256]⟩
abbrev S256 : Shape := ⟨1, ![256]⟩
abbrev S4x512x512 : Shape := ⟨3, ![4, 512, 512]⟩
abbrev S_ : Shape := ⟨0, ![]⟩

class Facts : Prop where
  bcast_S_S4x512x512 : S_.BroadcastsInDim S4x512x512 (![] : Fin 0 → Fin S4x512x512.rank)
  bcast_S_S4 : S_.BroadcastsInDim S4 (![] : Fin 0 → Fin S4.rank)
  bcast_S_S4x512x256 : S_.BroadcastsInDim S4x512x256 (![] : Fin 0 → Fin S4x512x256.rank)

variable [Facts]

def fn {F : FTy → Type} [FloatOps F] (main_arg0 : FVec F S4x512x256 .f32) (main_arg1 : IVec S4 32) (main_arg2 : FVec F S30x2x5x5 .f32) (main_arg3 : FVec F S30 .f32) (main_arg4 : FVec F S30x30x5x5 .f32) (main_arg5 : FVec F S30 .f32) (main_arg6 : FVec F S1x30x3x3 .f32) (main_arg7 : FVec F S1 .f32) (main_arg8 : FVec F S256x256 .f32) (main_arg9 : FVec F S256 .f32) (main_arg10 : FVec F S256x256 .f32) (main_arg11 : FVec F S256 .f32) : IVec S4x512x512 1 × IVec S4 1 × IVec S4x512x256 1 × IVec S4x512x256 1 :=
  let main_v0 : IVec S4x512x512 32 := iotaInDim S4x512x512 32 1
  let main_c : IVec S_ 32 := constantI S_ 32 3#32
  let main_v1 : IVec S4x512x512 32 := broadcastInDim S4x512x512 ![] bcast_S_S4x512x512 main_c
  let main_v2 : IVec S4x512x512 1 := cmpi .sge main_v0 main_v1
  let main_c_0 : IVec S_ 32 := constantI S_ 32 509#32
  let main_v3 : IVec S4x512x512 32 := broadcastInDim S4x512x512 ![] bcast_S_S4x512x512 main_c_0
  let main_v4 : IVec S4x512x512 1 := cmpi .slt main_v0 main_v3
  let main_v5 : IVec S4x512x512 1 := andi main_v2 main_v4
  let main_c_1 : IVec S_ 1 := constantI S_ 1 0#1
  let main_v6 : IVec S4 1 := broadcastInDim S4 ![] bcast_S_S4 main_c_1
  let main_c_2 : IVec S_ 1 := constantI S_ 1 1#1
  let main_v7 : IVec S4x512x256 1 := broadcastInDim S4x512x256 ![] bcast_S_S4x512x256 main_c_2
  let main_c_3 : IVec S_ 1 := constantI S_ 1 1#1
  let main_v8 : IVec S4x512x256 1 := broadcastInDim S4x512x256 ![] bcast_S_S4x512x256 main_c_3
  (main_v5, main_v6, main_v7, main_v8)
-- ==== Pre_finite.lean ====
abbrev S4x512x256 : Shape := ⟨3, ![4, 512, 256]⟩
abbrev S4 : Shape := ⟨1, ![4]⟩
abbrev S30x2x5x5 : Shape := ⟨4, ![30, 2, 5, 5]⟩
abbrev S30 : Shape := ⟨1, ![30]⟩
abbrev S30x30x5x5 : Shape := ⟨4, ![30, 30, 5, 5]⟩
abbrev S1x30x3x3 : Shape := ⟨4, ![1, 30, 3, 3]⟩
abbrev S1 : Shape := ⟨1, ![1]⟩
abbrev S256x256 : Shape := ⟨2, ![256, 256]⟩
abbrev S256 : Shape := ⟨1, ![256]⟩
abbrev S_ : Shape := ⟨0, ![]⟩

class Facts : Prop where
  bcast_S_S4x512x256 : S_.BroadcastsInDim S4x512x256 (![] : Fin 0 → Fin S4x512x256.rank)
  bcast_S_S30x2x5x5 : S_.BroadcastsInDim S30x2x5x5 (![] : Fin 0 → Fin S30x2x5x5.rank)
  bcast_S_S30 : S_.BroadcastsInDim S30 (![] : Fin 0 → Fin S30.rank)
  bcast_S_S30x30x5x5 : S_.BroadcastsInDim S30x30x5x5 (![] : Fin 0 → Fin S30x30x5x5.rank)
  bcast_S_S1x30x3x3 : S_.BroadcastsInDim S1x30x3x3 (![] : Fin 0 → Fin S1x30x3x3.rank)
  bcast_S_S1 : S_.BroadcastsInDim S1 (![] : Fin 0 → Fin S1.rank)

variable [Facts]

def fn_part1 {F : FTy → Type} [FloatOps F] (main_arg7 : FVec F S1 .f32) (main_v2 : IVec S4x512x256 1) (main_v5 : IVec S30x2x5x5 1) (main_v8 : IVec S30 1) (main_v11 : IVec S30x30x5x5 1) (main_v14 : IVec S30 1) (main_v17 : IVec S1x30x3x3 1) : IVec S4x512x256 1 × IVec S30x2x5x5 1 × IVec S30 1 × IVec S30x30x5x5 1 × IVec S30 1 × IVec S1x30x3x3 1 × IVec S1 1 :=
  let main_v18 : FVec F S1 .f32 := Host.absf main_arg7
  let main_cst_5 : FVec F S_ .f32 := constant S_ .f32 0x7F800000#32
  let main_v19 : FVec F S1 .f32 := broadcastInDim S1 ![] bcast_S_S1 main_cst_5
  let main_v20 : IVec S1 1 := cmpf .olt main_v18 main_v19
  (main_v2, main_v5, main_v8, main_v11, main_v14, main_v17, main_v20)

def fn {F : FTy → Type} [FloatOps F] (main_arg0 : FVec F S4x512x256 .f32) (main_arg1 : IVec S4 32) (main_arg2 : FVec F S30x2x5x5 .f32) (main_arg3 : FVec F S30 .f32) (main_arg4 : FVec F S30x30x5x5 .f32) (main_arg5 : FVec F S30 .f32) (main_arg6 : FVec F S1x30x3x3 .f32) (main_arg7 : FVec F S1 .f32) (main_arg8 : FVec F S256x256 .f32) (main_arg9 : FVec F S256 .f32) (main_arg10 : FVec F S256x256 .f32) (main_arg11 : FVec F S256 .f32) : IVec S4x512x256 1 × IVec S30x2x5x5 1 × IVec S30 1 × IVec S30x30x5x5 1 × IVec S30 1 × IVec S1x30x3x3 1 × IVec S1 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_v3 : FVec F S30x2x5x5 .f32 := Host.absf main_arg2
  let main_cst_0 : FVec F S_ .f32 := constant S_ .f32 0x7F800000#32
  let main_v4 : FVec F S30x2x5x5 .f32 := broadcastInDim S30x2x5x5 ![] bcast_S_S30x2x5x5 main_cst_0
  let main_v5 : IVec S30x2x5x5 1 := cmpf .olt main_v3 main_v4
  let main_v6 : FVec F S30 .f32 := Host.absf main_arg3
  let main_cst_1 : FVec F S_ .f32 := constant S_ .f32 0x7F800000#32
  let main_v7 : FVec F S30 .f32 := broadcastInDim S30 ![] bcast_S_S30 main_cst_1
  let main_v8 : IVec S30 1 := cmpf .olt main_v6 main_v7
  let main_v9 : FVec F S30x30x5x5 .f32 := Host.absf main_arg4
  let main_cst_2 : FVec F S_ .f32 := constant S_ .f32 0x7F800000#32
  let main_v10 : FVec F S30x30x5x5 .f32 := broadcastInDim S30x30x5x5 ![] bcast_S_S30x30x5x5 main_cst_2
  let main_v11 : IVec S30x30x5x5 1 := cmpf .olt main_v9 main_v10
  let main_v12 : FVec F S30 .f32 := Host.absf main_arg5
  let main_cst_3 : FVec F S_ .f32 := constant S_ .f32 0x7F800000#32
  let main_v13 : FVec F S30 .f32 := broadcastInDim S30 ![] bcast_S_S30 main_cst_3
  let main_v14 : IVec S30 1 := cmpf .olt main_v12 main_v13
  let main_v15 : FVec F S1x30x3x3 .f32 := Host.absf main_arg6
  let main_cst_4 : FVec F S_ .f32 := constant S_ .f32 0x7F800000#32
  let main_v16 : FVec F S1x30x3x3 .f32 := broadcastInDim S1x30x3x3 ![] bcast_S_S1x30x3x3 main_cst_4
  let main_v17 : IVec S1x30x3x3 1 := cmpf .olt main_v15 main_v16
  fn_part1 (F := F) main_arg7 main_v2 main_v5 main_v8 main_v11 main_v14 main_v17
-- ==== Kernel.lean ====
abbrev S4x512x256 : Shape := ⟨3, ![4, 512, 256]⟩
abbrev S4 : Shape := ⟨1, ![4]⟩
abbrev S30x2x5x5 : Shape := ⟨4, ![30, 2, 5, 5]⟩
abbrev S30 : Shape := ⟨1, ![30]⟩
abbrev S30x30x5x5 : Shape := ⟨4, ![30, 30, 5, 5]⟩
abbrev S1x30x3x3 : Shape := ⟨4, ![1, 30, 3, 3]⟩
abbrev S1 : Shape := ⟨1, ![1]⟩
abbrev S256x256 : Shape := ⟨2, ![256, 256]⟩
abbrev S256 : Shape := ⟨1, ![256]⟩
abbrev S4x1 : Shape := ⟨2, ![4, 1]⟩
abbrev S4x512 : Shape := ⟨2, ![4, 512]⟩
abbrev S4x510x256 : Shape := ⟨3, ![4, 510, 256]⟩
abbrev S4x2x256 : Shape := ⟨3, ![4, 2, 256]⟩
abbrev S4x512x1 : Shape := ⟨3, ![4, 512, 1]⟩
abbrev S_ : Shape := ⟨0, ![]⟩
abbrev S4x528x256 : Shape := ⟨3, ![4, 528, 256]⟩
abbrev S4x528 : Shape := ⟨2, ![4, 528]⟩
abbrev S4x528x1 : Shape := ⟨3, ![4, 528, 1]⟩
abbrev S5x8x5x32 : Shape := ⟨4, ![5, 8, 5, 32]⟩
abbrev S5x2x5x30 : Shape := ⟨4, ![5, 2, 5, 30]⟩
abbrev S2 : Shape := ⟨1, ![2]⟩
abbrev S40x160 : Shape := ⟨2, ![40, 160]⟩
abbrev S5x32x5x32 : Shape := ⟨4, ![5, 32, 5, 32]⟩
abbrev S5x30x5x30 : Shape := ⟨4, ![5, 30, 5, 30]⟩
abbrev S160x160 : Shape := ⟨2, ![160, 160]⟩
abbrev S3x32x3x8 : Shape := ⟨4, ![3, 32, 3, 8]⟩
abbrev S3x30x3x1 : Shape := ⟨4, ![3, 30, 3, 1]⟩
abbrev S96x24 : Shape := ⟨2, ![96, 24]⟩
abbrev S30x1 : Shape := ⟨2, ![30, 1]⟩
abbrev S32x1 : Shape := ⟨2, ![32, 1]⟩
abbrev S4x1x512 : Shape := ⟨3, ![4, 1, 512]⟩
abbrev S1x1 : Shape := ⟨2, ![1, 1]⟩
abbrev S4x512x512 : Shape := ⟨3, ![4, 512, 512]⟩
abbrev S4x1x1 : Shape := ⟨3, ![4, 1, 1]⟩
abbrev S1x528x256 : Shape := ⟨3, ![1, 528, 256]⟩
abbrev S1x512x256 : Shape := ⟨3, ![1, 512, 256]⟩
abbrev S1x528x1 : Shape := ⟨3, ![1, 528, 1]⟩
abbrev S1x1x512 : Shape := ⟨3, ![1, 1, 512]⟩
abbrev S1x64x512 : Shape := ⟨3, ![1, 64, 512]⟩
abbrev S1x1x1 : Shape := ⟨3, ![1, 1, 1]⟩
abbrev S1x80x256 : Shape := ⟨3, ![1, 80, 256]⟩
abbrev S80x256 : Shape := ⟨2, ![80, 256]⟩
abbrev S1x80x1 : Shape := ⟨3, ![1, 80, 1]⟩
abbrev S80x1 : Shape := ⟨2, ![80, 1]⟩
abbrev S512x256 : Shape := ⟨2, ![512, 256]⟩
abbrev S1x512 : Shape := ⟨2, ![1, 512]⟩
abbrev S80 : Shape := ⟨1, ![80]⟩
abbrev S80x512 : Shape := ⟨2, ![80, 512]⟩
abbrev S80x128 : Shape := ⟨2, ![80, 128]⟩
abbrev S80x640 : Shape := ⟨2, ![80, 640]⟩
abbrev S1x51200 : Shape := ⟨2, ![1, 51200]⟩
abbrev S6x51200 : Shape := ⟨2, ![6, 51200]⟩
abbrev S8x51200 : Shape := ⟨2, ![8, 51200]⟩
abbrev S1x48640 : Shape := ⟨2, ![1, 48640]⟩
abbrev S8x48640 : Shape := ⟨2, ![8, 48640]⟩
abbrev S40x48640 : Shape := ⟨2, ![40, 48640]⟩
abbrev S160x48640 : Shape := ⟨2, ![160, 48640]⟩
abbrev S32x48640 : Shape := ⟨2, ![32, 48640]⟩
abbrev S32x46080 : Shape := ⟨2, ![32, 46080]⟩
abbrev S160x46080 : Shape := ⟨2, ![160, 46080]⟩
abbrev S1x46080 : Shape := ⟨2, ![1, 46080]⟩
abbrev S32x44800 : Shape := ⟨2, ![32, 44800]⟩
abbrev S96x44800 : Shape := ⟨2, ![96, 44800]⟩
abbrev S24x44800 : Shape := ⟨2, ![24, 44800]⟩
abbrev S8x44800 : Shape := ⟨2, ![8, 44800]⟩
abbrev S1x40960 : Shape := ⟨2, ![1, 40960]⟩
abbrev S64x640 : Shape := ⟨2, ![64, 640]⟩
abbrev S64x512 : Shape := ⟨2, ![64, 512]⟩
abbrev S64 : Shape := ⟨1, ![64]⟩
abbrev S64x1 : Shape := ⟨2, ![64, 1]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 78
  | .vmem => 32
  | .smem => 0
  | _ => 0

abbrev bufTy : (tb : Table) → Fin (tcTables nBuf tb) → BufTy
  | .hbm, ⟨0, _⟩ => ⟨S4x512x256, .f32⟩
  | .hbm, ⟨1, _⟩ => ⟨S4, .i32⟩
  | .hbm, ⟨2, _⟩ => ⟨S30x2x5x5, .f32⟩
  | .hbm, ⟨3, _⟩ => ⟨S30, .f32⟩
  | .hbm, ⟨4, _⟩ => ⟨S30x30x5x5, .f32⟩
  | .hbm, ⟨5, _⟩ => ⟨S30, .f32⟩
  | .hbm, ⟨6, _⟩ => ⟨S1x30x3x3, .f32⟩
  | .hbm, ⟨7, _⟩ => ⟨S1, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S4x1, .i32⟩
  | .hbm, ⟨13, _⟩ => ⟨S4x512x256, .f32⟩
  | .hbm, ⟨14, _⟩ => ⟨S4x512, .f32⟩
  | .hbm, ⟨15, _⟩ => ⟨S4x512, .f32⟩
  | .hbm, ⟨16, _⟩ => ⟨S4x512, .f32⟩
  | .hbm, ⟨17, _⟩ => ⟨S_, .i32⟩
  | .hbm, ⟨18, _⟩ => ⟨S_, .f32⟩
  | .hbm, ⟨19, _⟩ => ⟨S4x528x256, .f32⟩
  | .hbm, ⟨20, _⟩ => ⟨S_, .i32⟩
  | .hbm, ⟨21, _⟩ => ⟨S_, .f32⟩
  | .hbm, ⟨22, _⟩ => ⟨S4x528, .f32⟩
  | .hbm, ⟨23, _⟩ => ⟨S4x528x1, .f32⟩
  | .hbm, ⟨24, _⟩ => ⟨S_, .f32⟩
  | .hbm, ⟨25, _⟩ => ⟨S5x8x5x32, .f32⟩
  | .hbm, ⟨26, _⟩ => ⟨S5x2x5x30, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S5x8x5x32, .f32⟩
  | .hbm, ⟨33, _⟩ => ⟨S40x160, .f32⟩
  | .hbm, ⟨34, _⟩ => ⟨S40x160, .bf16⟩
  | .hbm, ⟨35, _⟩ => ⟨S_, .f32⟩
  | .hbm, ⟨36, _⟩ => ⟨S5x32x5x32, .f32⟩
  | .hbm, ⟨37, _⟩ => ⟨S5x30x5x30, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S5x32x5x32, .f32⟩
  | .hbm, ⟨44, _⟩ => ⟨S160x160, .f32⟩
  | .hbm, ⟨45, _⟩ => ⟨S160x160, .bf16⟩
  | .hbm, ⟨46, _⟩ => ⟨S_, .f32⟩
  | .hbm, ⟨47, _⟩ => ⟨S3x32x3x8, .f32⟩
  | .hbm, ⟨48, _⟩ => ⟨S3x30x3x1, .f32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S2, .i32⟩
  | .hbm, ⟨54, _⟩ => ⟨S3x32x3x8, .f32⟩
  | .hbm, ⟨55, _⟩ => ⟨S96x24, .f32⟩
  | .hbm, ⟨56, _⟩ => ⟨S96x24, .bf16⟩
  | .hbm, ⟨57, _⟩ => ⟨S30x1, .f32⟩
  | .hbm, ⟨58, _⟩ => ⟨S_, .i32⟩
  | .hbm, ⟨59, _⟩ => ⟨S_, .f32⟩
  | .hbm, ⟨60, _⟩ => ⟨S32x1, .f32⟩
  | .hbm, ⟨61, _⟩ => ⟨S30x1, .f32⟩
  | .hbm, ⟨62, _⟩ => ⟨S_, .i32⟩
  | .hbm, ⟨63, _⟩ => ⟨S_, .f32⟩
  | .hbm, ⟨64, _⟩ => ⟨S32x1, .f32⟩
  | .hbm, ⟨65, _⟩ => ⟨S4x1x512, .f32⟩
  | .hbm, ⟨66, _⟩ => ⟨S4x1x512, .f32⟩
  | .hbm, ⟨67, _⟩ => ⟨S1x1, .f32⟩
  | .hbm, ⟨68, _⟩ => ⟨S4x512x512, .f32⟩
  | .hbm, ⟨69, _⟩ => ⟨S4x1x1, .f32⟩
  | .hbm, ⟨70, _⟩ => ⟨S256x256, .f32⟩
  | .hbm, ⟨71, _⟩ => ⟨S256x256, .bf16⟩
  | .hbm, ⟨72, _⟩ => ⟨S1x256, .f32⟩
  | .hbm, ⟨73, _⟩ => ⟨S256x256, .f32⟩
  | .hbm, ⟨74, _⟩ => ⟨S256x256, .bf16⟩
  | .hbm, ⟨75, _⟩ => ⟨S1x256, .f32⟩
  | .hbm, ⟨76, _⟩ => ⟨S4x512x256, .f32⟩
  | .hbm, ⟨77, _⟩ => ⟨S4, .f32⟩
  | .local _ .vmem, ⟨0, _⟩ => ⟨S4x512x256, .f32⟩
  | .local _ .vmem, ⟨1, _⟩ => ⟨S4x1, .i32⟩
  | .local _ .vmem, ⟨2, _⟩ => ⟨S4x512x256, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S1x528x256, .f32⟩
  | .local _ .vmem, ⟨7, _⟩ => ⟨S1x528x256, .f32⟩
  | .local _ .vmem, ⟨8, _⟩ => ⟨S1x512x256, .f32⟩
  | .local _ .vmem, ⟨9, _⟩ => ⟨S1x512x256, .f32⟩
  | .local _ .vmem, ⟨10, _⟩ => ⟨S1x528x1, .f32⟩
  | .local _ .vmem, ⟨11, _⟩ => ⟨S1x528x1, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S40x160, .bf16⟩
  | .local _ .vmem, ⟨17, _⟩ => ⟨S32x1, .f32⟩
  | .local _ .vmem, ⟨18, _⟩ => ⟨S160x160, .bf16⟩
  | .local _ .vmem, ⟨19, _⟩ => ⟨S32x1, .f32⟩
  | .local _ .vmem, ⟨20, _⟩ => ⟨S96x24, .bf16⟩
  | .local _ .vmem, ⟨21, _⟩ => ⟨S1x1, .f32⟩
  | .local _ .vmem, ⟨22, _⟩ => ⟨S1x64x512, .f32⟩
  | .local _ .vmem, ⟨23, _⟩ => ⟨S1x64x512, .f32⟩
  | .local _ .vmem, ⟨24, _⟩ => ⟨S1x1x1, .f32⟩
  | .local _ .vmem, ⟨25, _⟩ => ⟨S1x1x1, .f32⟩
  | .local _ .vmem, ⟨26, _⟩ => ⟨S4x512x256, .f32⟩
  | .local _ .vmem, ⟨27, _⟩ => ⟨S256x256, .bf16⟩
  | .local _ .vmem, ⟨28, _⟩ => ⟨S1x256, .f32⟩
  | .local _ .vmem, ⟨29, _⟩ => ⟨S256x256, .bf16⟩
  | .local _ .vmem, ⟨30, _⟩ => ⟨S1x256, .f32⟩
  | .local _ .vmem, ⟨31, _⟩ => ⟨S4x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_c_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_c_4 : Ref sig .tc := ⟨.hbm, 38, rfl⟩
abbrev main_v15 : Ref sig .tc := ⟨.hbm, 39, rfl⟩
abbrev main_c_5 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_6 : Ref sig .tc := ⟨.hbm, 46, rfl⟩
abbrev main_v21 : Ref sig .tc := ⟨.hbm, 47, rfl⟩
abbrev main_v22 : Ref sig .tc := ⟨.hbm, 48, rfl⟩
abbrev main_c_7 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_9 : Ref sig .tc := ⟨.hbm, 58, rfl⟩
abbrev main_call2_v0 : Ref sig .tc := ⟨.hbm, 59, rfl⟩
abbrev main_v30 : Ref sig .tc := ⟨.hbm, 60, rfl⟩
abbrev main_v31 : Ref sig .tc := ⟨.hbm, 61, rfl⟩
abbrev main_c_10 : Ref sig .tc := ⟨.hbm, 62, rfl⟩
abbrev main_call3_v0 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36_0 : Ref sig .tc := ⟨.hbm, 68, rfl⟩
abbrev main_v36_1 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23
abbrev cc1_sem12_0 : DmaSem sig := 24
abbrev cc1_sem12_1 : DmaSem sig := 25
abbrev cc2_sem0_0 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31

abbrev nD : Nat := 1
abbrev τ : Topo := Topo.v7x

variable {F : FTy → Type} [FloatOps F]

abbrev grid0 : Pipeline.Grid := .none

abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![4, 8], ![false, false]⟩

def k1_off1 (i : grid1.Coords) : Fin 3 → Nat :=
  let c0 : Index := 0#32
  let arg1 : BitVec 32 := BitVec.ofNat 32 (i 1).val
  let c64_i32 : BitVec 32 := 64#32
  let v0 : BitVec 32 := Scalar.muli arg1 c64_i32
  let v1 : Index := Scalar.indexCast v0
  let c0_0 : Index := 0#32
  ![0, v1.toNat, 0]
def k1_off2 (i : grid1.Coords) : Fin 3 → Nat :=
  let c0_2 : Index := 0#32
  let arg1 : BitVec 32 := BitVec.ofNat 32 (i 1).val
  let c64_i32_1 : BitVec 32 := 64#32
  let v4 : BitVec 32 := Scalar.muli arg1 c64_i32_1
  let v5 : Index := Scalar.indexCast v4
  let c0_3 : Index := 0#32
  ![0, v5.toNat, 0]
def k1_cond1 (i : grid1.Coords) : BitVec 1 :=
  let arg1 : BitVec 32 := BitVec.ofNat 32 (i 1).val
  let c0_i32_51 : BitVec 32 := 0#32
  let v183 : BitVec 1 := Scalar.cmpi .eq arg1 c0_i32_51
  let v184 : BitVec 32 := Scalar.extui v183
  let c0_i32_52 : BitVec 32 := 0#32
  let v185 : BitVec 1 := Scalar.cmpi .ne v184 c0_i32_52
  v185

def k1_cond2 (i : grid1.Coords) : BitVec 1 :=
  let arg1 : BitVec 32 := BitVec.ofNat 32 (i 1).val
  let c0_i32_53 : BitVec 32 := 0#32
  let v186 : BitVec 1 := Scalar.cmpi .ne arg1 c0_i32_53
  let v187 : BitVec 32 := Scalar.extui v186
  let c0_i32_54 : BitVec 32 := 0#32
  let v188 : BitVec 1 := Scalar.cmpi .ne v187 c0_i32_54
  v188

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x528x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x528x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S40x160 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S160x160 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S32x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S96x24 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1x64x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev grid2 : Pipeline.Grid := .none

abbrev stage2_0 : Fin 1 → Memref sig .tc .vmem S4x512x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S4x512x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
-- ==== ReferenceIdeal.lean ====
abbrev S4x512x256 : Shape := ⟨3, ![4, 512, 256]⟩
abbrev S4 : Shape := ⟨1, ![4]⟩
abbrev S30x2x5x5 : Shape := ⟨4, ![30, 2, 5, 5]⟩
abbrev S30 : Shape := ⟨1, ![30]⟩
abbrev S30x30x5x5 : Shape := ⟨4, ![30, 30, 5, 5]⟩
abbrev S1x30x3x3 : Shape := ⟨4, ![1, 30, 3, 3]⟩
abbrev S1 : Shape := ⟨1, ![1]⟩
abbrev S256x256 : Shape := ⟨2, ![256, 256]⟩
abbrev S256 : Shape := ⟨1, ![256]⟩
abbrev S_ : Shape := ⟨0, ![]⟩
abbrev S512 : Shape := ⟨1, ![512]⟩
abbrev S1x512 : Shape := ⟨2, ![1, 512]⟩
abbrev S4x1 : Shape := ⟨2, ![4, 1]⟩
abbrev S4x512 : Shape := ⟨2, ![4, 512]⟩
abbrev S4x510x256 : Shape := ⟨3, ![4, 510, 256]⟩
abbrev S4x512x1 : Shape := ⟨3, ![4, 512, 1]⟩
abbrev S4x1x512 : Shape := ⟨3, ![4, 1, 512]⟩
abbrev S4x512x512 : Shape := ⟨3, ![4, 512, 512]⟩
abbrev S4x1x512x512 : Shape := ⟨4, ![4, 1, 512, 512]⟩
abbrev S4x2x512x512 : Shape := ⟨4, ![4, 2, 512, 512]⟩
abbrev S4x2x516x516 : Shape := ⟨4, ![4, 2, 516, 516]⟩
abbrev S30x2x1x1 : Shape := ⟨4, ![30, 2, 1, 1]⟩
abbrev S30x2 : Shape := ⟨2, ![30, 2]⟩
abbrev S4x512x512x30 : Shape := ⟨4, ![4, 512, 512, 30]⟩
abbrev S4x30x512x512 : Shape := ⟨4, ![4, 30, 512, 512]⟩
abbrev S1x30x1x1 : Shape := ⟨4, ![1, 30, 1, 1]⟩
abbrev S4x30x516x516 : Shape := ⟨4, ![4, 30, 516, 516]⟩
abbrev S30x30x1x1 : Shape := ⟨4, ![30, 30, 1, 1]⟩
abbrev S30x30 : Shape := ⟨2, ![30, 30]⟩
abbrev S4x30x514x514 : Shape := ⟨4, ![4, 30, 514, 514]⟩
abbrev S1x30 : Shape := ⟨2, ![1, 30]⟩
abbrev S4x512x512x1 : Shape := ⟨4, ![4, 512, 512, 1]⟩
abbrev S1x1x1x1 : Shape := ⟨4, ![1, 1, 1, 1]⟩
abbrev S4x262144 : Shape := ⟨2, ![4, 262144]⟩
abbrev S2048x256 : Shape := ⟨2, ![2048, 256]⟩
abbrev S1x256 : Shape := ⟨2, ![1, 256]⟩
abbrev S2048 : Shape := ⟨1, ![2048]⟩
abbrev S2048x1 : Shape := ⟨2, ![2048, 1]⟩

abbrev nBuf : Space → Nat
  | .hbm => 539
  | .vmem => 0
  | .smem => 0
  | _ => 0

abbrev hbmTy0_0 (i : Nat) : BufTy := match i % 128 with
  | 0 => ⟨S4x512x256, .f32⟩
  | 1 => ⟨S4, .i32⟩
  | 2 => ⟨S30x2x5x5, .f32⟩
  | 3 => ⟨S30, .f32⟩
  | 4 => ⟨S30x30x5x5, .f32⟩
  | 5 => ⟨S30, .f32⟩
  | 6 => ⟨S1x30x3x3, .f32⟩
  | 7 => ⟨S1, .f32⟩
  | 8 => ⟨S256x256, .f32⟩
  | 9 => ⟨S256, .f32⟩
  | 10 => ⟨S256x256, .f32⟩
  | 11 => ⟨S256, .f32⟩
  | 12 => ⟨S_, .i32⟩
  | 13 => ⟨S_, .i32⟩
  | 14 => ⟨S_, .i32⟩
  | 15 => ⟨S4, .i32⟩
  | 16 => ⟨S4, .i32⟩
  | 17 => ⟨S_, .i32⟩
  | 18 => ⟨S4, .i32⟩
  | 19 => ⟨S4, .i32⟩
  | 20 => ⟨S4, .f32⟩
  | 21 => ⟨S512, .f32⟩
  | 22 => ⟨S1x512, .f32⟩
  | 23 => ⟨S4x1, .f32⟩
  | 24 => ⟨S4x512, .f32⟩
  | 25 => ⟨S4x512, .f32⟩
  | 26 => ⟨S4x512, .i1⟩
  | 27 => ⟨S4x512, .f32⟩
  | 28 => ⟨S1x512, .f32⟩
  | 29 => ⟨S_, .f32⟩
  | 30 => ⟨S1x512, .f32⟩
  | 31 => ⟨S1x512, .f32⟩
  | 32 => ⟨S4x1, .f32⟩
  | 33 => ⟨S4x512, .f32⟩
  | 34 => ⟨S4x512, .f32⟩
  | 35 => ⟨S4x512, .f32⟩
  | 36 => ⟨S4x512, .f32⟩
  | 37 => ⟨S4x510x256, .f32⟩
  | 38 => ⟨S_, .f32⟩
  | 39 => ⟨S4x510x256, .f32⟩
  | 40 => ⟨S4x510x256, .f32⟩
  | 41 => ⟨S4x510x256, .f32⟩
  | 42 => ⟨S_, .f32⟩
  | 43 => ⟨S4x510x256, .f32⟩
  | 44 => ⟨S4x510x256, .f32⟩
  | 45 => ⟨S4x510x256, .f32⟩
  | 46 => ⟨S4x510x256, .f32⟩
  | 47 => ⟨S_, .f32⟩
  | 48 => ⟨S4x510x256, .f32⟩
  | 49 => ⟨S4x510x256, .f32⟩
  | 50 => ⟨S4x510x256, .f32⟩
  | 51 => ⟨S_, .i32⟩
  | 52 => ⟨S_, .f32⟩
  | 53 => ⟨S4x512x256, .f32⟩
  | 54 => ⟨S_, .f32⟩
  | 55 => ⟨S4, .f32⟩
  | 56 => ⟨S4, .f32⟩
  | 57 => ⟨S1x512, .f32⟩
  | 58 => ⟨S4x1, .f32⟩
  | 59 => ⟨S4x512, .f32⟩
  | 60 => ⟨S4x512, .f32⟩
  | 61 => ⟨S4x512, .i1⟩
  | 62 => ⟨S4x512, .f32⟩
  | 63 => ⟨S4x512x1, .f32⟩
  | 64 => ⟨S4x512x256, .f32⟩
  | 65 => ⟨S4x512x256, .f32⟩
  | 66 => ⟨S1x512, .f32⟩
  | 67 => ⟨S_, .f32⟩
  | 68 => ⟨S1x512, .f32⟩
  | 69 => ⟨S1x512, .f32⟩
  | 70 => ⟨S4x1, .f32⟩
  | 71 => ⟨S4x512, .f32⟩
  | 72 => ⟨S4x512, .f32⟩
  | 73 => ⟨S4x512, .f32⟩
  | 74 => ⟨S4x512, .f32⟩
  | 75 => ⟨S4x512x256, .f32⟩
  | 76 => ⟨S_, .f32⟩
  | 77 => ⟨S4x512, .f32⟩
  | 78 => ⟨S4x512x1, .f32⟩
  | 79 => ⟨S4x512x256, .f32⟩
  | 80 => ⟨S_, .f32⟩
  | 81 => ⟨S4x512, .f32⟩
  | 82 => ⟨S4x1x512, .f32⟩
  | 83 => ⟨S4x512x512, .f32⟩
  | 84 => ⟨S4x512x512, .f32⟩
  | 85 => ⟨S4x512x512, .f32⟩
  | 86 => ⟨S4x512x512, .f32⟩
  | 87 => ⟨S_, .f32⟩
  | 88 => ⟨S4x512x512, .f32⟩
  | 89 => ⟨S4x512x512, .f32⟩
  | 90 => ⟨S4x512x512, .f32⟩
  | 91 => ⟨S_, .f32⟩
  | 92 => ⟨S4x512x512, .f32⟩
  | 93 => ⟨S4x512x512, .f32⟩
  | 94 => ⟨S4x512x512, .f32⟩
  | 95 => ⟨S4x512x1, .f32⟩
  | 96 => ⟨S4x1x512, .f32⟩
  | 97 => ⟨S4x512x512, .f32⟩
  | 98 => ⟨S4x512x512, .f32⟩
  | 99 => ⟨S4x512x512, .f32⟩
  | 100 => ⟨S4x512x512, .f32⟩
  | 101 => ⟨S4x1x512x512, .f32⟩
  | 102 => ⟨S4x1x512x512, .f32⟩
  | 103 => ⟨S4x2x512x512, .f32⟩
  | 104 => ⟨S_, .i32⟩
  | 105 => ⟨S_, .f32⟩
  | 106 => ⟨S4x2x516x516, .f32⟩
  | 107 => ⟨S30x2x1x1, .f32⟩
  | 108 => ⟨S30x2, .f32⟩
  | 109 => ⟨S4x2x512x512, .f32⟩
  | 110 => ⟨S4x512x512x30, .f32⟩
  | 111 => ⟨S4x30x512x512, .f32⟩
  | 112 => ⟨S_, .f32⟩
  | 113 => ⟨S4x30x512x512, .f32⟩
  | 114 => ⟨S4x30x512x512, .f32⟩
  | 115 => ⟨S30x2x1x1, .f32⟩
  | 116 => ⟨S30x2, .f32⟩
  | 117 => ⟨S4x2x512x512, .f32⟩
  | 118 => ⟨S4x512x512x30, .f32⟩
  | 119 => ⟨S4x30x512x512, .f32⟩
  | 120 => ⟨S4x30x512x512, .f32⟩
  | 121 => ⟨S30x2x1x1, .f32⟩
  | 122 => ⟨S30x2, .f32⟩
  | 123 => ⟨S4x2x512x512, .f32⟩
  | 124 => ⟨S4x512x512x30, .f32⟩
  | 125 => ⟨S4x30x512x512, .f32⟩
  | 126 => ⟨S4x30x512x512, .f32⟩
  | 127 => ⟨S30x2x1x1, .f32⟩
  | _ => ⟨S4x512x256, .f32⟩

abbrev hbmTy0_1 (i : Nat) : BufTy := match i % 128 with
  | 0 => ⟨S30x2, .f32⟩
  | 1 => ⟨S4x2x512x512, .f32⟩
  | 2 => ⟨S4x512x512x30, .f32⟩
  | 3 => ⟨S4x30x512x512, .f32⟩
  | 4 => ⟨S4x30x512x512, .f32⟩
  | 5 => ⟨S30x2x1x1, .f32⟩
  | 6 => ⟨S30x2, .f32⟩
  | 7 => ⟨S4x2x512x512, .f32⟩
  | 8 => ⟨S4x512x512x30, .f32⟩
  | 9 => ⟨S4x30x512x512, .f32⟩
  | 10 => ⟨S4x30x512x512, .f32⟩
  | 11 => ⟨S30x2x1x1, .f32⟩
  | 12 => ⟨S30x2, .f32⟩
  | 13 => ⟨S4x2x512x512, .f32⟩
  | 14 => ⟨S4x512x512x30, .f32⟩
  | 15 => ⟨S4x30x512x512, .f32⟩
  | 16 => ⟨S4x30x512x512, .f32⟩
  | 17 => ⟨S30x2x1x1, .f32⟩
  | 18 => ⟨S30x2, .f32⟩
  | 19 => ⟨S4x2x512x512, .f32⟩
  | 20 => ⟨S4x512x512x30, .f32⟩
  | 21 => ⟨S4x30x512x512, .f32⟩
  | 22 => ⟨S4x30x512x512, .f32⟩
  | 23 => ⟨S30x2x1x1, .f32⟩
  | 24 => ⟨S30x2, .f32⟩
  | 25 => ⟨S4x2x512x512, .f32⟩
  | 26 => ⟨S4x512x512x30, .f32⟩
  | 27 => ⟨S4x30x512x512, .f32⟩
  | 28 => ⟨S4x30x512x512, .f32⟩
  | 29 => ⟨S30x2x1x1, .f32⟩
  | 30 => ⟨S30x2, .f32⟩
  | 31 => ⟨S4x2x512x512, .f32⟩
  | 32 => ⟨S4x512x512x30, .f32⟩
  | 33 => ⟨S4x30x512x512, .f32⟩
  | 34 => ⟨S4x30x512x512, .f32⟩
  | 35 => ⟨S30x2x1x1, .f32⟩
  | 36 => ⟨S30x2, .f32⟩
  | 37 => ⟨S4x2x512x512, .f32⟩
  | 38 => ⟨S4x512x512x30, .f32⟩
  | 39 => ⟨S4x30x512x512, .f32⟩
  | 40 => ⟨S4x30x512x512, .f32⟩
  | 41 => ⟨S30x2x1x1, .f32⟩
  | 42 => ⟨S30x2, .f32⟩
  | 43 => ⟨S4x2x512x512, .f32⟩
  | 44 => ⟨S4x512x512x30, .f32⟩
  | 45 => ⟨S4x30x512x512, .f32⟩
  | 46 => ⟨S4x30x512x512, .f32⟩
  | 47 => ⟨S30x2x1x1, .f32⟩
  | 48 => ⟨S30x2, .f32⟩
  | 49 => ⟨S4x2x512x512, .f32⟩
  | 50 => ⟨S4x512x512x30, .f32⟩
  | 51 => ⟨S4x30x512x512, .f32⟩
  | 52 => ⟨S4x30x512x512, .f32⟩
  | 53 => ⟨S30x2x1x1, .f32⟩
  | 54 => ⟨S30x2, .f32⟩
  | 55 => ⟨S4x2x512x512, .f32⟩
  | 56 => ⟨S4x512x512x30, .f32⟩
  | 57 => ⟨S4x30x512x512, .f32⟩
  | 58 => ⟨S4x30x512x512, .f32⟩
  | 59 => ⟨S30x2x1x1, .f32⟩
  | 60 => ⟨S30x2, .f32⟩
  | 61 => ⟨S4x2x512x512, .f32⟩
  | 62 => ⟨S4x512x512x30, .f32⟩
  | 63 => ⟨S4x30x512x512, .f32⟩
  | 64 => ⟨S4x30x512x512, .f32⟩
  | 65 => ⟨S30x2x1x1, .f32⟩
  | 66 => ⟨S30x2, .f32⟩
  | 67 => ⟨S4x2x512x512, .f32⟩
  | 68 => ⟨S4x512x512x30, .f32⟩
  | 69 => ⟨S4x30x512x512, .f32⟩
  | 70 => ⟨S4x30x512x512, .f32⟩
  | 71 => ⟨S30x2x1x1, .f32⟩
  | 72 => ⟨S30x2, .f32⟩
  | 73 => ⟨S4x2x512x512, .f32⟩
  | 74 => ⟨S4x512x512x30, .f32⟩
  | 75 => ⟨S4x30x512x512, .f32⟩
  | 76 => ⟨S4x30x512x512, .f32⟩
  | 77 => ⟨S30x2x1x1, .f32⟩
  | 78 => ⟨S30x2, .f32⟩
  | 79 => ⟨S4x2x512x512, .f32⟩
  | 80 => ⟨S4x512x512x30, .f32⟩
  | 81 => ⟨S4x30x512x512, .f32⟩
  | 82 => ⟨S4x30x512x512, .f32⟩
  | 83 => ⟨S30x2x1x1, .f32⟩
  | 84 => ⟨S30x2, .f32⟩
  | 85 => ⟨S4x2x512x512, .f32⟩
  | 86 => ⟨S4x512x512x30, .f32⟩
  | 87 => ⟨S4x30x512x512, .f32⟩
  | 88 => ⟨S4x30x512x512, .f32⟩
  | 89 => ⟨S30x2x1x1, .f32⟩
  | 90 => ⟨S30x2, .f32⟩
  | 91 => ⟨S4x2x512x512, .f32⟩
  | 92 => ⟨S4x512x512x30, .f32⟩
  | 93 => ⟨S4x30x512x512, .f32⟩
  | 94 => ⟨S4x30x512x512, .f32⟩
  | 95 => ⟨S30x2x1x1, .f32⟩
  | 96 => ⟨S30x2, .f32⟩
  | 97 => ⟨S4x2x512x512, .f32⟩
  | 98 => ⟨S4x512x512x30, .f32⟩
  | 99 => ⟨S4x30x512x512, .f32⟩
  | 100 => ⟨S4x30x512x512, .f32⟩
  | 101 => ⟨S30x2x1x1, .f32⟩
  | 102 => ⟨S30x2, .f32⟩
  | 103 => ⟨S4x2x512x512, .f32⟩
  | 104 => ⟨S4x512x512x30, .f32⟩
  | 105 => ⟨S4x30x512x512, .f32⟩
  | 106 => ⟨S4x30x512x512, .f32⟩
  | 107 => ⟨S30x2x1x1, .f32⟩
  | 108 => ⟨S30x2, .f32⟩
  | 109 => ⟨S4x2x512x512, .f32⟩
  | 110 => ⟨S4x512x512x30, .f32⟩
  | 111 => ⟨S4x30x512x512, .f32⟩
  | 112 => ⟨S4x30x512x512, .f32⟩
  | 113 => ⟨S30x2x1x1, .f32⟩
  | 114 => ⟨S30x2, .f32⟩
  | 115 => ⟨S4x2x512x512, .f32⟩
  | 116 => ⟨S4x512x512x30, .f32⟩
  | 117 => ⟨S4x30x512x512, .f32⟩
  | 118 => ⟨S4x30x512x512, .f32⟩
  | 119 => ⟨S30x2x1x1, .f32⟩
  | 120 => ⟨S30x2, .f32⟩
  | 121 => ⟨S4x2x512x512, .f32⟩
  | 122 => ⟨S4x512x512x30, .f32⟩
  | 123 => ⟨S4x30x512x512, .f32⟩
  | 124 => ⟨S4x30x512x512, .f32⟩
  | 125 => ⟨S30x2x1x1, .f32⟩
  | 126 => ⟨S30x2, .f32⟩
  | 127 => ⟨S4x2x512x512, .f32⟩
  | _ => ⟨S4x512x256, .f32⟩

abbrev hbmTy0_2 (i : Nat) : BufTy := match i % 128 with
  | 0 => ⟨S4x512x512x30, .f32⟩
  | 1 => ⟨S4x30x512x512, .f32⟩
  | 2 => ⟨S4x30x512x512, .f32⟩
  | 3 => ⟨S1x30x1x1, .f32⟩
  | 4 => ⟨S4x30x512x512, .f32⟩
  | 5 => ⟨S4x30x512x512, .f32⟩
  | 6 => ⟨S_, .f32⟩
  | 7 => ⟨S4x30x512x512, .f32⟩
  | 8 => ⟨S4x30x512x512, .f32⟩
  | 9 => ⟨S_, .i32⟩
  | 10 => ⟨S_, .f32⟩
  | 11 => ⟨S4x30x516x516, .f32⟩
  | 12 => ⟨S30x30x1x1, .f32⟩
  | 13 => ⟨S30x30, .f32⟩
  | 14 => ⟨S4x30x512x512, .f32⟩
  | 15 => ⟨S4x512x512x30, .f32⟩
  | 16 => ⟨S4x30x512x512, .f32⟩
  | 17 => ⟨S_, .f32⟩
  | 18 => ⟨S4x30x512x512, .f32⟩
  | 19 => ⟨S4x30x512x512, .f32⟩
  | 20 => ⟨S30x30x1x1, .f32⟩
  | 21 => ⟨S30x30, .f32⟩
  | 22 => ⟨S4x30x512x512, .f32⟩
  | 23 => ⟨S4x512x512x30, .f32⟩
  | 24 => ⟨S4x30x512x512, .f32⟩
  | 25 => ⟨S4x30x512x512, .f32⟩
  | 26 => ⟨S30x30x1x1, .f32⟩
  | 27 => ⟨S30x30, .f32⟩
  | 28 => ⟨S4x30x512x512, .f32⟩
  | 29 => ⟨S4x512x512x30, .f32⟩
  | 30 => ⟨S4x30x512x512, .f32⟩
  | 31 => ⟨S4x30x512x512, .f32⟩
  | 32 => ⟨S30x30x1x1, .f32⟩
  | 33 => ⟨S30x30, .f32⟩
  | 34 => ⟨S4x30x512x512, .f32⟩
  | 35 => ⟨S4x512x512x30, .f32⟩
  | 36 => ⟨S4x30x512x512, .f32⟩
  | 37 => ⟨S4x30x512x512, .f32⟩
  | 38 => ⟨S30x30x1x1, .f32⟩
  | 39 => ⟨S30x30, .f32⟩
  | 40 => ⟨S4x30x512x512, .f32⟩
  | 41 => ⟨S4x512x512x30, .f32⟩
  | 42 => ⟨S4x30x512x512, .f32⟩
  | 43 => ⟨S4x30x512x512, .f32⟩
  | 44 => ⟨S30x30x1x1, .f32⟩
  | 45 => ⟨S30x30, .f32⟩
  | 46 => ⟨S4x30x512x512, .f32⟩
  | 47 => ⟨S4x512x512x30, .f32⟩
  | 48 => ⟨S4x30x512x512, .f32⟩
  | 49 => ⟨S4x30x512x512, .f32⟩
  | 50 => ⟨S30x30x1x1, .f32⟩
  | 51 => ⟨S30x30, .f32⟩
  | 52 => ⟨S4x30x512x512, .f32⟩
  | 53 => ⟨S4x512x512x30, .f32⟩
  | 54 => ⟨S4x30x512x512, .f32⟩
  | 55 => ⟨S4x30x512x512, .f32⟩
  | 56 => ⟨S30x30x1x1, .f32⟩
  | 57 => ⟨S30x30, .f32⟩
  | 58 => ⟨S4x30x512x512, .f32⟩
  | 59 => ⟨S4x512x512x30, .f32⟩
  | 60 => ⟨S4x30x512x512, .f32⟩
  | 61 => ⟨S4x30x512x512, .f32⟩
  | 62 => ⟨S30x30x1x1, .f32⟩
  | 63 => ⟨S30x30, .f32⟩
  | 64 => ⟨S4x30x512x512, .f32⟩
  | 65 => ⟨S4x512x512x30, .f32⟩
  | 66 => ⟨S4x30x512x512, .f32⟩
  | 67 => ⟨S4x30x512x512, .f32⟩
  | 68 => ⟨S30x30x1x1, .f32⟩
  | 69 => ⟨S30x30, .f32⟩
  | 70 => ⟨S4x30x512x512, .f32⟩
  | 71 => ⟨S4x512x512x30, .f32⟩
  | 72 => ⟨S4x30x512x512, .f32⟩
  | 73 => ⟨S4x30x512x512, .f32⟩
  | 74 => ⟨S30x30x1x1, .f32⟩
  | 75 => ⟨S30x30, .f32⟩
  | 76 => ⟨S4x30x512x512, .f32⟩
  | 77 => ⟨S4x512x512x30, .f32⟩
  | 78 => ⟨S4x30x512x512, .f32⟩
  | 79 => ⟨S4x30x512x512, .f32⟩
  | 80 => ⟨S30x30x1x1, .f32⟩
  | 81 => ⟨S30x30, .f32⟩
  | 82 => ⟨S4x30x512x512, .f32⟩
  | 83 => ⟨S4x512x512x30, .f32⟩
  | 84 => ⟨S4x30x512x512, .f32⟩
  | 85 => ⟨S4x30x512x512, .f32⟩
  | 86 => ⟨S30x30x1x1, .f32⟩
  | 87 => ⟨S30x30, .f32⟩
  | 88 => ⟨S4x30x512x512, .f32⟩
  | 89 => ⟨S4x512x512x30, .f32⟩
  | 90 => ⟨S4x30x512x512, .f32⟩
  | 91 => ⟨S4x30x512x512, .f32⟩
  | 92 => ⟨S30x30x1x1, .f32⟩
  | 93 => ⟨S30x30, .f32⟩
  | 94 => ⟨S4x30x512x512, .f32⟩
  | 95 => ⟨S4x512x512x30, .f32⟩
  | 96 => ⟨S4x30x512x512, .f32⟩
  | 97 => ⟨S4x30x512x512, .f32⟩
  | 98 => ⟨S30x30x1x1, .f32⟩
  | 99 => ⟨S30x30, .f32⟩
  | 100 => ⟨S4x30x512x512, .f32⟩
  | 101 => ⟨S4x512x512x30, .f32⟩
  | 102 => ⟨S4x30x512x512, .f32⟩
  | 103 => ⟨S4x30x512x512, .f32⟩
  | 104 => ⟨S30x30x1x1, .f32⟩
  | 105 => ⟨S30x30, .f32⟩
  | 106 => ⟨S4x30x512x512, .f32⟩
  | 107 => ⟨S4x512x512x30, .f32⟩
  | 108 => ⟨S4x30x512x512, .f32⟩
  | 109 => ⟨S4x30x512x512, .f32⟩
  | 110 => ⟨S30x30x1x1, .f32⟩
  | 111 => ⟨S30x30, .f32⟩
  | 112 => ⟨S4x30x512x512, .f32⟩
  | 113 => ⟨S4x512x512x30, .f32⟩
  | 114 => ⟨S4x30x512x512, .f32⟩
  | 115 => ⟨S4x30x512x512, .f32⟩
  | 116 => ⟨S30x30x1x1, .f32⟩
  | 117 => ⟨S30x30, .f32⟩
  | 118 => ⟨S4x30x512x512, .f32⟩
  | 119 => ⟨S4x512x512x30, .f32⟩
  | 120 => ⟨S4x30x512x512, .f32⟩
  | 121 => ⟨S4x30x512x512, .f32⟩
  | 122 => ⟨S30x30x1x1, .f32⟩
  | 123 => ⟨S30x30, .f32⟩
  | 124 => ⟨S4x30x512x512, .f32⟩
  | 125 => ⟨S4x512x512x30, .f32⟩
  | 126 => ⟨S4x30x512x512, .f32⟩
  | 127 => ⟨S4x30x512x512, .f32⟩
  | _ => ⟨S4x512x256, .f32⟩

abbrev hbmTy0_3 (i : Nat) : BufTy := match i % 128 with
  | 0 => ⟨S30x30x1x1, .f32⟩
  | 1 => ⟨S30x30, .f32⟩
  | 2 => ⟨S4x30x512x512, .f32⟩
  | 3 => ⟨S4x512x512x30, .f32⟩
  | 4 => ⟨S4x30x512x512, .f32⟩
  | 5 => ⟨S4x30x512x512, .f32⟩
  | 6 => ⟨S30x30x1x1, .f32⟩
  | 7 => ⟨S30x30, .f32⟩
  | 8 => ⟨S4x30x512x512, .f32⟩
  | 9 => ⟨S4x512x512x30, .f32⟩
  | 10 => ⟨S4x30x512x512, .f32⟩
  | 11 => ⟨S4x30x512x512, .f32⟩
  | 12 => ⟨S30x30x1x1, .f32⟩
  | 13 => ⟨S30x30, .f32⟩
  | 14 => ⟨S4x30x512x512, .f32⟩
  | 15 => ⟨S4x512x512x30, .f32⟩
  | 16 => ⟨S4x30x512x512, .f32⟩
  | 17 => ⟨S4x30x512x512, .f32⟩
  | 18 => ⟨S30x30x1x1, .f32⟩
  | 19 => ⟨S30x30, .f32⟩
  | 20 => ⟨S4x30x512x512, .f32⟩
  | 21 => ⟨S4x512x512x30, .f32⟩
  | 22 => ⟨S4x30x512x512, .f32⟩
  | 23 => ⟨S4x30x512x512, .f32⟩
  | 24 => ⟨S30x30x1x1, .f32⟩
  | 25 => ⟨S30x30, .f32⟩
  | 26 => ⟨S4x30x512x512, .f32⟩
  | 27 => ⟨S4x512x512x30, .f32⟩
  | 28 => ⟨S4x30x512x512, .f32⟩
  | 29 => ⟨S4x30x512x512, .f32⟩
  | 30 => ⟨S30x30x1x1, .f32⟩
  | 31 => ⟨S30x30, .f32⟩
  | 32 => ⟨S4x30x512x512, .f32⟩
  | 33 => ⟨S4x512x512x30, .f32⟩
  | 34 => ⟨S4x30x512x512, .f32⟩
  | 35 => ⟨S4x30x512x512, .f32⟩
  | 36 => ⟨S1x30x1x1, .f32⟩
  | 37 => ⟨S4x30x512x512, .f32⟩
  | 38 => ⟨S4x30x512x512, .f32⟩
  | 39 => ⟨S_, .f32⟩
  | 40 => ⟨S4x30x512x512, .f32⟩
  | 41 => ⟨S4x30x512x512, .f32⟩
  | 42 => ⟨S_, .i32⟩
  | 43 => ⟨S_, .f32⟩
  | 44 => ⟨S4x30x514x514, .f32⟩
  | 45 => ⟨S1x30x1x1, .f32⟩
  | 46 => ⟨S1x30, .f32⟩
  | 47 => ⟨S4x30x512x512, .f32⟩
  | 48 => ⟨S4x512x512x1, .f32⟩
  | 49 => ⟨S4x1x512x512, .f32⟩
  | 50 => ⟨S_, .f32⟩
  | 51 => ⟨S4x1x512x512, .f32⟩
  | 52 => ⟨S4x1x512x512, .f32⟩
  | 53 => ⟨S1x30x1x1, .f32⟩
  | 54 => ⟨S1x30, .f32⟩
  | 55 => ⟨S4x30x512x512, .f32⟩
  | 56 => ⟨S4x512x512x1, .f32⟩
  | 57 => ⟨S4x1x512x512, .f32⟩
  | 58 => ⟨S4x1x512x512, .f32⟩
  | 59 => ⟨S1x30x1x1, .f32⟩
  | 60 => ⟨S1x30, .f32⟩
  | 61 => ⟨S4x30x512x512, .f32⟩
  | 62 => ⟨S4x512x512x1, .f32⟩
  | 63 => ⟨S4x1x512x512, .f32⟩
  | 64 => ⟨S4x1x512x512, .f32⟩
  | 65 => ⟨S1x30x1x1, .f32⟩
  | 66 => ⟨S1x30, .f32⟩
  | 67 => ⟨S4x30x512x512, .f32⟩
  | 68 => ⟨S4x512x512x1, .f32⟩
  | 69 => ⟨S4x1x512x512, .f32⟩
  | 70 => ⟨S4x1x512x512, .f32⟩
  | 71 => ⟨S1x30x1x1, .f32⟩
  | 72 => ⟨S1x30, .f32⟩
  | 73 => ⟨S4x30x512x512, .f32⟩
  | 74 => ⟨S4x512x512x1, .f32⟩
  | 75 => ⟨S4x1x512x512, .f32⟩
  | 76 => ⟨S4x1x512x512, .f32⟩
  | 77 => ⟨S1x30x1x1, .f32⟩
  | 78 => ⟨S1x30, .f32⟩
  | 79 => ⟨S4x30x512x512, .f32⟩
  | 80 => ⟨S4x512x512x1, .f32⟩
  | 81 => ⟨S4x1x512x512, .f32⟩
  | 82 => ⟨S4x1x512x512, .f32⟩
  | 83 => ⟨S1x30x1x1, .f32⟩
  | 84 => ⟨S1x30, .f32⟩
  | 85 => ⟨S4x30x512x512, .f32⟩
  | 86 => ⟨S4x512x512x1, .f32⟩
  | 87 => ⟨S4x1x512x512, .f32⟩
  | 88 => ⟨S4x1x512x512, .f32⟩
  | 89 => ⟨S1x30x1x1, .f32⟩
  | 90 => ⟨S1x30, .f32⟩
  | 91 => ⟨S4x30x512x512, .f32⟩
  | 92 => ⟨S4x512x512x1, .f32⟩
  | 93 => ⟨S4x1x512x512, .f32⟩
  | 94 => ⟨S4x1x512x512, .f32⟩
  | 95 => ⟨S1x30x1x1, .f32⟩
  | 96 => ⟨S1x30, .f32⟩
  | 97 => ⟨S4x30x512x512, .f32⟩
  | 98 => ⟨S4x512x512x1, .f32⟩
  | 99 => ⟨S4x1x512x512, .f32⟩
  | 100 => ⟨S4x1x512x512, .f32⟩
  | 101 => ⟨S1x1x1x1, .f32⟩
  | 102 => ⟨S4x1x512x512, .f32⟩
  | 103 => ⟨S4x1x512x512, .f32⟩
  | 104 => ⟨S4x512x512, .f32⟩
  | 105 => ⟨S4x512x512, .f32⟩
  | 106 => ⟨S4x512x512, .f32⟩
  | 107 => ⟨S_, .f32⟩
  | 108 => ⟨S4x512, .f32⟩
  | 109 => ⟨S_, .f32⟩
  | 110 => ⟨S4x512, .f32⟩
  | 111 => ⟨S4x512, .f32⟩
  | 112 => ⟨S4x512x1, .f32⟩
  | 113 => ⟨S4x512x512, .f32⟩
  | 114 => ⟨S4x512x512, .f32⟩
  | 115 => ⟨S4x512x512, .f32⟩
  | 116 => ⟨S_, .f32⟩
  | 117 => ⟨S4x512, .f32⟩
  | 118 => ⟨S4x512x1, .f32⟩
  | 119 => ⟨S4x512x512, .f32⟩
  | 120 => ⟨S4x512x512, .f32⟩
  | 121 => ⟨S4x262144, .f32⟩
  | 122 => ⟨S4x262144, .f32⟩
  | 123 => ⟨S_, .f32⟩
  | 124 => ⟨S4, .f32⟩
  | 125 => ⟨S4x1, .f32⟩
  | 126 => ⟨S4x262144, .f32⟩
  | 127 => ⟨S4x262144, .f32⟩
  | _ => ⟨S4x512x256, .f32⟩

abbrev hbmTy0_4 (i : Nat) : BufTy := match i % 128 with
  | 0 => ⟨S4x262144, .f32⟩
  | 1 => ⟨S4, .f32⟩
  | 2 => ⟨S2048x256, .f32⟩
  | 3 => ⟨S256x256, .f32⟩
  | 4 => ⟨S2048x256, .f32⟩
  | 5 => ⟨S1x256, .f32⟩
  | 6 => ⟨S2048x256, .f32⟩
  | 7 => ⟨S2048x256, .f32⟩
  | 8 => ⟨S_, .f32⟩
  | 9 => ⟨S2048x256, .f32⟩
  | 10 => ⟨S2048x256, .f32⟩
  | 11 => ⟨S256x256, .f32⟩
  | 12 => ⟨S2048x256, .f32⟩
  | 13 => ⟨S1x256, .f32⟩
  | 14 => ⟨S2048x256, .f32⟩
  | 15 => ⟨S2048x256, .f32⟩
  | 16 => ⟨S2048x256, .f32⟩
  | 17 => ⟨S_, .f32⟩
  | 18 => ⟨S2048, .f32⟩
  | 19 => ⟨S2048x1, .f32⟩
  | 20 => ⟨S2048x1, .f32⟩
  | 21 => ⟨S_, .f32⟩
  | 22 => ⟨S2048x1, .f32⟩
  | 23 => ⟨S2048x1, .f32⟩
  | 24 => ⟨S2048x256, .f32⟩
  | 25 => ⟨S2048x256, .f32⟩
  | 26 => ⟨S4x512x256, .f32⟩
  | _ => ⟨S4x512x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x512x256, .f32⟩

abbrev bufTy : (tb : Table) → Fin (tcTables nBuf tb) → BufTy
  | .hbm, ⟨i, _⟩ => hbmTy i
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_call1_v0 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_11 : Ref sig .tc := ⟨.hbm, 104, rfl⟩
abbrev main_call2_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_call3_cst : Ref sig .tc := ⟨.hbm, 262, rfl⟩
abbrev main_call3_v0 : Ref sig .tc := ⟨.hbm, 263, rfl⟩
abbrev main_v228 : Ref sig .tc := ⟨.hbm, 264, rfl⟩
abbrev main_c_13 : Ref sig .tc := ⟨.hbm, 265, rfl⟩
abbrev main_call4_v0 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_cst_14 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_v271 : Ref sig .tc := ⟨.hbm, 310, rfl⟩
abbrev main_v272 : Ref sig .tc := ⟨.hbm, 311, rfl⟩
abbrev main_v273 : Ref sig .tc := ⟨.hbm, 312, rfl⟩
abbrev main_v274 : Ref sig .tc := ⟨.hbm, 313, rfl⟩
abbrev main_v275 : Ref sig .tc := ⟨.hbm, 314, rfl⟩
abbrev main_v276 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_v288 : Ref sig .tc := ⟨.hbm, 327, rfl⟩
abbrev main_v289 : Ref sig .tc := ⟨.hbm, 328, rfl⟩
abbrev main_v290 : Ref sig .tc := ⟨.hbm, 329, rfl⟩
abbrev main_v291 : Ref sig .tc := ⟨.hbm, 330, rfl⟩
abbrev main_v292 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_v306 : Ref sig .tc := ⟨.hbm, 345, rfl⟩
abbrev main_v307 : Ref sig .tc := ⟨.hbm, 346, rfl⟩
abbrev main_v308 : Ref sig .tc := ⟨.hbm, 347, rfl⟩
abbrev main_v309 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_v317 : Ref sig .tc := ⟨.hbm, 356, rfl⟩
abbrev main_v318 : Ref sig .tc := ⟨.hbm, 357, rfl⟩
abbrev main_v319 : Ref sig .tc := ⟨.hbm, 358, rfl⟩
abbrev main_v320 : Ref sig .tc := ⟨.hbm, 359, rfl⟩
abbrev main_v321 : Ref sig .tc := ⟨.hbm, 360, rfl⟩
abbrev main_v322 : Ref sig .tc := ⟨.hbm, 361, rfl⟩
abbrev main_v323 : Ref sig .tc := ⟨.hbm, 362, rfl⟩
abbrev main_v324 : Ref sig .tc := ⟨.hbm, 363, rfl⟩
abbrev main_v325 : Ref sig .tc := ⟨.hbm, 364, rfl⟩
abbrev main_v326 : Ref sig .tc := ⟨.hbm, 365, rfl⟩
abbrev main_v327 : Ref sig .tc := ⟨.hbm, 366, rfl⟩
abbrev main_v328 : Ref sig .tc := ⟨.hbm, 367, rfl⟩
abbrev main_v329 : Ref sig .tc := ⟨.hbm, 368, rfl⟩
abbrev main_v330 : Ref sig .tc := ⟨.hbm, 369, rfl⟩
abbrev main_v331 : Ref sig .tc := ⟨.hbm, 370, rfl⟩
abbrev main_v332 : Ref sig .tc := ⟨.hbm, 371, rfl⟩
abbrev main_v333 : Ref sig .tc := ⟨.hbm, 372, rfl⟩
abbrev main_v334 : Ref sig .tc := ⟨.hbm, 373, rfl⟩
abbrev main_v335 : Ref sig .tc := ⟨.hbm, 374, rfl⟩
abbrev main_v336 : Ref sig .tc := ⟨.hbm, 375, rfl⟩
abbrev main_v337 : Ref sig .tc := ⟨.hbm, 376, rfl⟩
abbrev main_v338 : Ref sig .tc := ⟨.hbm, 377, rfl⟩
abbrev main_v339 : Ref sig .tc := ⟨.hbm, 378, rfl⟩
abbrev main_v340 : Ref sig .tc := ⟨.hbm, 379, rfl⟩
abbrev main_v341 : Ref sig .tc := ⟨.hbm, 380, rfl⟩
abbrev main_v342 : Ref sig .tc := ⟨.hbm, 381, rfl⟩
abbrev main_v343 : Ref sig .tc := ⟨.hbm, 382, rfl⟩
abbrev main_v344 : Ref sig .tc := ⟨.hbm, 383, rfl⟩
abbrev main_v345 : Ref sig .tc := ⟨.hbm, 384, rfl⟩
abbrev main_v346 : Ref sig .tc := ⟨.hbm, 385, rfl⟩
abbrev main_v347 : Ref sig .tc := ⟨.hbm, 386, rfl⟩
abbrev main_v348 : Ref sig .tc := ⟨.hbm, 387, rfl⟩
abbrev main_v349 : Ref sig .tc := ⟨.hbm, 388, rfl⟩
abbrev main_v350 : Ref sig .tc := ⟨.hbm, 389, rfl⟩
abbrev main_v351 : Ref sig .tc := ⟨.hbm, 390, rfl⟩
abbrev main_v352 : Ref sig .tc := ⟨.hbm, 391, rfl⟩
abbrev main_v353 : Ref sig .tc := ⟨.hbm, 392, rfl⟩
abbrev main_v354 : Ref sig .tc := ⟨.hbm, 393, rfl⟩
abbrev main_v355 : Ref sig .tc := ⟨.hbm, 394, rfl⟩
abbrev main_v356 : Ref sig .tc := ⟨.hbm, 395, rfl⟩
abbrev main_v357 : Ref sig .tc := ⟨.hbm, 396, rfl⟩
abbrev main_v358 : Ref sig .tc := ⟨.hbm, 397, rfl⟩
abbrev main_v359 : Ref sig .tc := ⟨.hbm, 398, rfl⟩
abbrev main_v360 : Ref sig .tc := ⟨.hbm, 399, rfl⟩
abbrev main_v361 : Ref sig .tc := ⟨.hbm, 400, rfl⟩
abbrev main_v362 : Ref sig .tc := ⟨.hbm, 401, rfl⟩
abbrev main_v363 : Ref sig .tc := ⟨.hbm, 402, rfl⟩
abbrev main_v364 : Ref sig .tc := ⟨.hbm, 403, rfl⟩
abbrev main_v365 : Ref sig .tc := ⟨.hbm, 404, rfl⟩
abbrev main_v366 : Ref sig .tc := ⟨.hbm, 405, rfl⟩
abbrev main_v367 : Ref sig .tc := ⟨.hbm, 406, rfl⟩
abbrev main_v368 : Ref sig .tc := ⟨.hbm, 407, rfl⟩
abbrev main_v369 : Ref sig .tc := ⟨.hbm, 408, rfl⟩
abbrev main_v370 : Ref sig .tc := ⟨.hbm, 409, rfl⟩
abbrev main_v371 : Ref sig .tc := ⟨.hbm, 410, rfl⟩
abbrev main_v372 : Ref sig .tc := ⟨.hbm, 411, rfl⟩
abbrev main_v373 : Ref sig .tc := ⟨.hbm, 412, rfl⟩
abbrev main_v374 : Ref sig .tc := ⟨.hbm, 413, rfl⟩
abbrev main_v375 : Ref sig .tc := ⟨.hbm, 414, rfl⟩
abbrev main_v376 : Ref sig .tc := ⟨.hbm, 415, rfl⟩
abbrev main_v377 : Ref sig .tc := ⟨.hbm, 416, rfl⟩
abbrev main_v378 : Ref sig .tc := ⟨.hbm, 417, rfl⟩
abbrev main_v379 : Ref sig .tc := ⟨.hbm, 418, rfl⟩
abbrev main_v380 : Ref sig .tc := ⟨.hbm, 419, rfl⟩
abbrev main_v381 : Ref sig .tc := ⟨.hbm, 420, rfl⟩
abbrev main_v382 : Ref sig .tc := ⟨.hbm, 421, rfl⟩
abbrev main_v383 : Ref sig .tc := ⟨.hbm, 422, rfl⟩
abbrev main_call5_cst : Ref sig .tc := ⟨.hbm, 423, rfl⟩
abbrev main_call5_v0 : Ref sig .tc := ⟨.hbm, 424, rfl⟩
abbrev main_v384 : Ref sig .tc := ⟨.hbm, 425, rfl⟩
abbrev main_c_15 : Ref sig .tc := ⟨.hbm, 426, rfl⟩
abbrev main_call6_v0 : Ref sig .tc := ⟨.hbm, 427, rfl⟩
abbrev main_v385 : Ref sig .tc := ⟨.hbm, 428, rfl⟩
abbrev main_v386 : Ref sig .tc := ⟨.hbm, 429, rfl⟩
abbrev main_v387 : Ref sig .tc := ⟨.hbm, 430, rfl⟩
abbrev main_v388 : Ref sig .tc := ⟨.hbm, 431, rfl⟩
abbrev main_v389 : Ref sig .tc := ⟨.hbm, 432, rfl⟩
abbrev main_v390 : Ref sig .tc := ⟨.hbm, 433, rfl⟩
abbrev main_cst_16 : Ref sig .tc := ⟨.hbm, 434, rfl⟩
abbrev main_v391 : Ref sig .tc := ⟨.hbm, 435, rfl⟩
abbrev main_v392 : Ref sig .tc := ⟨.hbm, 436, rfl⟩
abbrev main_v393 : Ref sig .tc := ⟨.hbm, 437, rfl⟩
abbrev main_v394 : Ref sig .tc := ⟨.hbm, 438, rfl⟩
abbrev main_v395 : Ref sig .tc := ⟨.hbm, 439, rfl⟩
abbrev main_v396 : Ref sig .tc := ⟨.hbm, 440, rfl⟩
abbrev main_v397 : Ref sig .tc := ⟨.hbm, 441, rfl⟩
abbrev main_v398 : Ref sig .tc := ⟨.hbm, 442, rfl⟩
abbrev main_v399 : Ref sig .tc := ⟨.hbm, 443, rfl⟩
abbrev main_v400 : Ref sig .tc := ⟨.hbm, 444, rfl⟩
abbrev main_v401 : Ref sig .tc := ⟨.hbm, 445, rfl⟩
abbrev main_v402 : Ref sig .tc := ⟨.hbm, 446, rfl⟩
abbrev main_v403 : Ref sig .tc := ⟨.hbm, 447, rfl⟩
abbrev main_v404 : Ref sig .tc := ⟨.hbm, 448, rfl⟩
abbrev main_v405 : Ref sig .tc := ⟨.hbm, 449, rfl⟩
abbrev main_v406 : Ref sig .tc := ⟨.hbm, 450, rfl⟩
abbrev main_v407 : Ref sig .tc := ⟨.hbm, 451, rfl⟩
abbrev main_v408 : Ref sig .tc := ⟨.hbm, 452, rfl⟩
abbrev main_v409 : Ref sig .tc := ⟨.hbm, 453, rfl⟩
abbrev main_v410 : Ref sig .tc := ⟨.hbm, 454, rfl⟩
abbrev main_v411 : Ref sig .tc := ⟨.hbm, 455, rfl⟩
abbrev main_v412 : Ref sig .tc := ⟨.hbm, 456, rfl⟩
abbrev main_v413 : Ref sig .tc := ⟨.hbm, 457, rfl⟩
abbrev main_v414 : Ref sig .tc := ⟨.hbm, 458, rfl⟩
abbrev main_v415 : Ref sig .tc := ⟨.hbm, 459, rfl⟩
abbrev main_v416 : Ref sig .tc := ⟨.hbm, 460, rfl⟩
abbrev main_v417 : Ref sig .tc := ⟨.hbm, 461, rfl⟩
abbrev main_v418 : Ref sig .tc := ⟨.hbm, 462, rfl⟩
abbrev main_v419 : Ref sig .tc := ⟨.hbm, 463, rfl⟩
abbrev main_v420 : Ref sig .tc := ⟨.hbm, 464, rfl⟩
abbrev main_v421 : Ref sig .tc := ⟨.hbm, 465, rfl⟩
abbrev main_v422 : Ref sig .tc := ⟨.hbm, 466, rfl⟩
abbrev main_v423 : Ref sig .tc := ⟨.hbm, 467, rfl⟩
abbrev main_v424 : Ref sig .tc := ⟨.hbm, 468, rfl⟩
abbrev main_v425 : Ref sig .tc := ⟨.hbm, 469, rfl⟩
abbrev main_v426 : Ref sig .tc := ⟨.hbm, 470, rfl⟩
abbrev main_v427 : Ref sig .tc := ⟨.hbm, 471, rfl⟩
abbrev main_v428 : Ref sig .tc := ⟨.hbm, 472, rfl⟩
abbrev main_v429 : Ref sig .tc := ⟨.hbm, 473, rfl⟩
abbrev main_v430 : Ref sig .tc := ⟨.hbm, 474, rfl⟩
abbrev main_v431 : Ref sig .tc := ⟨.hbm, 475, rfl⟩
abbrev main_v432 : Ref sig .tc := ⟨.hbm, 476, rfl⟩
abbrev main_v433 : Ref sig .tc := ⟨.hbm, 477, rfl⟩
abbrev main_v434 : Ref sig .tc := ⟨.hbm, 478, rfl⟩
abbrev main_v435 : Ref sig .tc := ⟨.hbm, 479, rfl⟩
abbrev main_v436 : Ref sig .tc := ⟨.hbm, 480, rfl⟩
abbrev main_v437 : Ref sig .tc := ⟨.hbm, 481, rfl⟩
abbrev main_v438 : Ref sig .tc := ⟨.hbm, 482, rfl⟩
abbrev main_v439 : Ref sig .tc := ⟨.hbm, 483, rfl⟩
abbrev main_v440 : Ref sig .tc := ⟨.hbm, 484, rfl⟩
abbrev main_v441 : Ref sig .tc := ⟨.hbm, 485, rfl⟩
abbrev main_v442 : Ref sig .tc := ⟨.hbm, 486, rfl⟩
abbrev main_v443 : Ref sig .tc := ⟨.hbm, 487, rfl⟩
abbrev main_v444 : Ref sig .tc := ⟨.hbm, 488, rfl⟩
abbrev main_v445 : Ref sig .tc := ⟨.hbm, 489, rfl⟩
abbrev main_v446 : Ref sig .tc := ⟨.hbm, 490, rfl⟩
abbrev main_cst_17 : Ref sig .tc := ⟨.hbm, 491, rfl⟩
abbrev main_v447 : Ref sig .tc := ⟨.hbm, 492, rfl⟩
abbrev main_cst_18 : Ref sig .tc := ⟨.hbm, 493, rfl⟩
abbrev main_v448 : Ref sig .tc := ⟨.hbm, 494, rfl⟩
abbrev main_v449 : Ref sig .tc := ⟨.hbm, 495, rfl⟩
abbrev main_v450 : Ref sig .tc := ⟨.hbm, 496, rfl⟩
abbrev main_v451 : Ref sig .tc := ⟨.hbm, 497, rfl⟩
abbrev main_v452 : Ref sig .tc := ⟨.hbm, 498, rfl⟩
abbrev main_v453 : Ref sig .tc := ⟨.hbm, 499, rfl⟩
abbrev main_cst_19 : Ref sig .tc := ⟨.hbm, 500, rfl⟩
abbrev main_v454 : Ref sig .tc := ⟨.hbm, 501, rfl⟩
abbrev main_v455 : Ref sig .tc := ⟨.hbm, 502, rfl⟩
abbrev main_v456 : Ref sig .tc := ⟨.hbm, 503, rfl⟩
abbrev main_v457 : Ref sig .tc := ⟨.hbm, 504, rfl⟩
abbrev main_v458 : Ref sig .tc := ⟨.hbm, 505, rfl⟩
abbrev main_v459 : Ref sig .tc := ⟨.hbm, 506, rfl⟩
abbrev main_cst_20 : Ref sig .tc := ⟨.hbm, 507, rfl⟩
abbrev main_v460 : Ref sig .tc := ⟨.hbm, 508, rfl⟩
abbrev main_v461 : Ref sig .tc := ⟨.hbm, 509, rfl⟩
abbrev main_v462 : Ref sig .tc := ⟨.hbm, 510, rfl⟩
abbrev main_v463 : Ref sig .tc := ⟨.hbm, 511, rfl⟩
abbrev main_v464 : Ref sig .tc := ⟨.hbm, 512, rfl⟩
abbrev main_v465 : Ref sig .tc := ⟨.hbm, 513, rfl⟩
abbrev main_v466 : Ref sig .tc := ⟨.hbm, 514, rfl⟩
abbrev main_v467 : Ref sig .tc := ⟨.hbm, 515, rfl⟩
abbrev main_v468 : Ref sig .tc := ⟨.hbm, 516, rfl⟩
abbrev main_v469 : Ref sig .tc := ⟨.hbm, 517, rfl⟩
abbrev main_v470 : Ref sig .tc := ⟨.hbm, 518, rfl⟩
abbrev main_v471 : Ref sig .tc := ⟨.hbm, 519, rfl⟩
abbrev main_call7_cst : Ref sig .tc := ⟨.hbm, 520, rfl⟩
abbrev main_call7_v0 : Ref sig .tc := ⟨.hbm, 521, rfl⟩
abbrev main_v472 : Ref sig .tc := ⟨.hbm, 522, rfl⟩
abbrev main_v473 : Ref sig .tc := ⟨.hbm, 523, rfl⟩
abbrev main_v474 : Ref sig .tc := ⟨.hbm, 524, rfl⟩
abbrev main_v475 : Ref sig .tc := ⟨.hbm, 525, rfl⟩
abbrev main_v476 : Ref sig .tc := ⟨.hbm, 526, rfl⟩
abbrev main_v477 : Ref sig .tc := ⟨.hbm, 527, rfl⟩
abbrev main_call8_v0 : Ref sig .tc := ⟨.hbm, 528, rfl⟩
abbrev main_call8_cst : Ref sig .tc := ⟨.hbm, 529, rfl⟩
abbrev main_call8_v1 : Ref sig .tc := ⟨.hbm, 530, rfl⟩
abbrev main_call8_v2 : Ref sig .tc := ⟨.hbm, 531, rfl⟩
abbrev main_v478 : Ref sig .tc := ⟨.hbm, 532, rfl⟩
abbrev main_cst_21 : Ref sig .tc := ⟨.hbm, 533, rfl⟩
abbrev main_v479 : Ref sig .tc := ⟨.hbm, 534, rfl⟩
abbrev main_v480 : Ref sig .tc := ⟨.hbm, 535, rfl⟩
abbrev main_v481 : Ref sig .tc := ⟨.hbm, 536, rfl⟩
abbrev main_v482 : Ref sig .tc := ⟨.hbm, 537, rfl⟩
abbrev main_v483 : Ref sig .tc := ⟨.hbm, 538, rfl⟩

abbrev nD : Nat := 1
abbrev τ : Topo := Topo.v7x

variable {F : FTy → Type} [FloatOps F]
-- ==== ReferenceOnceIdeal.lean ====
abbrev S4x512x256 : Shape := ⟨3, ![4, 512, 256]⟩
abbrev S4 : Shape := ⟨1, ![4]⟩
abbrev S30x2x5x5 : Shape := ⟨4, ![30, 2, 5, 5]⟩
abbrev S30 : Shape := ⟨1, ![30]⟩
abbrev S30x30x5x5 : Shape := ⟨4, ![30, 30, 5, 5]⟩
abbrev S1x30x3x3 : Shape := ⟨4, ![1, 30, 3, 3]⟩
abbrev S1 : Shape := ⟨1, ![1]⟩
abbrev S256x256 : Shape := ⟨2, ![256, 256]⟩
abbrev S256 : Shape := ⟨1, ![256]⟩
abbrev S_ : Shape := ⟨0, ![]⟩
abbrev S512 : Shape := ⟨1, ![512]⟩
abbrev S1x512 : Shape := ⟨2, ![1, 512]⟩
abbrev S4x1 : Shape := ⟨2, ![4, 1]⟩
abbrev S4x512 : Shape := ⟨2, ![4, 512]⟩
abbrev S4x510x256 : Shape := ⟨3, ![4, 510, 256]⟩
abbrev S4x512x1 : Shape := ⟨3, ![4, 512, 1]⟩
abbrev S4x1x512 : Shape := ⟨3, ![4, 1, 512]⟩
abbrev S4x512x512 : Shape := ⟨3, ![4, 512, 512]⟩
abbrev S4x1x512x512 : Shape := ⟨4, ![4, 1, 512, 512]⟩
abbrev S4x2x512x512 : Shape := ⟨4, ![4, 2, 512, 512]⟩
abbrev S4x2x528x512 : Shape := ⟨4, ![4, 2, 528, 512]⟩
abbrev S4x2x532x516 : Shape := ⟨4, ![4, 2, 532, 516]⟩
abbrev S30x2x1x1 : Shape := ⟨4, ![30, 2, 1, 1]⟩
abbrev S30x2 : Shape := ⟨2, ![30, 2]⟩
abbrev S4x528x512x30 : Shape := ⟨4, ![4, 528, 512, 30]⟩
abbrev S4x30x528x512 : Shape := ⟨4, ![4, 30, 528, 512]⟩
abbrev S1x30x1x1 : Shape := ⟨4, ![1, 30, 1, 1]⟩
abbrev S4x30x532x516 : Shape := ⟨4, ![4, 30, 532, 516]⟩
abbrev S30x30x1x1 : Shape := ⟨4, ![30, 30, 1, 1]⟩
abbrev S30x30 : Shape := ⟨2, ![30, 30]⟩
abbrev S4x30x530x514 : Shape := ⟨4, ![4, 30, 530, 514]⟩
abbrev S1x30 : Shape := ⟨2, ![1, 30]⟩
abbrev S4x528x512x1 : Shape := ⟨4, ![4, 528, 512, 1]⟩
abbrev S4x1x528x512 : Shape := ⟨4, ![4, 1, 528, 512]⟩
abbrev S1x1x1x1 : Shape := ⟨4, ![1, 1, 1, 1]⟩
abbrev S4x262144 : Shape := ⟨2, ![4, 262144]⟩
abbrev S2048x256 : Shape := ⟨2, ![2048, 256]⟩
abbrev S1x256 : Shape := ⟨2, ![1, 256]⟩
abbrev S2048 : Shape := ⟨1, ![2048]⟩
abbrev S2048x1 : Shape := ⟨2, ![2048, 1]⟩

abbrev nBuf : Space → Nat
  | .hbm => 543
  | .vmem => 0
  | .smem => 0
  | _ => 0

abbrev hbmTy0_0 (i : Nat) : BufTy := match i % 128 with
  | 0 => ⟨S4x512x256, .f32⟩
  | 1 => ⟨S4, .i32⟩
  | 2 => ⟨S30x2x5x5, .f32⟩
  | 3 => ⟨S30, .f32⟩
  | 4 => ⟨S30x30x5x5, .f32⟩
  | 5 => ⟨S30, .f32⟩
  | 6 => ⟨S1x30x3x3, .f32⟩
  | 7 => ⟨S1, .f32⟩
  | 8 => ⟨S256x256, .f32⟩
  | 9 => ⟨S256, .f32⟩
  | 10 => ⟨S256x256, .f32⟩
  | 11 => ⟨S256, .f32⟩
  | 12 => ⟨S_, .i32⟩
  | 13 => ⟨S_, .i32⟩
  | 14 => ⟨S_, .i32⟩
  | 15 => ⟨S4, .i32⟩
  | 16 => ⟨S4, .i32⟩
  | 17 => ⟨S_, .i32⟩
  | 18 => ⟨S4, .i32⟩
  | 19 => ⟨S4, .i32⟩
  | 20 => ⟨S4, .f32⟩
  | 21 => ⟨S512, .f32⟩
  | 22 => ⟨S1x512, .f32⟩
  | 23 => ⟨S4x1, .f32⟩
  | 24 => ⟨S4x512, .f32⟩
  | 25 => ⟨S4x512, .f32⟩
  | 26 => ⟨S4x512, .i1⟩
  | 27 => ⟨S4x512, .f32⟩
  | 28 => ⟨S1x512, .f32⟩
  | 29 => ⟨S_, .f32⟩
  | 30 => ⟨S1x512, .f32⟩
  | 31 => ⟨S1x512, .f32⟩
  | 32 => ⟨S4x1, .f32⟩
  | 33 => ⟨S4x512, .f32⟩
  | 34 => ⟨S4x512, .f32⟩
  | 35 => ⟨S4x512, .f32⟩
  | 36 => ⟨S4x512, .f32⟩
  | 37 => ⟨S4x510x256, .f32⟩
  | 38 => ⟨S_, .f32⟩
  | 39 => ⟨S4x510x256, .f32⟩
  | 40 => ⟨S4x510x256, .f32⟩
  | 41 => ⟨S4x510x256, .f32⟩
  | 42 => ⟨S_, .f32⟩
  | 43 => ⟨S4x510x256, .f32⟩
  | 44 => ⟨S4x510x256, .f32⟩
  | 45 => ⟨S4x510x256, .f32⟩
  | 46 => ⟨S4x510x256, .f32⟩
  | 47 => ⟨S_, .f32⟩
  | 48 => ⟨S4x510x256, .f32⟩
  | 49 => ⟨S4x510x256, .f32⟩
  | 50 => ⟨S4x510x256, .f32⟩
  | 51 => ⟨S_, .i32⟩
  | 52 => ⟨S_, .f32⟩
  | 53 => ⟨S4x512x256, .f32⟩
  | 54 => ⟨S_, .f32⟩
  | 55 => ⟨S4, .f32⟩
  | 56 => ⟨S4, .f32⟩
  | 57 => ⟨S1x512, .f32⟩
  | 58 => ⟨S4x1, .f32⟩
  | 59 => ⟨S4x512, .f32⟩
  | 60 => ⟨S4x512, .f32⟩
  | 61 => ⟨S4x512, .i1⟩
  | 62 => ⟨S4x512, .f32⟩
  | 63 => ⟨S4x512x1, .f32⟩
  | 64 => ⟨S4x512x256, .f32⟩
  | 65 => ⟨S4x512x256, .f32⟩
  | 66 => ⟨S1x512, .f32⟩
  | 67 => ⟨S_, .f32⟩
  | 68 => ⟨S1x512, .f32⟩
  | 69 => ⟨S1x512, .f32⟩
  | 70 => ⟨S4x1, .f32⟩
  | 71 => ⟨S4x512, .f32⟩
  | 72 => ⟨S4x512, .f32⟩
  | 73 => ⟨S4x512, .f32⟩
  | 74 => ⟨S4x512, .f32⟩
  | 75 => ⟨S4x512x256, .f32⟩
  | 76 => ⟨S_, .f32⟩
  | 77 => ⟨S4x512, .f32⟩
  | 78 => ⟨S4x512x1, .f32⟩
  | 79 => ⟨S4x512x256, .f32⟩
  | 80 => ⟨S_, .f32⟩
  | 81 => ⟨S4x512, .f32⟩
  | 82 => ⟨S4x1x512, .f32⟩
  | 83 => ⟨S4x512x512, .f32⟩
  | 84 => ⟨S4x512x512, .f32⟩
  | 85 => ⟨S4x512x512, .f32⟩
  | 86 => ⟨S4x512x512, .f32⟩
  | 87 => ⟨S_, .f32⟩
  | 88 => ⟨S4x512x512, .f32⟩
  | 89 => ⟨S4x512x512, .f32⟩
  | 90 => ⟨S4x512x512, .f32⟩
  | 91 => ⟨S_, .f32⟩
  | 92 => ⟨S4x512x512, .f32⟩
  | 93 => ⟨S4x512x512, .f32⟩
  | 94 => ⟨S4x512x512, .f32⟩
  | 95 => ⟨S4x512x1, .f32⟩
  | 96 => ⟨S4x1x512, .f32⟩
  | 97 => ⟨S4x512x512, .f32⟩
  | 98 => ⟨S4x512x512, .f32⟩
  | 99 => ⟨S4x512x512, .f32⟩
  | 100 => ⟨S4x512x512, .f32⟩
  | 101 => ⟨S4x1x512x512, .f32⟩
  | 102 => ⟨S4x1x512x512, .f32⟩
  | 103 => ⟨S4x2x512x512, .f32⟩
  | 104 => ⟨S_, .i32⟩
  | 105 => ⟨S_, .f32⟩
  | 106 => ⟨S4x2x528x512, .f32⟩
  | 107 => ⟨S_, .i32⟩
  | 108 => ⟨S_, .f32⟩
  | 109 => ⟨S4x2x532x516, .f32⟩
  | 110 => ⟨S30x2x1x1, .f32⟩
  | 111 => ⟨S30x2, .f32⟩
  | 112 => ⟨S4x2x528x512, .f32⟩
  | 113 => ⟨S4x528x512x30, .f32⟩
  | 114 => ⟨S4x30x528x512, .f32⟩
  | 115 => ⟨S_, .f32⟩
  | 116 => ⟨S4x30x528x512, .f32⟩
  | 117 => ⟨S4x30x528x512, .f32⟩
  | 118 => ⟨S30x2x1x1, .f32⟩
  | 119 => ⟨S30x2, .f32⟩
  | 120 => ⟨S4x2x528x512, .f32⟩
  | 121 => ⟨S4x528x512x30, .f32⟩
  | 122 => ⟨S4x30x528x512, .f32⟩
  | 123 => ⟨S4x30x528x512, .f32⟩
  | 124 => ⟨S30x2x1x1, .f32⟩
  | 125 => ⟨S30x2, .f32⟩
  | 126 => ⟨S4x2x528x512, .f32⟩
  | 127 => ⟨S4x528x512x30, .f32⟩
  | _ => ⟨S4x512x256, .f32⟩

abbrev hbmTy0_1 (i : Nat) : BufTy := match i % 128 with
  | 0 => ⟨S4x30x528x512, .f32⟩
  | 1 => ⟨S4x30x528x512, .f32⟩
  | 2 => ⟨S30x2x1x1, .f32⟩
  | 3 => ⟨S30x2, .f32⟩
  | 4 => ⟨S4x2x528x512, .f32⟩
  | 5 => ⟨S4x528x512x30, .f32⟩
  | 6 => ⟨S4x30x528x512, .f32⟩
  | 7 => ⟨S4x30x528x512, .f32⟩
  | 8 => ⟨S30x2x1x1, .f32⟩
  | 9 => ⟨S30x2, .f32⟩
  | 10 => ⟨S4x2x528x512, .f32⟩
  | 11 => ⟨S4x528x512x30, .f32⟩
  | 12 => ⟨S4x30x528x512, .f32⟩
  | 13 => ⟨S4x30x528x512, .f32⟩
  | 14 => ⟨S30x2x1x1, .f32⟩
  | 15 => ⟨S30x2, .f32⟩
  | 16 => ⟨S4x2x528x512, .f32⟩
  | 17 => ⟨S4x528x512x30, .f32⟩
  | 18 => ⟨S4x30x528x512, .f32⟩
  | 19 => ⟨S4x30x528x512, .f32⟩
  | 20 => ⟨S30x2x1x1, .f32⟩
  | 21 => ⟨S30x2, .f32⟩
  | 22 => ⟨S4x2x528x512, .f32⟩
  | 23 => ⟨S4x528x512x30, .f32⟩
  | 24 => ⟨S4x30x528x512, .f32⟩
  | 25 => ⟨S4x30x528x512, .f32⟩
  | 26 => ⟨S30x2x1x1, .f32⟩
  | 27 => ⟨S30x2, .f32⟩
  | 28 => ⟨S4x2x528x512, .f32⟩
  | 29 => ⟨S4x528x512x30, .f32⟩
  | 30 => ⟨S4x30x528x512, .f32⟩
  | 31 => ⟨S4x30x528x512, .f32⟩
  | 32 => ⟨S30x2x1x1, .f32⟩
  | 33 => ⟨S30x2, .f32⟩
  | 34 => ⟨S4x2x528x512, .f32⟩
  | 35 => ⟨S4x528x512x30, .f32⟩
  | 36 => ⟨S4x30x528x512, .f32⟩
  | 37 => ⟨S4x30x528x512, .f32⟩
  | 38 => ⟨S30x2x1x1, .f32⟩
  | 39 => ⟨S30x2, .f32⟩
  | 40 => ⟨S4x2x528x512, .f32⟩
  | 41 => ⟨S4x528x512x30, .f32⟩
  | 42 => ⟨S4x30x528x512, .f32⟩
  | 43 => ⟨S4x30x528x512, .f32⟩
  | 44 => ⟨S30x2x1x1, .f32⟩
  | 45 => ⟨S30x2, .f32⟩
  | 46 => ⟨S4x2x528x512, .f32⟩
  | 47 => ⟨S4x528x512x30, .f32⟩
  | 48 => ⟨S4x30x528x512, .f32⟩
  | 49 => ⟨S4x30x528x512, .f32⟩
  | 50 => ⟨S30x2x1x1, .f32⟩
  | 51 => ⟨S30x2, .f32⟩
  | 52 => ⟨S4x2x528x512, .f32⟩
  | 53 => ⟨S4x528x512x30, .f32⟩
  | 54 => ⟨S4x30x528x512, .f32⟩
  | 55 => ⟨S4x30x528x512, .f32⟩
  | 56 => ⟨S30x2x1x1, .f32⟩
  | 57 => ⟨S30x2, .f32⟩
  | 58 => ⟨S4x2x528x512, .f32⟩
  | 59 => ⟨S4x528x512x30, .f32⟩
  | 60 => ⟨S4x30x528x512, .f32⟩
  | 61 => ⟨S4x30x528x512, .f32⟩
  | 62 => ⟨S30x2x1x1, .f32⟩
  | 63 => ⟨S30x2, .f32⟩
  | 64 => ⟨S4x2x528x512, .f32⟩
  | 65 => ⟨S4x528x512x30, .f32⟩
  | 66 => ⟨S4x30x528x512, .f32⟩
  | 67 => ⟨S4x30x528x512, .f32⟩
  | 68 => ⟨S30x2x1x1, .f32⟩
  | 69 => ⟨S30x2, .f32⟩
  | 70 => ⟨S4x2x528x512, .f32⟩
  | 71 => ⟨S4x528x512x30, .f32⟩
  | 72 => ⟨S4x30x528x512, .f32⟩
  | 73 => ⟨S4x30x528x512, .f32⟩
  | 74 => ⟨S30x2x1x1, .f32⟩
  | 75 => ⟨S30x2, .f32⟩
  | 76 => ⟨S4x2x528x512, .f32⟩
  | 77 => ⟨S4x528x512x30, .f32⟩
  | 78 => ⟨S4x30x528x512, .f32⟩
  | 79 => ⟨S4x30x528x512, .f32⟩
  | 80 => ⟨S30x2x1x1, .f32⟩
  | 81 => ⟨S30x2, .f32⟩
  | 82 => ⟨S4x2x528x512, .f32⟩
  | 83 => ⟨S4x528x512x30, .f32⟩
  | 84 => ⟨S4x30x528x512, .f32⟩
  | 85 => ⟨S4x30x528x512, .f32⟩
  | 86 => ⟨S30x2x1x1, .f32⟩
  | 87 => ⟨S30x2, .f32⟩
  | 88 => ⟨S4x2x528x512, .f32⟩
  | 89 => ⟨S4x528x512x30, .f32⟩
  | 90 => ⟨S4x30x528x512, .f32⟩
  | 91 => ⟨S4x30x528x512, .f32⟩
  | 92 => ⟨S30x2x1x1, .f32⟩
  | 93 => ⟨S30x2, .f32⟩
  | 94 => ⟨S4x2x528x512, .f32⟩
  | 95 => ⟨S4x528x512x30, .f32⟩
  | 96 => ⟨S4x30x528x512, .f32⟩
  | 97 => ⟨S4x30x528x512, .f32⟩
  | 98 => ⟨S30x2x1x1, .f32⟩
  | 99 => ⟨S30x2, .f32⟩
  | 100 => ⟨S4x2x528x512, .f32⟩
  | 101 => ⟨S4x528x512x30, .f32⟩
  | 102 => ⟨S4x30x528x512, .f32⟩
  | 103 => ⟨S4x30x528x512, .f32⟩
  | 104 => ⟨S30x2x1x1, .f32⟩
  | 105 => ⟨S30x2, .f32⟩
  | 106 => ⟨S4x2x528x512, .f32⟩
  | 107 => ⟨S4x528x512x30, .f32⟩
  | 108 => ⟨S4x30x528x512, .f32⟩
  | 109 => ⟨S4x30x528x512, .f32⟩
  | 110 => ⟨S30x2x1x1, .f32⟩
  | 111 => ⟨S30x2, .f32⟩
  | 112 => ⟨S4x2x528x512, .f32⟩
  | 113 => ⟨S4x528x512x30, .f32⟩
  | 114 => ⟨S4x30x528x512, .f32⟩
  | 115 => ⟨S4x30x528x512, .f32⟩
  | 116 => ⟨S30x2x1x1, .f32⟩
  | 117 => ⟨S30x2, .f32⟩
  | 118 => ⟨S4x2x528x512, .f32⟩
  | 119 => ⟨S4x528x512x30, .f32⟩
  | 120 => ⟨S4x30x528x512, .f32⟩
  | 121 => ⟨S4x30x528x512, .f32⟩
  | 122 => ⟨S30x2x1x1, .f32⟩
  | 123 => ⟨S30x2, .f32⟩
  | 124 => ⟨S4x2x528x512, .f32⟩
  | 125 => ⟨S4x528x512x30, .f32⟩
  | 126 => ⟨S4x30x528x512, .f32⟩
  | 127 => ⟨S4x30x528x512, .f32⟩
  | _ => ⟨S4x512x256, .f32⟩

abbrev hbmTy0_2 (i : Nat) : BufTy := match i % 128 with
  | 0 => ⟨S30x2x1x1, .f32⟩
  | 1 => ⟨S30x2, .f32⟩
  | 2 => ⟨S4x2x528x512, .f32⟩
  | 3 => ⟨S4x528x512x30, .f32⟩
  | 4 => ⟨S4x30x528x512, .f32⟩
  | 5 => ⟨S4x30x528x512, .f32⟩
  | 6 => ⟨S1x30x1x1, .f32⟩
  | 7 => ⟨S4x30x528x512, .f32⟩
  | 8 => ⟨S4x30x528x512, .f32⟩
  | 9 => ⟨S_, .f32⟩
  | 10 => ⟨S4x30x528x512, .f32⟩
  | 11 => ⟨S4x30x528x512, .f32⟩
  | 12 => ⟨S_, .i32⟩
  | 13 => ⟨S_, .f32⟩
  | 14 => ⟨S4x30x532x516, .f32⟩
  | 15 => ⟨S30x30x1x1, .f32⟩
  | 16 => ⟨S30x30, .f32⟩
  | 17 => ⟨S4x30x528x512, .f32⟩
  | 18 => ⟨S4x528x512x30, .f32⟩
  | 19 => ⟨S4x30x528x512, .f32⟩
  | 20 => ⟨S_, .f32⟩
  | 21 => ⟨S4x30x528x512, .f32⟩
  | 22 => ⟨S4x30x528x512, .f32⟩
  | 23 => ⟨S30x30x1x1, .f32⟩
  | 24 => ⟨S30x30, .f32⟩
  | 25 => ⟨S4x30x528x512, .f32⟩
  | 26 => ⟨S4x528x512x30, .f32⟩
  | 27 => ⟨S4x30x528x512, .f32⟩
  | 28 => ⟨S4x30x528x512, .f32⟩
  | 29 => ⟨S30x30x1x1, .f32⟩
  | 30 => ⟨S30x30, .f32⟩
  | 31 => ⟨S4x30x528x512, .f32⟩
  | 32 => ⟨S4x528x512x30, .f32⟩
  | 33 => ⟨S4x30x528x512, .f32⟩
  | 34 => ⟨S4x30x528x512, .f32⟩
  | 35 => ⟨S30x30x1x1, .f32⟩
  | 36 => ⟨S30x30, .f32⟩
  | 37 => ⟨S4x30x528x512, .f32⟩
  | 38 => ⟨S4x528x512x30, .f32⟩
  | 39 => ⟨S4x30x528x512, .f32⟩
  | 40 => ⟨S4x30x528x512, .f32⟩
  | 41 => ⟨S30x30x1x1, .f32⟩
  | 42 => ⟨S30x30, .f32⟩
  | 43 => ⟨S4x30x528x512, .f32⟩
  | 44 => ⟨S4x528x512x30, .f32⟩
  | 45 => ⟨S4x30x528x512, .f32⟩
  | 46 => ⟨S4x30x528x512, .f32⟩
  | 47 => ⟨S30x30x1x1, .f32⟩
  | 48 => ⟨S30x30, .f32⟩
  | 49 => ⟨S4x30x528x512, .f32⟩
  | 50 => ⟨S4x528x512x30, .f32⟩
  | 51 => ⟨S4x30x528x512, .f32⟩
  | 52 => ⟨S4x30x528x512, .f32⟩
  | 53 => ⟨S30x30x1x1, .f32⟩
  | 54 => ⟨S30x30, .f32⟩
  | 55 => ⟨S4x30x528x512, .f32⟩
  | 56 => ⟨S4x528x512x30, .f32⟩
  | 57 => ⟨S4x30x528x512, .f32⟩
  | 58 => ⟨S4x30x528x512, .f32⟩
  | 59 => ⟨S30x30x1x1, .f32⟩
  | 60 => ⟨S30x30, .f32⟩
  | 61 => ⟨S4x30x528x512, .f32⟩
  | 62 => ⟨S4x528x512x30, .f32⟩
  | 63 => ⟨S4x30x528x512, .f32⟩
  | 64 => ⟨S4x30x528x512, .f32⟩
  | 65 => ⟨S30x30x1x1, .f32⟩
  | 66 => ⟨S30x30, .f32⟩
  | 67 => ⟨S4x30x528x512, .f32⟩
  | 68 => ⟨S4x528x512x30, .f32⟩
  | 69 => ⟨S4x30x528x512, .f32⟩
  | 70 => ⟨S4x30x528x512, .f32⟩
  | 71 => ⟨S30x30x1x1, .f32⟩
  | 72 => ⟨S30x30, .f32⟩
  | 73 => ⟨S4x30x528x512, .f32⟩
  | 74 => ⟨S4x528x512x30, .f32⟩
  | 75 => ⟨S4x30x528x512, .f32⟩
  | 76 => ⟨S4x30x528x512, .f32⟩
  | 77 => ⟨S30x30x1x1, .f32⟩
  | 78 => ⟨S30x30, .f32⟩
  | 79 => ⟨S4x30x528x512, .f32⟩
  | 80 => ⟨S4x528x512x30, .f32⟩
  | 81 => ⟨S4x30x528x512, .f32⟩
  | 82 => ⟨S4x30x528x512, .f32⟩
  | 83 => ⟨S30x30x1x1, .f32⟩
  | 84 => ⟨S30x30, .f32⟩
  | 85 => ⟨S4x30x528x512, .f32⟩
  | 86 => ⟨S4x528x512x30, .f32⟩
  | 87 => ⟨S4x30x528x512, .f32⟩
  | 88 => ⟨S4x30x528x512, .f32⟩
  | 89 => ⟨S30x30x1x1, .f32⟩
  | 90 => ⟨S30x30, .f32⟩
  | 91 => ⟨S4x30x528x512, .f32⟩
  | 92 => ⟨S4x528x512x30, .f32⟩
  | 93 => ⟨S4x30x528x512, .f32⟩
  | 94 => ⟨S4x30x528x512, .f32⟩
  | 95 => ⟨S30x30x1x1, .f32⟩
  | 96 => ⟨S30x30, .f32⟩
  | 97 => ⟨S4x30x528x512, .f32⟩
  | 98 => ⟨S4x528x512x30, .f32⟩
  | 99 => ⟨S4x30x528x512, .f32⟩
  | 100 => ⟨S4x30x528x512, .f32⟩
  | 101 => ⟨S30x30x1x1, .f32⟩
  | 102 => ⟨S30x30, .f32⟩
  | 103 => ⟨S4x30x528x512, .f32⟩
  | 104 => ⟨S4x528x512x30, .f32⟩
  | 105 => ⟨S4x30x528x512, .f32⟩
  | 106 => ⟨S4x30x528x512, .f32⟩
  | 107 => ⟨S30x30x1x1, .f32⟩
  | 108 => ⟨S30x30, .f32⟩
  | 109 => ⟨S4x30x528x512, .f32⟩
  | 110 => ⟨S4x528x512x30, .f32⟩
  | 111 => ⟨S4x30x528x512, .f32⟩
  | 112 => ⟨S4x30x528x512, .f32⟩
  | 113 => ⟨S30x30x1x1, .f32⟩
  | 114 => ⟨S30x30, .f32⟩
  | 115 => ⟨S4x30x528x512, .f32⟩
  | 116 => ⟨S4x528x512x30, .f32⟩
  | 117 => ⟨S4x30x528x512, .f32⟩
  | 118 => ⟨S4x30x528x512, .f32⟩
  | 119 => ⟨S30x30x1x1, .f32⟩
  | 120 => ⟨S30x30, .f32⟩
  | 121 => ⟨S4x30x528x512, .f32⟩
  | 122 => ⟨S4x528x512x30, .f32⟩
  | 123 => ⟨S4x30x528x512, .f32⟩
  | 124 => ⟨S4x30x528x512, .f32⟩
  | 125 => ⟨S30x30x1x1, .f32⟩
  | 126 => ⟨S30x30, .f32⟩
  | 127 => ⟨S4x30x528x512, .f32⟩
  | _ => ⟨S4x512x256, .f32⟩

abbrev hbmTy0_3 (i : Nat) : BufTy := match i % 128 with
  | 0 => ⟨S4x528x512x30, .f32⟩
  | 1 => ⟨S4x30x528x512, .f32⟩
  | 2 => ⟨S4x30x528x512, .f32⟩
  | 3 => ⟨S30x30x1x1, .f32⟩
  | 4 => ⟨S30x30, .f32⟩
  | 5 => ⟨S4x30x528x512, .f32⟩
  | 6 => ⟨S4x528x512x30, .f32⟩
  | 7 => ⟨S4x30x528x512, .f32⟩
  | 8 => ⟨S4x30x528x512, .f32⟩
  | 9 => ⟨S30x30x1x1, .f32⟩
  | 10 => ⟨S30x30, .f32⟩
  | 11 => ⟨S4x30x528x512, .f32⟩
  | 12 => ⟨S4x528x512x30, .f32⟩
  | 13 => ⟨S4x30x528x512, .f32⟩
  | 14 => ⟨S4x30x528x512, .f32⟩
  | 15 => ⟨S30x30x1x1, .f32⟩
  | 16 => ⟨S30x30, .f32⟩
  | 17 => ⟨S4x30x528x512, .f32⟩
  | 18 => ⟨S4x528x512x30, .f32⟩
  | 19 => ⟨S4x30x528x512, .f32⟩
  | 20 => ⟨S4x30x528x512, .f32⟩
  | 21 => ⟨S30x30x1x1, .f32⟩
  | 22 => ⟨S30x30, .f32⟩
  | 23 => ⟨S4x30x528x512, .f32⟩
  | 24 => ⟨S4x528x512x30, .f32⟩
  | 25 => ⟨S4x30x528x512, .f32⟩
  | 26 => ⟨S4x30x528x512, .f32⟩
  | 27 => ⟨S30x30x1x1, .f32⟩
  | 28 => ⟨S30x30, .f32⟩
  | 29 => ⟨S4x30x528x512, .f32⟩
  | 30 => ⟨S4x528x512x30, .f32⟩
  | 31 => ⟨S4x30x528x512, .f32⟩
  | 32 => ⟨S4x30x528x512, .f32⟩
  | 33 => ⟨S30x30x1x1, .f32⟩
  | 34 => ⟨S30x30, .f32⟩
  | 35 => ⟨S4x30x528x512, .f32⟩
  | 36 => ⟨S4x528x512x30, .f32⟩
  | 37 => ⟨S4x30x528x512, .f32⟩
  | 38 => ⟨S4x30x528x512, .f32⟩
  | 39 => ⟨S1x30x1x1, .f32⟩
  | 40 => ⟨S4x30x528x512, .f32⟩
  | 41 => ⟨S4x30x528x512, .f32⟩
  | 42 => ⟨S_, .f32⟩
  | 43 => ⟨S4x30x528x512, .f32⟩
  | 44 => ⟨S4x30x528x512, .f32⟩
  | 45 => ⟨S_, .i32⟩
  | 46 => ⟨S_, .f32⟩
  | 47 => ⟨S4x30x530x514, .f32⟩
  | 48 => ⟨S1x30x1x1, .f32⟩
  | 49 => ⟨S1x30, .f32⟩
  | 50 => ⟨S4x30x528x512, .f32⟩
  | 51 => ⟨S4x528x512x1, .f32⟩
  | 52 => ⟨S4x1x528x512, .f32⟩
  | 53 => ⟨S_, .f32⟩
  | 54 => ⟨S4x1x528x512, .f32⟩
  | 55 => ⟨S4x1x528x512, .f32⟩
  | 56 => ⟨S1x30x1x1, .f32⟩
  | 57 => ⟨S1x30, .f32⟩
  | 58 => ⟨S4x30x528x512, .f32⟩
  | 59 => ⟨S4x528x512x1, .f32⟩
  | 60 => ⟨S4x1x528x512, .f32⟩
  | 61 => ⟨S4x1x528x512, .f32⟩
  | 62 => ⟨S1x30x1x1, .f32⟩
  | 63 => ⟨S1x30, .f32⟩
  | 64 => ⟨S4x30x528x512, .f32⟩
  | 65 => ⟨S4x528x512x1, .f32⟩
  | 66 => ⟨S4x1x528x512, .f32⟩
  | 67 => ⟨S4x1x528x512, .f32⟩
  | 68 => ⟨S1x30x1x1, .f32⟩
  | 69 => ⟨S1x30, .f32⟩
  | 70 => ⟨S4x30x528x512, .f32⟩
  | 71 => ⟨S4x528x512x1, .f32⟩
  | 72 => ⟨S4x1x528x512, .f32⟩
  | 73 => ⟨S4x1x528x512, .f32⟩
  | 74 => ⟨S1x30x1x1, .f32⟩
  | 75 => ⟨S1x30, .f32⟩
  | 76 => ⟨S4x30x528x512, .f32⟩
  | 77 => ⟨S4x528x512x1, .f32⟩
  | 78 => ⟨S4x1x528x512, .f32⟩
  | 79 => ⟨S4x1x528x512, .f32⟩
  | 80 => ⟨S1x30x1x1, .f32⟩
  | 81 => ⟨S1x30, .f32⟩
  | 82 => ⟨S4x30x528x512, .f32⟩
  | 83 => ⟨S4x528x512x1, .f32⟩
  | 84 => ⟨S4x1x528x512, .f32⟩
  | 85 => ⟨S4x1x528x512, .f32⟩
  | 86 => ⟨S1x30x1x1, .f32⟩
  | 87 => ⟨S1x30, .f32⟩
  | 88 => ⟨S4x30x528x512, .f32⟩
  | 89 => ⟨S4x528x512x1, .f32⟩
  | 90 => ⟨S4x1x528x512, .f32⟩
  | 91 => ⟨S4x1x528x512, .f32⟩
  | 92 => ⟨S1x30x1x1, .f32⟩
  | 93 => ⟨S1x30, .f32⟩
  | 94 => ⟨S4x30x528x512, .f32⟩
  | 95 => ⟨S4x528x512x1, .f32⟩
  | 96 => ⟨S4x1x528x512, .f32⟩
  | 97 => ⟨S4x1x528x512, .f32⟩
  | 98 => ⟨S1x30x1x1, .f32⟩
  | 99 => ⟨S1x30, .f32⟩
  | 100 => ⟨S4x30x528x512, .f32⟩
  | 101 => ⟨S4x528x512x1, .f32⟩
  | 102 => ⟨S4x1x528x512, .f32⟩
  | 103 => ⟨S4x1x528x512, .f32⟩
  | 104 => ⟨S1x1x1x1, .f32⟩
  | 105 => ⟨S4x1x528x512, .f32⟩
  | 106 => ⟨S4x1x528x512, .f32⟩
  | 107 => ⟨S4x1x512x512, .f32⟩
  | 108 => ⟨S4x512x512, .f32⟩
  | 109 => ⟨S4x512x512, .f32⟩
  | 110 => ⟨S4x512x512, .f32⟩
  | 111 => ⟨S_, .f32⟩
  | 112 => ⟨S4x512, .f32⟩
  | 113 => ⟨S_, .f32⟩
  | 114 => ⟨S4x512, .f32⟩
  | 115 => ⟨S4x512, .f32⟩
  | 116 => ⟨S4x512x1, .f32⟩
  | 117 => ⟨S4x512x512, .f32⟩
  | 118 => ⟨S4x512x512, .f32⟩
  | 119 => ⟨S4x512x512, .f32⟩
  | 120 => ⟨S_, .f32⟩
  | 121 => ⟨S4x512, .f32⟩
  | 122 => ⟨S4x512x1, .f32⟩
  | 123 => ⟨S4x512x512, .f32⟩
  | 124 => ⟨S4x512x512, .f32⟩
  | 125 => ⟨S4x262144, .f32⟩
  | 126 => ⟨S4x262144, .f32⟩
  | 127 => ⟨S_, .f32⟩
  | _ => ⟨S4x512x256, .f32⟩

abbrev hbmTy0_4 (i : Nat) : BufTy := match i % 128 with
  | 0 => ⟨S4, .f32⟩
  | 1 => ⟨S4x1, .f32⟩
  | 2 => ⟨S4x262144, .f32⟩
  | 3 => ⟨S4x262144, .f32⟩
  | 4 => ⟨S4x262144, .f32⟩
  | 5 => ⟨S4, .f32⟩
  | 6 => ⟨S2048x256, .f32⟩
  | 7 => ⟨S256x256, .f32⟩
  | 8 => ⟨S2048x256, .f32⟩
  | 9 => ⟨S1x256, .f32⟩
  | 10 => ⟨S2048x256, .f32⟩
  | 11 => ⟨S2048x256, .f32⟩
  | 12 => ⟨S_, .f32⟩
  | 13 => ⟨S2048x256, .f32⟩
  | 14 => ⟨S2048x256, .f32⟩
  | 15 => ⟨S256x256, .f32⟩
  | 16 => ⟨S2048x256, .f32⟩
  | 17 => ⟨S1x256, .f32⟩
  | 18 => ⟨S2048x256, .f32⟩
  | 19 => ⟨S2048x256, .f32⟩
  | 20 => ⟨S2048x256, .f32⟩
  | 21 => ⟨S_, .f32⟩
  | 22 => ⟨S2048, .f32⟩
  | 23 => ⟨S2048x1, .f32⟩
  | 24 => ⟨S2048x1, .f32⟩
  | 25 => ⟨S_, .f32⟩
  | 26 => ⟨S2048x1, .f32⟩
  | 27 => ⟨S2048x1, .f32⟩
  | 28 => ⟨S2048x256, .f32⟩
  | 29 => ⟨S2048x256, .f32⟩
  | 30 => ⟨S4x512x256, .f32⟩
  | _ => ⟨S4x512x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x512x256, .f32⟩

abbrev bufTy : (tb : Table) → Fin (tcTables nBuf tb) → BufTy
  | .hbm, ⟨i, _⟩ => hbmTy i
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_call1_v0 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_11 : Ref sig .tc := ⟨.hbm, 104, rfl⟩
abbrev main_call2_v0 : Ref sig .tc := ⟨.hbm, 105, rfl⟩
abbrev main_v73 : Ref sig .tc := ⟨.hbm, 106, rfl⟩
abbrev main_c_12 : Ref sig .tc := ⟨.hbm, 107, rfl⟩
abbrev main_call3_v0 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_13 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_call4_cst : Ref sig .tc := ⟨.hbm, 265, rfl⟩
abbrev main_call4_v0 : Ref sig .tc := ⟨.hbm, 266, rfl⟩
abbrev main_v229 : Ref sig .tc := ⟨.hbm, 267, rfl⟩
abbrev main_c_14 : Ref sig .tc := ⟨.hbm, 268, rfl⟩
abbrev main_call5_v0 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_cst_15 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩
abbrev main_v337 : Ref sig .tc := ⟨.hbm, 378, rfl⟩
abbrev main_v338 : Ref sig .tc := ⟨.hbm, 379, rfl⟩
abbrev main_v339 : Ref sig .tc := ⟨.hbm, 380, rfl⟩
abbrev main_v340 : Ref sig .tc := ⟨.hbm, 381, rfl⟩
abbrev main_v341 : Ref sig .tc := ⟨.hbm, 382, rfl⟩
abbrev main_v342 : Ref sig .tc := ⟨.hbm, 383, rfl⟩
abbrev main_v343 : Ref sig .tc := ⟨.hbm, 384, rfl⟩
abbrev main_v344 : Ref sig .tc := ⟨.hbm, 385, rfl⟩
abbrev main_v345 : Ref sig .tc := ⟨.hbm, 386, rfl⟩
abbrev main_v346 : Ref sig .tc := ⟨.hbm, 387, rfl⟩
abbrev main_v347 : Ref sig .tc := ⟨.hbm, 388, rfl⟩
abbrev main_v348 : Ref sig .tc := ⟨.hbm, 389, rfl⟩
abbrev main_v349 : Ref sig .tc := ⟨.hbm, 390, rfl⟩
abbrev main_v350 : Ref sig .tc := ⟨.hbm, 391, rfl⟩
abbrev main_v351 : Ref sig .tc := ⟨.hbm, 392, rfl⟩
abbrev main_v352 : Ref sig .tc := ⟨.hbm, 393, rfl⟩
abbrev main_v353 : Ref sig .tc := ⟨.hbm, 394, rfl⟩
abbrev main_v354 : Ref sig .tc := ⟨.hbm, 395, rfl⟩
abbrev main_v355 : Ref sig .tc := ⟨.hbm, 396, rfl⟩
abbrev main_v356 : Ref sig .tc := ⟨.hbm, 397, rfl⟩
abbrev main_v357 : Ref sig .tc := ⟨.hbm, 398, rfl⟩
abbrev main_v358 : Ref sig .tc := ⟨.hbm, 399, rfl⟩
abbrev main_v359 : Ref sig .tc := ⟨.hbm, 400, rfl⟩
abbrev main_v360 : Ref sig .tc := ⟨.hbm, 401, rfl⟩
abbrev main_v361 : Ref sig .tc := ⟨.hbm, 402, rfl⟩
abbrev main_v362 : Ref sig .tc := ⟨.hbm, 403, rfl⟩
abbrev main_v363 : Ref sig .tc := ⟨.hbm, 404, rfl⟩
abbrev main_v364 : Ref sig .tc := ⟨.hbm, 405, rfl⟩
abbrev main_v365 : Ref sig .tc := ⟨.hbm, 406, rfl⟩
abbrev main_v366 : Ref sig .tc := ⟨.hbm, 407, rfl⟩
abbrev main_v367 : Ref sig .tc := ⟨.hbm, 408, rfl⟩
abbrev main_v368 : Ref sig .tc := ⟨.hbm, 409, rfl⟩
abbrev main_v369 : Ref sig .tc := ⟨.hbm, 410, rfl⟩
abbrev main_v370 : Ref sig .tc := ⟨.hbm, 411, rfl⟩
abbrev main_v371 : Ref sig .tc := ⟨.hbm, 412, rfl⟩
abbrev main_v372 : Ref sig .tc := ⟨.hbm, 413, rfl⟩
abbrev main_v373 : Ref sig .tc := ⟨.hbm, 414, rfl⟩
abbrev main_v374 : Ref sig .tc := ⟨.hbm, 415, rfl⟩
abbrev main_v375 : Ref sig .tc := ⟨.hbm, 416, rfl⟩
abbrev main_v376 : Ref sig .tc := ⟨.hbm, 417, rfl⟩
abbrev main_v377 : Ref sig .tc := ⟨.hbm, 418, rfl⟩
abbrev main_v378 : Ref sig .tc := ⟨.hbm, 419, rfl⟩
abbrev main_v379 : Ref sig .tc := ⟨.hbm, 420, rfl⟩
abbrev main_v380 : Ref sig .tc := ⟨.hbm, 421, rfl⟩
abbrev main_v381 : Ref sig .tc := ⟨.hbm, 422, rfl⟩
abbrev main_v382 : Ref sig .tc := ⟨.hbm, 423, rfl⟩
abbrev main_v383 : Ref sig .tc := ⟨.hbm, 424, rfl⟩
abbrev main_v384 : Ref sig .tc := ⟨.hbm, 425, rfl⟩
abbrev main_call6_cst : Ref sig .tc := ⟨.hbm, 426, rfl⟩
abbrev main_call6_v0 : Ref sig .tc := ⟨.hbm, 427, rfl⟩
abbrev main_v385 : Ref sig .tc := ⟨.hbm, 428, rfl⟩
abbrev main_c_16 : Ref sig .tc := ⟨.hbm, 429, rfl⟩
abbrev main_call7_v0 : Ref sig .tc := ⟨.hbm, 430, rfl⟩
abbrev main_v386 : Ref sig .tc := ⟨.hbm, 431, rfl⟩
abbrev main_v387 : Ref sig .tc := ⟨.hbm, 432, rfl⟩
abbrev main_v388 : Ref sig .tc := ⟨.hbm, 433, rfl⟩
abbrev main_v389 : Ref sig .tc := ⟨.hbm, 434, rfl⟩
abbrev main_v390 : Ref sig .tc := ⟨.hbm, 435, rfl⟩
abbrev main_v391 : Ref sig .tc := ⟨.hbm, 436, rfl⟩
abbrev main_cst_17 : Ref sig .tc := ⟨.hbm, 437, rfl⟩
abbrev main_v392 : Ref sig .tc := ⟨.hbm, 438, rfl⟩
abbrev main_v393 : Ref sig .tc := ⟨.hbm, 439, rfl⟩
abbrev main_v394 : Ref sig .tc := ⟨.hbm, 440, rfl⟩
abbrev main_v395 : Ref sig .tc := ⟨.hbm, 441, rfl⟩
abbrev main_v396 : Ref sig .tc := ⟨.hbm, 442, rfl⟩
abbrev main_v397 : Ref sig .tc := ⟨.hbm, 443, rfl⟩
abbrev main_v398 : Ref sig .tc := ⟨.hbm, 444, rfl⟩
abbrev main_v399 : Ref sig .tc := ⟨.hbm, 445, rfl⟩
abbrev main_v400 : Ref sig .tc := ⟨.hbm, 446, rfl⟩
abbrev main_v401 : Ref sig .tc := ⟨.hbm, 447, rfl⟩
abbrev main_v402 : Ref sig .tc := ⟨.hbm, 448, rfl⟩
abbrev main_v403 : Ref sig .tc := ⟨.hbm, 449, rfl⟩
abbrev main_v404 : Ref sig .tc := ⟨.hbm, 450, rfl⟩
abbrev main_v405 : Ref sig .tc := ⟨.hbm, 451, rfl⟩
abbrev main_v406 : Ref sig .tc := ⟨.hbm, 452, rfl⟩
abbrev main_v407 : Ref sig .tc := ⟨.hbm, 453, rfl⟩
abbrev main_v408 : Ref sig .tc := ⟨.hbm, 454, rfl⟩
abbrev main_v409 : Ref sig .tc := ⟨.hbm, 455, rfl⟩
abbrev main_v410 : Ref sig .tc := ⟨.hbm, 456, rfl⟩
abbrev main_v411 : Ref sig .tc := ⟨.hbm, 457, rfl⟩
abbrev main_v412 : Ref sig .tc := ⟨.hbm, 458, rfl⟩
abbrev main_v413 : Ref sig .tc := ⟨.hbm, 459, rfl⟩
abbrev main_v414 : Ref sig .tc := ⟨.hbm, 460, rfl⟩
abbrev main_v415 : Ref sig .tc := ⟨.hbm, 461, rfl⟩
abbrev main_v416 : Ref sig .tc := ⟨.hbm, 462, rfl⟩
abbrev main_v417 : Ref sig .tc := ⟨.hbm, 463, rfl⟩
abbrev main_v418 : Ref sig .tc := ⟨.hbm, 464, rfl⟩
abbrev main_v419 : Ref sig .tc := ⟨.hbm, 465, rfl⟩
abbrev main_v420 : Ref sig .tc := ⟨.hbm, 466, rfl⟩
abbrev main_v421 : Ref sig .tc := ⟨.hbm, 467, rfl⟩
abbrev main_v422 : Ref sig .tc := ⟨.hbm, 468, rfl⟩
abbrev main_v423 : Ref sig .tc := ⟨.hbm, 469, rfl⟩
abbrev main_v424 : Ref sig .tc := ⟨.hbm, 470, rfl⟩
abbrev main_v425 : Ref sig .tc := ⟨.hbm, 471, rfl⟩
abbrev main_v426 : Ref sig .tc := ⟨.hbm, 472, rfl⟩
abbrev main_v427 : Ref sig .tc := ⟨.hbm, 473, rfl⟩
abbrev main_v428 : Ref sig .tc := ⟨.hbm, 474, rfl⟩
abbrev main_v429 : Ref sig .tc := ⟨.hbm, 475, rfl⟩
abbrev main_v430 : Ref sig .tc := ⟨.hbm, 476, rfl⟩
abbrev main_v431 : Ref sig .tc := ⟨.hbm, 477, rfl⟩
abbrev main_v432 : Ref sig .tc := ⟨.hbm, 478, rfl⟩
abbrev main_v433 : Ref sig .tc := ⟨.hbm, 479, rfl⟩
abbrev main_v434 : Ref sig .tc := ⟨.hbm, 480, rfl⟩
abbrev main_v435 : Ref sig .tc := ⟨.hbm, 481, rfl⟩
abbrev main_v436 : Ref sig .tc := ⟨.hbm, 482, rfl⟩
abbrev main_v437 : Ref sig .tc := ⟨.hbm, 483, rfl⟩
abbrev main_v438 : Ref sig .tc := ⟨.hbm, 484, rfl⟩
abbrev main_v439 : Ref sig .tc := ⟨.hbm, 485, rfl⟩
abbrev main_v440 : Ref sig .tc := ⟨.hbm, 486, rfl⟩
abbrev main_v441 : Ref sig .tc := ⟨.hbm, 487, rfl⟩
abbrev main_v442 : Ref sig .tc := ⟨.hbm, 488, rfl⟩
abbrev main_v443 : Ref sig .tc := ⟨.hbm, 489, rfl⟩
abbrev main_v444 : Ref sig .tc := ⟨.hbm, 490, rfl⟩
abbrev main_v445 : Ref sig .tc := ⟨.hbm, 491, rfl⟩
abbrev main_v446 : Ref sig .tc := ⟨.hbm, 492, rfl⟩
abbrev main_v447 : Ref sig .tc := ⟨.hbm, 493, rfl⟩
abbrev main_v448 : Ref sig .tc := ⟨.hbm, 494, rfl⟩
abbrev main_cst_18 : Ref sig .tc := ⟨.hbm, 495, rfl⟩
abbrev main_v449 : Ref sig .tc := ⟨.hbm, 496, rfl⟩
abbrev main_cst_19 : Ref sig .tc := ⟨.hbm, 497, rfl⟩
abbrev main_v450 : Ref sig .tc := ⟨.hbm, 498, rfl⟩
abbrev main_v451 : Ref sig .tc := ⟨.hbm, 499, rfl⟩
abbrev main_v452 : Ref sig .tc := ⟨.hbm, 500, rfl⟩
abbrev main_v453 : Ref sig .tc := ⟨.hbm, 501, rfl⟩
abbrev main_v454 : Ref sig .tc := ⟨.hbm, 502, rfl⟩
abbrev main_v455 : Ref sig .tc := ⟨.hbm, 503, rfl⟩
abbrev main_cst_20 : Ref sig .tc := ⟨.hbm, 504, rfl⟩
abbrev main_v456 : Ref sig .tc := ⟨.hbm, 505, rfl⟩
abbrev main_v457 : Ref sig .tc := ⟨.hbm, 506, rfl⟩
abbrev main_v458 : Ref sig .tc := ⟨.hbm, 507, rfl⟩
abbrev main_v459 : Ref sig .tc := ⟨.hbm, 508, rfl⟩
abbrev main_v460 : Ref sig .tc := ⟨.hbm, 509, rfl⟩
abbrev main_v461 : Ref sig .tc := ⟨.hbm, 510, rfl⟩
abbrev main_cst_21 : Ref sig .tc := ⟨.hbm, 511, rfl⟩
abbrev main_v462 : Ref sig .tc := ⟨.hbm, 512, rfl⟩
abbrev main_v463 : Ref sig .tc := ⟨.hbm, 513, rfl⟩
abbrev main_v464 : Ref sig .tc := ⟨.hbm, 514, rfl⟩
abbrev main_v465 : Ref sig .tc := ⟨.hbm, 515, rfl⟩
abbrev main_v466 : Ref sig .tc := ⟨.hbm, 516, rfl⟩
abbrev main_v467 : Ref sig .tc := ⟨.hbm, 517, rfl⟩
abbrev main_v468 : Ref sig .tc := ⟨.hbm, 518, rfl⟩
abbrev main_v469 : Ref sig .tc := ⟨.hbm, 519, rfl⟩
abbrev main_v470 : Ref sig .tc := ⟨.hbm, 520, rfl⟩
abbrev main_v471 : Ref sig .tc := ⟨.hbm, 521, rfl⟩
abbrev main_v472 : Ref sig .tc := ⟨.hbm, 522, rfl⟩
abbrev main_v473 : Ref sig .tc := ⟨.hbm, 523, rfl⟩
abbrev main_call8_cst : Ref sig .tc := ⟨.hbm, 524, rfl⟩
abbrev main_call8_v0 : Ref sig .tc := ⟨.hbm, 525, rfl⟩
abbrev main_v474 : Ref sig .tc := ⟨.hbm, 526, rfl⟩
abbrev main_v475 : Ref sig .tc := ⟨.hbm, 527, rfl⟩
abbrev main_v476 : Ref sig .tc := ⟨.hbm, 528, rfl⟩
abbrev main_v477 : Ref sig .tc := ⟨.hbm, 529, rfl⟩
abbrev main_v478 : Ref sig .tc := ⟨.hbm, 530, rfl⟩
abbrev main_v479 : Ref sig .tc := ⟨.hbm, 531, rfl⟩
abbrev main_call9_v0 : Ref sig .tc := ⟨.hbm, 532, rfl⟩
abbrev main_call9_cst : Ref sig .tc := ⟨.hbm, 533, rfl⟩
abbrev main_call9_v1 : Ref sig .tc := ⟨.hbm, 534, rfl⟩
abbrev main_call9_v2 : Ref sig .tc := ⟨.hbm, 535, rfl⟩
abbrev main_v480 : Ref sig .tc := ⟨.hbm, 536, rfl⟩
abbrev main_cst_22 : Ref sig .tc := ⟨.hbm, 537, rfl⟩
abbrev main_v481 : Ref sig .tc := ⟨.hbm, 538, rfl⟩
abbrev main_v482 : Ref sig .tc := ⟨.hbm, 539, rfl⟩
abbrev main_v483 : Ref sig .tc := ⟨.hbm, 540, rfl⟩
abbrev main_v484 : Ref sig .tc := ⟨.hbm, 541, rfl⟩
abbrev main_v485 : Ref sig .tc := ⟨.hbm, 542, rfl⟩

abbrev nD : Nat := 1
abbrev τ : Topo := Topo.v7x

variable {F : FTy → Type} [FloatOps F]
-- ==== Proof.KernelIdealMain.lean ====
/- The main call of KernelIdeal (region 1): one grid point of the body is run in its two cases (first row block of a batch entry, later row blocks), and what every output holds after each point is named, the carried accumulator included. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 8) — by arithmetic of the point. -/
theorem hcond1_0 : ∀ t : Fin cfg1.N, cond1_0 (grid1.coords t) ↔ t.val % 8 = 0 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [cond1_0, k1_cond1, e0, e1]
    word_cmp
   : ∀ t : Fin grid1.N, cond1_0 (grid1.coords t) ↔ t.val % 8 = 0)

/-- The condition of the body's `scf.if` 1 (`k1_h2`), from the grid coordinates (the skeleton's scalar
    chain substituted). -/
abbrev cond1_1 (i : grid1.Coords) : Prop := k1_cond2 i = 1#1
/-- It holds at the points whose coordinates have 1 ≤ i1 — by arithmetic of the point. -/
theorem hcond1_1 : ∀ t : Fin cfg1.N, cond1_1 (grid1.coords t) ↔ 1 ≤ t.val % 8 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [cond1_1, k1_cond2, e0, e1]
    word_cmp
   : ∀ t : Fin grid1.N, cond1_1 (grid1.coords t) ↔ 1 ≤ t.val % 8)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- Window 8 is never idle (an input). -/
theorem liveAt1_8 : ∀ t : Fin cfg1.N, cfg1.idle 8 (grid1.coords t) = false := fun _ => rfl
/-- Window 9 is never idle (an input). -/
theorem liveAt1_9 : ∀ t : Fin cfg1.N, cfg1.idle 9 (grid1.coords t) = false := fun _ => rfl
/-- Window 10 is never idle (an input). -/
theorem liveAt1_10 : ∀ t : Fin cfg1.N, cfg1.idle 10 (grid1.coords t) = false := fun _ => rfl
/-- Window 11 is never idle (an output stored at every point, under no condition). -/
theorem liveAt1_11 : ∀ t : Fin cfg1.N, cfg1.idle 11 (grid1.coords t) = false := fun _ => rfl
/-- Whether output 12's buffer is FRESH at each position `1 ‥ N` — holds nothing the body stored since the region's entry or the
    last write-back (written back at the point before, or idle there and fresh before it) —, as a bitmask the classifier
    computed, bit `n` for position `n + 1`; position 0 is fresh. `freshTab1_12_step` checks it against the configuration's own
    step point by point and Lib/Pipeline/TableIdle.lean `Cfg.fresh_tab` makes it `Cfg.fresh` (`fresh1_12_eq`). -/
def freshTab1_12 : ℕ → Bool
  | 0 => true
  | n + 1 => (0x80808080 : ℕ).testBit n
theorem freshTab1_12_step : ∀ t : Fin cfg1.N,
    freshTab1_12 (t.val + 1) = ((cfg1.win 12).flush t || (cfg1.idle 12 (cfg1.grid.coords t) && freshTab1_12 t.val)) := by decide +kernel
theorem fresh1_12_eq (t : Fin cfg1.N) : cfg1.fresh 12 t.val = freshTab1_12 t.val :=
  Pipeline.Cfg.fresh_tab cfg1 12 freshTab1_12 rfl freshTab1_12_step t.val (Nat.le_of_lt t.isLt)
/-- At the points of case A the printed configuration (`Cfg.idle`) calls output 12 live: the case stores into it. -/
theorem liveAt1_12_A : ∀ t : Fin cfg1.N, cond1_0 (grid1.coords t) → ¬cond1_1 (grid1.coords t) → cfg1.idle 12 (grid1.coords t) = false := by decide +kernel
/-- At the points of case B the printed configuration (`Cfg.idle`) calls output 12 live: the case stores into it. -/
theorem liveAt1_12_B : ∀ t : Fin cfg1.N, ¬cond1_0 (grid1.coords t) → cond1_1 (grid1.coords t) → cfg1.idle 12 (grid1.coords t) = false := by decide +kernel
/-- At the points of case B, which keeps output 12's prior contents (reads it before covering, or covers it in part), the
    window's buffer is not FRESH: something was stored into it since the region's entry or its last write-back, idle points
    between or not (Lib/Pipeline/TableIdle.lean `Cfg.fresh`, by the table `freshTab1_12`). -/
theorem notFresh1_12_B : ∀ t : Fin cfg1.N, ¬cond1_0 (grid1.coords t) → cond1_1 (grid1.coords t) → cfg1.fresh 12 t.val = false := by
  intro t; rw [fresh1_12_eq t]; revert t; decide +kernel

/-! ## The kernel body on any staging memrefs: a subtype the run finds -/

/-- One staging buffer of output window 11, through which its contents are stated (`View.read_writes_of_cover`: the
    choice does not matter). -/
abbrev VO1_11 : View sig .tc .vmem S1x64x512 .f32 := (Memref.whole cc1_stg11_0 : Memref sig .tc .vmem S1x64x512 .f32).view
/-- One staging buffer of output window 12, through which its contents are stated (`View.read_writes_of_cover`: the
    choice does not matter). -/
abbrev VO1_12 : View sig .tc .vmem S1x1x1 .f32 := (Memref.whole cc1_stg12_0 : Memref sig .tc .vmem S1x1x1 .f32).view
/-- Each window's current staging memref at point `t`, spelled as the pipeline passes it (`bodyAt1`), and its wholeness. -/
abbrev ms1_0 (t : Fin cfg1.N) : Memref sig .tc .vmem S1x528x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x528x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S40x160 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S160x160 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S32x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S96x24 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x64x512 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x1x1 .f32 := win1_12.stage (cfg1.slots t 12)
abbrev hs1_12 (t : Fin cfg1.N) : (ms1_12 t).IsWhole := hstage1_12 ((cfg1.slots t 12).cast nbuf1_12)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, 16, 24), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1x528x256 .f32) (harg2 : arg2.IsWhole) (arg3 : Memref sig .tc .vmem S1x512x256 .f32) (harg3 : arg3.IsWhole) (arg4 : Memref sig .tc .vmem S1x528x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S40x160 .bf16) (harg7 : arg7.IsWhole) (arg8 : Memref sig .tc .vmem S32x1 .f32) (harg8 : arg8.IsWhole) (arg9 : Memref sig .tc .vmem S160x160 .bf16) (harg9 : arg9.IsWhole) (arg10 : Memref sig .tc .vmem S32x1 .f32) (harg10 : arg10.IsWhole) (arg11 : Memref sig .tc .vmem S96x24 .bf16) (harg11 : arg11.IsWhole) (arg12 : Memref sig .tc .vmem S1x1 .f32) (harg12 : arg12.IsWhole) (arg13 : Memref sig .tc .vmem S1x64x512 .f32) (harg13 : arg13.IsWhole) (arg14 : Memref sig .tc .vmem S1x1x1 .f32) (harg14 : arg14.IsWhole) (hc0 : cond1_0 i) (hc1 : ¬cond1_1 i)
    (x0 : Vec F S1x528x256 .f32) (x1 : Vec F S1x512x256 .f32) (x2 : Vec F S1x528x1 .f32) (x3 : Vec F S1x1x512 .f32) (x4 : Vec F S1x1x512 .f32) (x5 : Vec F S40x160 .bf16) (x6 : Vec F S32x1 .f32) (x7 : Vec F S160x160 .bf16) (x8 : Vec F S32x1 .f32) (x9 : Vec F S96x24 .bf16) (x10 : Vec F S1x1 .f32) :
    Σ' (L11 : List (View.Piece (Elt F) S1x64x512 .f32)), { L12 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc1__main_body_eq_skeleton]; unfold cc1__main_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact H12

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 31: 28 of 32), WITH the
    proof that on whole staging memrefs — the inputs' at their contents, the outputs it reads before covering (12) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1x528x256 .f32) (harg2 : arg2.IsWhole) (arg3 : Memref sig .tc .vmem S1x512x256 .f32) (harg3 : arg3.IsWhole) (arg4 : Memref sig .tc .vmem S1x528x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S40x160 .bf16) (harg7 : arg7.IsWhole) (arg8 : Memref sig .tc .vmem S32x1 .f32) (harg8 : arg8.IsWhole) (arg9 : Memref sig .tc .vmem S160x160 .bf16) (harg9 : arg9.IsWhole) (arg10 : Memref sig .tc .vmem S32x1 .f32) (harg10 : arg10.IsWhole) (arg11 : Memref sig .tc .vmem S96x24 .bf16) (harg11 : arg11.IsWhole) (arg12 : Memref sig .tc .vmem S1x1 .f32) (harg12 : arg12.IsWhole) (arg13 : Memref sig .tc .vmem S1x64x512 .f32) (harg13 : arg13.IsWhole) (arg14 : Memref sig .tc .vmem S1x1x1 .f32) (harg14 : arg14.IsWhole) (hc0 : ¬cond1_0 i) (hc1 : cond1_1 i)
    (x0 : Vec F S1x528x256 .f32) (x1 : Vec F S1x512x256 .f32) (x2 : Vec F S1x528x1 .f32) (x3 : Vec F S1x1x512 .f32) (x4 : Vec F S1x1x512 .f32) (x5 : Vec F S40x160 .bf16) (x6 : Vec F S32x1 .f32) (x7 : Vec F S160x160 .bf16) (x8 : Vec F S32x1 .f32) (x9 : Vec F S96x24 .bf16) (x10 : Vec F S1x1 .f32) (xo12 : Vec F S1x1x1 .f32) :
    Σ' (L11 : List (View.Piece (Elt F) S1x64x512 .f32)), { L12 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xo12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc1__main_body_eq_skeleton]; unfold cc1__main_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact H12

/-- Case A's pieces for output 11 tile its block (1 store of `S1x64x512`, checked by the kernel's evaluation: Lib/Ring.lean `Piece.tiledL`, linear in the pieces, through a loop's `@[irreducible]` trip theorem too), so they cover it. -/
theorem cover1_A_11 (c : Dev nD) (i : grid1.Coords) (arg2 : Memref sig .tc .vmem S1x528x256 .f32) (harg2 : arg2.IsWhole) (arg3 : Memref sig .tc .vmem S1x512x256 .f32) (harg3 : arg3.IsWhole) (arg4 : Memref sig .tc .vmem S1x528x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S40x160 .bf16) (harg7 : arg7.IsWhole) (arg8 : Memref sig .tc .vmem S32x1 .f32) (harg8 : arg8.IsWhole) (arg9 : Memref sig .tc .vmem S160x160 .bf16) (harg9 : arg9.IsWhole) (arg10 : Memref sig .tc .vmem S32x1 .f32) (harg10 : arg10.IsWhole) (arg11 : Memref sig .tc .vmem S96x24 .bf16) (harg11 : arg11.IsWhole) (arg12 : Memref sig .tc .vmem S1x1 .f32) (harg12 : arg12.IsWhole) (arg13 : Memref sig .tc .vmem S1x64x512 .f32) (harg13 : arg13.IsWhole) (arg14 : Memref sig .tc .vmem S1x1x1 .f32) (harg14 : arg14.IsWhole) (hc0 : cond1_0 i) (hc1 : ¬cond1_1 i)
    (x0 : Vec F S1x528x256 .f32) (x1 : Vec F S1x512x256 .f32) (x2 : Vec F S1x528x1 .f32) (x3 : Vec F S1x1x512 .f32) (x4 : Vec F S1x1x512 .f32) (x5 : Vec F S40x160 .bf16) (x6 : Vec F S32x1 .f32) (x7 : Vec F S160x160 .bf16) (x8 : Vec F S32x1 .f32) (x9 : Vec F S96x24 .bf16) (x10 : Vec F S1x1 .f32) (y : S1x64x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).1 S1x64x512.size (by sl_kernel_rfl) y

/-- What case A leaves in output 11's staging buffer: its pieces read back over junk. -/
def out1_A_11 (c : Dev nD) (i : grid1.Coords) (arg2 : Memref sig .tc .vmem S1x528x256 .f32) (harg2 : arg2.IsWhole) (arg3 : Memref sig .tc .vmem S1x512x256 .f32) (harg3 : arg3.IsWhole) (arg4 : Memref sig .tc .vmem S1x528x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S40x160 .bf16) (harg7 : arg7.IsWhole) (arg8 : Memref sig .tc .vmem S32x1 .f32) (harg8 : arg8.IsWhole) (arg9 : Memref sig .tc .vmem S160x160 .bf16) (harg9 : arg9.IsWhole) (arg10 : Memref sig .tc .vmem S32x1 .f32) (harg10 : arg10.IsWhole) (arg11 : Memref sig .tc .vmem S96x24 .bf16) (harg11 : arg11.IsWhole) (arg12 : Memref sig .tc .vmem S1x1 .f32) (harg12 : arg12.IsWhole) (arg13 : Memref sig .tc .vmem S1x64x512 .f32) (harg13 : arg13.IsWhole) (arg14 : Memref sig .tc .vmem S1x1x1 .f32) (harg14 : arg14.IsWhole) (hc0 : cond1_0 i) (hc1 : ¬cond1_1 i)
    (x0 : Vec F S1x528x256 .f32) (x1 : Vec F S1x512x256 .f32) (x2 : Vec F S1x528x1 .f32) (x3 : Vec F S1x1x512 .f32) (x4 : Vec F S1x1x512 .f32) (x5 : Vec F S40x160 .bf16) (x6 : Vec F S32x1 .f32) (x7 : Vec F S160x160 .bf16) (x8 : Vec F S32x1 .f32) (x9 : Vec F S96x24 .bf16) (x10 : Vec F S1x1 .f32) : Vec F S1x64x512 .f32 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).1)

/-- Case A's pieces for output 12 tile its block (1 store of `S1x1x1`, checked by the kernel's evaluation: Lib/Ring.lean `Piece.tiledL`, linear in the pieces, through a loop's `@[irreducible]` trip theorem too), so they cover it. -/
theorem cover1_A_12 (c : Dev nD) (i : grid1.Coords) (arg2 : Memref sig .tc .vmem S1x528x256 .f32) (harg2 : arg2.IsWhole) (arg3 : Memref sig .tc .vmem S1x512x256 .f32) (harg3 : arg3.IsWhole) (arg4 : Memref sig .tc .vmem S1x528x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S40x160 .bf16) (harg7 : arg7.IsWhole) (arg8 : Memref sig .tc .vmem S32x1 .f32) (harg8 : arg8.IsWhole) (arg9 : Memref sig .tc .vmem S160x160 .bf16) (harg9 : arg9.IsWhole) (arg10 : Memref sig .tc .vmem S32x1 .f32) (harg10 : arg10.IsWhole) (arg11 : Memref sig .tc .vmem S96x24 .bf16) (harg11 : arg11.IsWhole) (arg12 : Memref sig .tc .vmem S1x1 .f32) (harg12 : arg12.IsWhole) (arg13 : Memref sig .tc .vmem S1x64x512 .f32) (harg13 : arg13.IsWhole) (arg14 : Memref sig .tc .vmem S1x1x1 .f32) (harg14 : arg14.IsWhole) (hc0 : cond1_0 i) (hc1 : ¬cond1_1 i)
    (x0 : Vec F S1x528x256 .f32) (x1 : Vec F S1x512x256 .f32) (x2 : Vec F S1x528x1 .f32) (x3 : Vec F S1x1x512 .f32) (x4 : Vec F S1x1x512 .f32) (x5 : Vec F S40x160 .bf16) (x6 : Vec F S32x1 .f32) (x7 : Vec F S160x160 .bf16) (x8 : Vec F S32x1 .f32) (x9 : Vec F S96x24 .bf16) (x10 : Vec F S1x1 .f32) (y : S1x1x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1 S1x1x1.size (by sl_kernel_rfl) y

/-- What case A leaves in output 12's staging buffer: its pieces read back over junk. -/
def out1_A_12 (c : Dev nD) (i : grid1.Coords) (arg2 : Memref sig .tc .vmem S1x528x256 .f32) (harg2 : arg2.IsWhole) (arg3 : Memref sig .tc .vmem S1x512x256 .f32) (harg3 : arg3.IsWhole) (arg4 : Memref sig .tc .vmem S1x528x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S40x160 .bf16) (harg7 : arg7.IsWhole) (arg8 : Memref sig .tc .vmem S32x1 .f32) (harg8 : arg8.IsWhole) (arg9 : Memref sig .tc .vmem S160x160 .bf16) (harg9 : arg9.IsWhole) (arg10 : Memref sig .tc .vmem S32x1 .f32) (harg10 : arg10.IsWhole) (arg11 : Memref sig .tc .vmem S96x24 .bf16) (harg11 : arg11.IsWhole) (arg12 : Memref sig .tc .vmem S1x1 .f32) (harg12 : arg12.IsWhole) (arg13 : Memref sig .tc .vmem S1x64x512 .f32) (harg13 : arg13.IsWhole) (arg14 : Memref sig .tc .vmem S1x1x1 .f32) (harg14 : arg14.IsWhole) (hc0 : cond1_0 i) (hc1 : ¬cond1_1 i)
    (x0 : Vec F S1x528x256 .f32) (x1 : Vec F S1x512x256 .f32) (x2 : Vec F S1x528x1 .f32) (x3 : Vec F S1x1x512 .f32) (x4 : Vec F S1x1x512 .f32) (x5 : Vec F S40x160 .bf16) (x6 : Vec F S32x1 .f32) (x7 : Vec F S160x160 .bf16) (x8 : Vec F S32x1 .f32) (x9 : Vec F S96x24 .bf16) (x10 : Vec F S1x1 .f32) : Vec F S1x1x1 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1)

/-- Case B's pieces for output 11 tile its block (1 store of `S1x64x512`, checked by the kernel's evaluation: Lib/Ring.lean `Piece.tiledL`, linear in the pieces, through a loop's `@[irreducible]` trip theorem too), so they cover it. -/
theorem cover1_B_11 (c : Dev nD) (i : grid1.Coords) (arg2 : Memref sig .tc .vmem S1x528x256 .f32) (harg2 : arg2.IsWhole) (arg3 : Memref sig .tc .vmem S1x512x256 .f32) (harg3 : arg3.IsWhole) (arg4 : Memref sig .tc .vmem S1x528x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S40x160 .bf16) (harg7 : arg7.IsWhole) (arg8 : Memref sig .tc .vmem S32x1 .f32) (harg8 : arg8.IsWhole) (arg9 : Memref sig .tc .vmem S160x160 .bf16) (harg9 : arg9.IsWhole) (arg10 : Memref sig .tc .vmem S32x1 .f32) (harg10 : arg10.IsWhole) (arg11 : Memref sig .tc .vmem S96x24 .bf16) (harg11 : arg11.IsWhole) (arg12 : Memref sig .tc .vmem S1x1 .f32) (harg12 : arg12.IsWhole) (arg13 : Memref sig .tc .vmem S1x64x512 .f32) (harg13 : arg13.IsWhole) (arg14 : Memref sig .tc .vmem S1x1x1 .f32) (harg14 : arg14.IsWhole) (hc0 : ¬cond1_0 i) (hc1 : cond1_1 i)
    (x0 : Vec F S1x528x256 .f32) (x1 : Vec F S1x512x256 .f32) (x2 : Vec F S1x528x1 .f32) (x3 : Vec F S1x1x512 .f32) (x4 : Vec F S1x1x512 .f32) (x5 : Vec F S40x160 .bf16) (x6 : Vec F S32x1 .f32) (x7 : Vec F S160x160 .bf16) (x8 : Vec F S32x1 .f32) (x9 : Vec F S96x24 .bf16) (x10 : Vec F S1x1 .f32) (xo12 : Vec F S1x1x1 .f32) (y : S1x64x512.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xo12).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xo12).1 S1x64x512.size (by sl_kernel_rfl) y

/-- What case B leaves in output 11's staging buffer: its pieces read back over junk. -/
def out1_B_11 (c : Dev nD) (i : grid1.Coords) (arg2 : Memref sig .tc .vmem S1x528x256 .f32) (harg2 : arg2.IsWhole) (arg3 : Memref sig .tc .vmem S1x512x256 .f32) (harg3 : arg3.IsWhole) (arg4 : Memref sig .tc .vmem S1x528x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S40x160 .bf16) (harg7 : arg7.IsWhole) (arg8 : Memref sig .tc .vmem S32x1 .f32) (harg8 : arg8.IsWhole) (arg9 : Memref sig .tc .vmem S160x160 .bf16) (harg9 : arg9.IsWhole) (arg10 : Memref sig .tc .vmem S32x1 .f32) (harg10 : arg10.IsWhole) (arg11 : Memref sig .tc .vmem S96x24 .bf16) (harg11 : arg11.IsWhole) (arg12 : Memref sig .tc .vmem S1x1 .f32) (harg12 : arg12.IsWhole) (arg13 : Memref sig .tc .vmem S1x64x512 .f32) (harg13 : arg13.IsWhole) (arg14 : Memref sig .tc .vmem S1x1x1 .f32) (harg14 : arg14.IsWhole) (hc0 : ¬cond1_0 i) (hc1 : cond1_1 i)
    (x0 : Vec F S1x528x256 .f32) (x1 : Vec F S1x512x256 .f32) (x2 : Vec F S1x528x1 .f32) (x3 : Vec F S1x1x512 .f32) (x4 : Vec F S1x1x512 .f32) (x5 : Vec F S40x160 .bf16) (x6 : Vec F S32x1 .f32) (x7 : Vec F S160x160 .bf16) (x8 : Vec F S32x1 .f32) (x9 : Vec F S96x24 .bf16) (x10 : Vec F S1x1 .f32) (xo12 : Vec F S1x1x1 .f32) : Vec F S1x64x512 .f32 :=
  VO1_11.read (Elt F) (VO1_11.writes (Elt F) VO1_11.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xo12).1)

/-- Case B's pieces for output 12 tile its block (1 store of `S1x1x1`, checked by the kernel's evaluation: Lib/Ring.lean `Piece.tiledL`, linear in the pieces, through a loop's `@[irreducible]` trip theorem too), so they cover it. -/
theorem cover1_B_12 (c : Dev nD) (i : grid1.Coords) (arg2 : Memref sig .tc .vmem S1x528x256 .f32) (harg2 : arg2.IsWhole) (arg3 : Memref sig .tc .vmem S1x512x256 .f32) (harg3 : arg3.IsWhole) (arg4 : Memref sig .tc .vmem S1x528x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S40x160 .bf16) (harg7 : arg7.IsWhole) (arg8 : Memref sig .tc .vmem S32x1 .f32) (harg8 : arg8.IsWhole) (arg9 : Memref sig .tc .vmem S160x160 .bf16) (harg9 : arg9.IsWhole) (arg10 : Memref sig .tc .vmem S32x1 .f32) (harg10 : arg10.IsWhole) (arg11 : Memref sig .tc .vmem S96x24 .bf16) (harg11 : arg11.IsWhole) (arg12 : Memref sig .tc .vmem S1x1 .f32) (harg12 : arg12.IsWhole) (arg13 : Memref sig .tc .vmem S1x64x512 .f32) (harg13 : arg13.IsWhole) (arg14 : Memref sig .tc .vmem S1x1x1 .f32) (harg14 : arg14.IsWhole) (hc0 : ¬cond1_0 i) (hc1 : cond1_1 i)
    (x0 : Vec F S1x528x256 .f32) (x1 : Vec F S1x512x256 .f32) (x2 : Vec F S1x528x1 .f32) (x3 : Vec F S1x1x512 .f32) (x4 : Vec F S1x1x512 .f32) (x5 : Vec F S40x160 .bf16) (x6 : Vec F S32x1 .f32) (x7 : Vec F S160x160 .bf16) (x8 : Vec F S32x1 .f32) (x9 : Vec F S96x24 .bf16) (x10 : Vec F S1x1 .f32) (xo12 : Vec F S1x1x1 .f32) (y : S1x1x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xo12).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xo12).2.1 S1x1x1.size (by sl_kernel_rfl) y

/-- What case B leaves in output 12's staging buffer: its pieces read back over junk. -/
def out1_B_12 (c : Dev nD) (i : grid1.Coords) (arg2 : Memref sig .tc .vmem S1x528x256 .f32) (harg2 : arg2.IsWhole) (arg3 : Memref sig .tc .vmem S1x512x256 .f32) (harg3 : arg3.IsWhole) (arg4 : Memref sig .tc .vmem S1x528x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S40x160 .bf16) (harg7 : arg7.IsWhole) (arg8 : Memref sig .tc .vmem S32x1 .f32) (harg8 : arg8.IsWhole) (arg9 : Memref sig .tc .vmem S160x160 .bf16) (harg9 : arg9.IsWhole) (arg10 : Memref sig .tc .vmem S32x1 .f32) (harg10 : arg10.IsWhole) (arg11 : Memref sig .tc .vmem S96x24 .bf16) (harg11 : arg11.IsWhole) (arg12 : Memref sig .tc .vmem S1x1 .f32) (harg12 : arg12.IsWhole) (arg13 : Memref sig .tc .vmem S1x64x512 .f32) (harg13 : arg13.IsWhole) (arg14 : Memref sig .tc .vmem S1x1x1 .f32) (harg14 : arg14.IsWhole) (hc0 : ¬cond1_0 i) (hc1 : cond1_1 i)
    (x0 : Vec F S1x528x256 .f32) (x1 : Vec F S1x512x256 .f32) (x2 : Vec F S1x528x1 .f32) (x3 : Vec F S1x1x512 .f32) (x4 : Vec F S1x1x512 .f32) (x5 : Vec F S40x160 .bf16) (x6 : Vec F S32x1 .f32) (x7 : Vec F S160x160 .bf16) (x8 : Vec F S32x1 .f32) (x9 : Vec F S96x24 .bf16) (x10 : Vec F S1x1 .f32) (xo12 : Vec F S1x1x1 .f32) : Vec F S1x1x1 .f32 :=
  VO1_12.read (Elt F) (VO1_12.writes (Elt F) VO1_12.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xo12).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S1x64x512 .f32 × Vec F S1x1x1 .f32
  | 0, hn => (out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩))
  | n + 1, hn =>
    if h0 : (n + 1) % 8 = 0 then
      if h1 : 1 ≤ (n + 1) % 8 then
        False.elim (by have hN : n + 1 < 32 := lt_of_lt_of_eq hn (show cfg1.N = 32 from N_1); omega)
      else
        (out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩))
    else
      if h1 : 1 ≤ (n + 1) % 8 then
        (out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2)
      else
        False.elim (by have hN : n + 1 < 32 := lt_of_lt_of_eq hn (show cfg1.N = 32 from N_1); omega)

/-- `outsAt1` at a point of case A: that case's contents. -/
theorem outsAt1_A (c : Dev nD) (t : Fin cfg1.N) (h0 : t.val % 8 = 0) (h1 : ¬1 ≤ t.val % 8) :
    outsAt1 V c t.val t.isLt = (out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : 1 ≤ t.val % 8) :
    outsAt1 V c t.val t.isLt = (out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt).1
    | ⟨12, _⟩ => (outsAt1 V c t.val t.isLt).2
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (outsAt1 V c t.val t.isLt).1 := by dsimp only [dat1]
theorem after1_12 (c : Dev nD) (t : Fin cfg1.N) : (dat1 V c).after 12 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-- Output 12's contents CARRY through the points that leave it idle: at such a point, its buffer not fresh, the proof data's
    `after` is the point before's (the case there stores nothing into the window and its term says so; a case that stores
    into it is not idle there by `liveAt1_12_κ`) — the hypothesis of Lib/Pipeline/TableIdle.lean `Dat.before_out_traj`. -/
theorem hcarry1_12 (c : Dev nD) : ∀ (t : Fin cfg1.N) (_ : t.val ≠ 0), cfg1.idle 12 (grid1.coords t) = true → cfg1.fresh 12 t.val = false →
    (dat1 V c).after 12 t = (dat1 V c).after 12 ⟨t.val - 1, by omega⟩ := by
  intro t _ hi _
  have hN : t.val < 32 := lt_of_lt_of_eq t.isLt (show cfg1.N = 32 from N_1)
  rw [after1_12, after1_12]
  by_cases h0 : t.val % 8 = 0
  · by_cases h1 : 1 ≤ t.val % 8
    · exfalso; omega
    · rw [liveAt1_12_A t ((hcond1_0 t).mpr h0) (fun h => h1 ((hcond1_1 t).mp h))] at hi
      exact absurd hi Bool.false_ne_true
  · by_cases h1 : 1 ≤ t.val % 8
    · rw [liveAt1_12_B t (fun h => h0 ((hcond1_0 t).mp h)) ((hcond1_1 t).mpr h1)] at hi
      exact absurd hi Bool.false_ne_true
    · exfalso; omega
/-- At a point of case B output 12's current staging buffer holds what the point before left: the buffer is not fresh
    there (`notFresh1_12_B`: stored into since the region's entry or the last write-back, carried through the points that
    leave it idle by `hcarry1_12`; Lib/Pipeline/TableIdle.lean `Dat.before_out_traj`). -/
theorem before1_12_B (c : Dev nD) (t : Fin cfg1.N) (h0 : ¬t.val % 8 = 0) (h1 : 1 ≤ t.val % 8) (d) :
    (dat1 V c).before 12 t d = (outsAt1 V c (t.val - 1) (Nat.lt_of_le_of_lt (Nat.sub_le _ _) t.isLt)).2 := by
  rw [Dat.before_out_traj _ 12 rfl (fun _ _ => rfl) (hcarry1_12 V c) t.val t rfl d,
    if_neg (by rw [notFresh1_12_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 2400000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl]
  have hN : t.val < 32 := lt_of_lt_of_eq t.isLt (show cfg1.N = 32 from N_1)
  by_cases h0 : t.val % 8 = 0
  · by_cases h1 : 1 ≤ t.val % 8
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11 t], after1_11]
      rw [show (dat1 V c).leavesExact 12 t = owns (c : Thread nD τ) (ms1_12 t) fullShare ((dat1 V c).after 12 t) from by
      unfold Dat.leavesExact; rw [liveAt1_12_A t ((hcond1_0 t).mpr h0) (fun h => h1 ((hcond1_1 t).mp h))], after1_12]
      rw [outsAt1_A V c t h0 h1]
      unfold out1_A_11 out1_A_12; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_A c (grid1.coords t) _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iintro ⟨H0, H1, H2, H3, H4, H5, H6, H7, H8, H9, H10, ⟨%e11, H11⟩, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover1_A_12 c _ _ _ _ _ _ _ _ _ _ _ _ _ _ _ _ _ _ _ _ _ _ _ _ _ _ _ _ _ _ _ _ _ _ _ _ _ _ _ _)
  · by_cases h1 : 1 ≤ t.val % 8
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11 t], after1_11]
      rw [show (dat1 V c).leavesExact 12 t = owns (c : Thread nD τ) (ms1_12 t) fullShare ((dat1 V c).after 12 t) from by
      unfold Dat.leavesExact; rw [liveAt1_12_B t (fun h => h0 ((hcond1_0 t).mp h)) ((hcond1_1 t).mpr h1)], after1_12]
      rw [outsAt1_B V c t h0 h1]
      simp only [before1_12_B V c t h0 h1]
      unfold out1_B_11 out1_B_12; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_B c (grid1.coords t) _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      iintro ⟨H0, H1, H2, H3, H4, H5, H6, H7, H8, H9, H10, ⟨%e11, H11⟩, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover1_B_12 c _ _ _ _ _ _ _ _ _ _ _ _ _ _ _ _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.TileOut.lean ====
/- What the main call's body leaves in the alignment block at a grid point, as the printed operations of its input
   blocks, and the alignment array after the call read at an index. -/
module

public import proofs.«01_k».proof.Proof.KernelIdealMain
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- The alignment block of one grid point, from the input blocks: the last payload over the body's loads. -/
def tileOf (i : grid1.Coords) (x0 : Vec Ideal S1x528x256 .f32) (x1 : Vec Ideal S1x512x256 .f32) (x2 : Vec Ideal S1x528x1 .f32)
    (x3 x4 : Vec Ideal S1x1x512 .f32) (x5 : Vec Ideal S40x160 .bf16) (x6 : Vec Ideal S32x1 .f32) (x7 : Vec Ideal S160x160 .bf16)
    (x8 : Vec Ideal S32x1 .f32) (x9 : Vec Ideal S96x24 .bf16) (x10 : Vec Ideal S1x1 .f32) : Vec Ideal S1x64x512 .f32 :=
  k1_pay18
    (k1_pay10 (k1_pay7 i) (k1_pay8 (View.ld x0 (Rect.unit (s := S1x528x256) (k1_off1 i) S1x80x256.size (k1_off1_inb i))) x1)
      (k1_pay9 (View.ld x0 (Rect.unit (s := S1x528x256) (k1_off1 i) S1x80x256.size (k1_off1_inb i))) x4))
    (k1_pay13 x8) (k1_pay15 k1_pay11)
    (k1_pay16 k1_pay11 (k1_pay12 x6)
      (k1_pay14 (k1_pay5 (View.ld x2 (Rect.unit (s := S1x528x1) (k1_off2 i) S1x80x1.size (k1_off2_inb i)))) (k1_pay6 x3) (k1_pay7 i)
        (k1_pay8 (View.ld x0 (Rect.unit (s := S1x528x256) (k1_off1 i) S1x80x256.size (k1_off1_inb i))) x1)
        (k1_pay9 (View.ld x0 (Rect.unit (s := S1x528x256) (k1_off1 i) S1x80x256.size (k1_off1_inb i))) x4))
      x5 x7)
    x9 x10

variable (V : (c : Dev nD) → (b : Ref sig .tc) → Buf (Elt Ideal) ((c : Thread nD τ).loc b))

/-- The block point `t` computes, at the blocks of the arrays. -/
def tileAt (c : Dev nD) (t : Fin cfg1.N) : Vec Ideal S1x64x512 .f32 :=
  tileOf (grid1.coords t) (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t)

theorem outsAt1_fst (c : Dev nD) (t : Fin cfg1.N) : (outsAt1 V c t.val t.isLt).1 = tileAt V c t := by
  by_cases h0 : t.val % 8 = 0
  · rw [outsAt1_A V c t h0 (by omega)]
    frame_out
    rfl
  · rw [outsAt1_B V c t h0 (by omega)]
    frame_out
    rfl

/-- The grid point whose block holds row `q` of batch member `b`. -/
def pointOf (b : Fin 4) (q : Fin 512) : Fin cfg1.N := ⟨b.val * 8 + q.val / 64, by
  show _ < 32
  omega⟩

theorem index1_11 : ∀ t : Fin cfg1.N, win1_11.index t = ![t.val / 8, t.val % 8, 0] := by decide +kernel

/-- The alignment array after the call. -/
theorem arr11 (c : Dev nD) : (dat1 V c).arrAt 11 cfg1.N =
    fun i : S4x512x512.Idx => tileAt V c (pointOf (i 0) (i 1)) (ix3 (0 : Fin 1) (⟨(i 1).val % 64, Nat.mod_lt _ (by decide)⟩ : Fin 64) (i 2)) := by
  refine (dat1 V c).arrAt_eq_of_covers 11 _ (by decide +kernel) fun t hf y => ?_
  blk_simp
  rw [after1_11, outsAt1_fst]
  have ht : t.val < 32 := t.isLt
  have h0 : ((win1_11.blk t).view.emb y 0).val = t.val / 8 := by
    have hy : (y 0).val < 1 := (y 0).isLt
    blk_simp [index1_11]
  have h1 : ((win1_11.blk t).view.emb y 1).val = t.val % 8 * 64 + (y 1).val := by
    blk_simp [index1_11]
  have h2 : ((win1_11.blk t).view.emb y 2).val = (y 2).val := by
    blk_simp [index1_11]
  have hy1 : (y 1).val < 64 := (y 1).isLt
  have hp : pointOf ((win1_11.blk t).view.emb y 0) ((win1_11.blk t).view.emb y 1) = t := by
    apply Fin.ext
    show ((win1_11.blk t).view.emb y 0).val * 8 + ((win1_11.blk t).view.emb y 1).val / 64 = t.val
    omega
  rw [hp]
  congr 1
  funext a
  apply Fin.ext
  have e : win1_11.index t 1 = t.val % 8 := by rw [index1_11]; rfl
  fin_cases a
  · have hy : (y 0).val < 1 := (y 0).isLt
    show (y 0).val = 0
    omega
  · show (y 1).val = (win1_11.index t 1 * 64 + (y 1).val) % 64
    omega
  · exact h2.symm

end Cert.KernelIdeal.Hand

end
-- ==== Proof.TilePay.lean ====
/- The main call's convolution stages read at an index: each stage is a product with the packed weights, the sum of five
   (or three) of its row bands turned along the flat image, and the bias. -/
module

public import proofs.«01_k».proof.Proof.Gen.KernelIdeal.Skeleton
public import Idealize.ShloMosaic.Lib.Pipeline.ValueKit
public import Idealize.ShloMosaic.Lib.KernelVsHost

@[expose] public section

set_option maxRecDepth 16384

noncomputable section

namespace Cert.KernelIdeal.Hand

open Cert.KernelIdeal Cert.KernelIdeal.Gen Idealize.ShloMosaic Idealize.ShloMosaic.TcCoe Idealize.SL.Sem

/-- A turn of a matrix's rows read at an index: the entry `s` lanes before, around the row. -/
theorem turn_apply {K M : Nat} (sb : BitVec 32) (s : Nat) (x : (⟨2, ![K, M]⟩ : Shape).Idx → EReal)
    (h : (⟨2, ![K, M]⟩ : Shape).Rotates 1 none) (hsb : sb.toNat % M = s) (hM : 0 < M) (o : Fin K) (n : Fin M) :
    dynamicRotate 1 sb none x h (ix2 o n) = x (ix2 o (⟨(n.val + M - s) % M, Nat.mod_lt _ hM⟩ : Fin M)) := by
  refine dynamicRotate_apply (1 : Fin 2) sb x h (ix2 o n) _ fun b => ?_
  match b with
  | ⟨0, _⟩ => rfl
  | ⟨1, _⟩ =>
    show (n.val + M - s) % M = (n.val + M - sb.toNat % M) % M
    rw [hsb]

/-- A band of a matrix's rows read at an index. -/
theorem band_apply {K K' M : Nat} (r : Nat) (x : (⟨2, ![K', M]⟩ : Shape).Idx → EReal)
    (h : (⟨2, ![K', M]⟩ : Shape).Slices ![r, 0] ⟨2, ![K, M]⟩) (o : Fin K) (n : Fin M) (q : Fin K') (hq : q.val = r + o.val) :
    extractStridedSlice ⟨2, ![K, M]⟩ ![r, 0] x h (ix2 o n) = x (ix2 q n) := by
  refine extractStridedSlice_apply ![r, 0] x h (ix2 o n) (ix2 q n) fun a => ?_
  match a with
  | ⟨0, _⟩ => exact hq
  | ⟨1, _⟩ => show n.val = 0 + n.val; omega

/-- A turned band read at an index. -/
theorem turned_apply {K K' M : Nat} (sb : BitVec 32) (s r : Nat) (x : (⟨2, ![K', M]⟩ : Shape).Idx → EReal)
    (h : (⟨2, ![K', M]⟩ : Shape).Slices ![r, 0] ⟨2, ![K, M]⟩) (hr : (⟨2, ![K, M]⟩ : Shape).Rotates 1 none)
    (hsb : sb.toNat % M = s) (hM : 0 < M) (o : Fin K) (n : Fin M) (q : Fin K') (m : Fin M) (hq : q.val = r + o.val)
    (hm : m.val = (n.val + M - s) % M) :
    dynamicRotate 1 sb none (extractStridedSlice ⟨2, ![K, M]⟩ ![r, 0] x h) hr (ix2 o n) = x (ix2 q m) := by
  rw [turn_apply sb s _ _ hsb hM, band_apply r x h o _ q hq]
  congr 2
  exact Fin.ext hm.symm

/-- The first stage's product of the packed weights with the stacked image. -/
def dotOne (w : FVec Ideal S40x160 .bf16) (x : FVec Ideal S40x48640 .bf16) : FVec Ideal S160x48640 .f32 :=
  matmul dot_S40x160_S40x48640_S160x48640_0_0_1_1_n_n none (shapeCast S40x160 w shapeCasts_S40x160_S40x160) x
    (constant S160x48640 .f32 0x00000000#32)

theorem dotOne_apply (w : FVec Ideal S40x160 .bf16) (x : FVec Ideal S40x48640 .bf16) (r : Fin 160) (n : Fin 48640) :
    dotOne w x (ix2 r n) = ∑ k : Fin 40, w (ix2 k r) * x (ix2 k n) := by
  pointwise [dotOne]

/-- The first stage's five bands added, its bias, its rectifier and the column mask. -/
def sumOne (v73 : FVec Ideal S1x48640 .f32) (v75 : FVec Ideal S32x1 .f32) (b0 b1 b2 b3 b4 : FVec Ideal S32x48640 .f32) :
    FVec Ideal S32x48640 .f32 :=
  mulf (maximumf (addf (addf (addf (addf (addf b0 b1) b2) b3) b4) (broadcastTo S32x48640 v75 broadcasts_S32x1_S32x48640))
      (broadcast S32x48640 (Scalar.ofBits .f32 0x00000000#32)))
    (broadcastTo S32x48640 v73 broadcasts_S1x48640_S32x48640)

theorem sumOne_apply (v73 : FVec Ideal S1x48640 .f32) (v75 : FVec Ideal S32x1 .f32) (b0 b1 b2 b3 b4 : FVec Ideal S32x48640 .f32)
    (o : Fin 32) (n : Fin 48640) : sumOne v73 v75 b0 b1 b2 b3 b4 (ix2 o n) =
      max (b0 (ix2 o n) + b1 (ix2 o n) + b2 (ix2 o n) + b3 (ix2 o n) + b4 (ix2 o n) + v75 (ix2 o 0)) 0 * v73 (ix2 0 n) := by
  pointwise [sumOne]

/-- The first stage's image, from its product. -/
def actOne (v73 : FVec Ideal S1x48640 .f32) (v75 : FVec Ideal S32x1 .f32) (v86 : FVec Ideal S160x48640 .f32) :
    FVec Ideal S32x48640 .f32 :=
  sumOne v73 v75
    (dynamicRotate 1 2#32 none (extractStridedSlice S32x48640 ![0, 0] v86 slices_S160x48640_o0_0_S32x48640) rotates_S32x48640_d1)
    (dynamicRotate 1 1#32 none (extractStridedSlice S32x48640 ![32, 0] v86 slices_S160x48640_o32_0_S32x48640) rotates_S32x48640_d1)
    (extractStridedSlice S32x48640 ![64, 0] v86 slices_S160x48640_o64_0_S32x48640)
    (dynamicRotate 1 48639#32 none (extractStridedSlice S32x48640 ![96, 0] v86 slices_S160x48640_o96_0_S32x48640) rotates_S32x48640_d1)
    (dynamicRotate 1 48638#32 none (extractStridedSlice S32x48640 ![128, 0] v86 slices_S160x48640_o128_0_S32x48640) rotates_S32x48640_d1)

theorem actOne_apply (v73 : FVec Ideal S1x48640 .f32) (v75 : FVec Ideal S32x1 .f32) (v86 : FVec Ideal S160x48640 .f32)
    (o : Fin 32) (n : Fin 48640) : actOne v73 v75 v86 (ix2 o n) =
      max (∑ dx : Fin 5, v86 (ix2 (⟨32 * dx.val + o.val, by omega⟩ : Fin 160) (⟨(n.val + dx.val + 48638) % 48640, Nat.mod_lt _ (by omega)⟩ : Fin 48640))
        + v75 (ix2 o 0)) 0 * v73 (ix2 0 n) := by
  have hn := n.isLt
  have hm : (⟨(n.val + 2 + 48638) % 48640, Nat.mod_lt _ (by omega)⟩ : Fin 48640) = n := Fin.ext (by show (n.val + 2 + 48638) % 48640 = n.val; omega)
  have e0 := turned_apply 2#32 2 0 v86 slices_S160x48640_o0_0_S32x48640 rotates_S32x48640_d1 (by decide) (by decide) o n (⟨32 * 0 + o.val, by omega⟩ : Fin 160) (⟨(n.val + 0 + 48638) % 48640, Nat.mod_lt _ (by omega)⟩ : Fin 48640) rfl (by show (n.val + 0 + 48638) % 48640 = (n.val + 48640 - 2) % 48640; omega)
  have e1 := turned_apply 1#32 1 32 v86 slices_S160x48640_o32_0_S32x48640 rotates_S32x48640_d1 (by decide) (by decide) o n (⟨32 * 1 + o.val, by omega⟩ : Fin 160) (⟨(n.val + 1 + 48638) % 48640, Nat.mod_lt _ (by omega)⟩ : Fin 48640) rfl (by show (n.val + 1 + 48638) % 48640 = (n.val + 48640 - 1) % 48640; omega)
  have e2 := band_apply 64 v86 slices_S160x48640_o64_0_S32x48640 o n (⟨32 * 2 + o.val, by omega⟩ : Fin 160) (by show 32 * 2 + o.val = 64 + o.val; omega)
  have e3 := turned_apply 48639#32 48639 96 v86 slices_S160x48640_o96_0_S32x48640 rotates_S32x48640_d1 (by decide) (by decide) o n (⟨32 * 3 + o.val, by omega⟩ : Fin 160) (⟨(n.val + 3 + 48638) % 48640, Nat.mod_lt _ (by omega)⟩ : Fin 48640) rfl (by show (n.val + 3 + 48638) % 48640 = (n.val + 48640 - 48639) % 48640; omega)
  have e4 := turned_apply 48638#32 48638 128 v86 slices_S160x48640_o128_0_S32x48640 rotates_S32x48640_d1 (by decide) (by decide) o n (⟨32 * 4 + o.val, by omega⟩ : Fin 160) (⟨(n.val + 4 + 48638) % 48640, Nat.mod_lt _ (by omega)⟩ : Fin 48640) rfl (by show (n.val + 4 + 48638) % 48640 = (n.val + 48640 - 48638) % 48640; omega)
  rw [actOne, sumOne_apply, e0, e1, e2, e3, e4, Fin.sum_univ_five]
  exact congrArg (fun m => max (_ + _ + v86 (ix2 _ m) + _ + _ + _) 0 * _) hm.symm

/-- The second stage's stack of five shifted copies of the first stage's image. -/
def stackTwo (v106 : FVec Ideal S32x48640 .bf16) : FVec Ideal S160x46080 .bf16 :=
  concatenate S160x46080 0 [⟨S32x46080, extractStridedSlice S32x46080 ![0, 0] v106 slices_S32x48640_o0_0_S32x46080⟩,
    ⟨S32x46080, extractStridedSlice S32x46080 ![0, 640] v106 slices_S32x48640_o0_640_S32x46080⟩,
    ⟨S32x46080, extractStridedSlice S32x46080 ![0, 1280] v106 slices_S32x48640_o0_1280_S32x46080⟩,
    ⟨S32x46080, extractStridedSlice S32x46080 ![0, 1920] v106 slices_S32x48640_o0_1920_S32x46080⟩,
    ⟨S32x46080, extractStridedSlice S32x46080 ![0, 2560] v106 slices_S32x48640_o0_2560_S32x46080⟩]
    concatenates_S32x46080_S32x46080_S32x46080_S32x46080_S32x46080_S160x46080_d0

theorem stackTwo_apply (v : FVec Ideal S32x48640 .bf16) (dy : Fin 5) (o : Fin 32) (n : Fin 46080) :
    stackTwo v (ix2 (⟨32 * dy.val + o.val, by omega⟩ : Fin 160) n) = v (ix2 o (⟨640 * dy.val + n.val, by omega⟩ : Fin 48640)) := by
  have ho := o.isLt
  fin_cases dy <;> pointwise [stackTwo]
  · rw [dif_neg (by omega), dif_neg (by omega), dif_pos (by omega)]
    congr 2
    apply Fin.ext; show 64 + o.val - 32 - 32 = o.val; omega
  · rw [dif_neg (by omega), dif_neg (by omega), dif_neg (by omega), dif_pos (by omega)]
    congr 2
    apply Fin.ext; show 96 + o.val - 32 - 32 - 32 = o.val; omega
  · rw [dif_neg (by omega), dif_neg (by omega), dif_neg (by omega), dif_neg (by omega)]
    congr 2
    apply Fin.ext; show 128 + o.val - 32 - 32 - 32 - 32 = o.val; omega

/-- The second stage's product of the packed weights with the stacked image. -/
def dotTwo (w : FVec Ideal S160x160 .bf16) (x : FVec Ideal S160x46080 .bf16) : FVec Ideal S160x46080 .f32 :=
  matmul dot_S160x160_S160x46080_S160x46080_0_0_1_1_n_n none (shapeCast S160x160 w shapeCasts_S160x160_S160x160) x
    (constant S160x46080 .f32 0x00000000#32)

theorem dotTwo_apply (w : FVec Ideal S160x160 .bf16) (x : FVec Ideal S160x46080 .bf16) (r : Fin 160) (n : Fin 46080) :
    dotTwo w x (ix2 r n) = ∑ k : Fin 160, w (ix2 k r) * x (ix2 k n) := by
  pointwise [dotTwo]

/-- The second stage's bands added. -/
def sumTwo (b0 b1 b2 b3 b4 : FVec Ideal S32x46080 .f32) : FVec Ideal S32x46080 .f32 :=
  addf (addf (addf (addf b0 b1) b2) b3) b4

/-- The second stage's bands turned and added. -/
def turnTwo (v116 : FVec Ideal S160x46080 .f32) : FVec Ideal S32x46080 .f32 :=
  sumTwo
    (dynamicRotate 1 2#32 none (extractStridedSlice S32x46080 ![0, 0] v116 slices_S160x46080_o0_0_S32x46080) rotates_S32x46080_d1)
    (dynamicRotate 1 1#32 none (extractStridedSlice S32x46080 ![32, 0] v116 slices_S160x46080_o32_0_S32x46080) rotates_S32x46080_d1)
    (extractStridedSlice S32x46080 ![64, 0] v116 slices_S160x46080_o64_0_S32x46080)
    (dynamicRotate 1 46079#32 none (extractStridedSlice S32x46080 ![96, 0] v116 slices_S160x46080_o96_0_S32x46080) rotates_S32x46080_d1)
    (dynamicRotate 1 46078#32 none (extractStridedSlice S32x46080 ![128, 0] v116 slices_S160x46080_o128_0_S32x46080) rotates_S32x46080_d1)

theorem turnTwo_apply (v : FVec Ideal S160x46080 .f32) (o : Fin 32) (n : Fin 46080) : turnTwo v (ix2 o n) =
    ∑ dx : Fin 5, v (ix2 (⟨32 * dx.val + o.val, by omega⟩ : Fin 160) (⟨(n.val + dx.val + 46078) % 46080, Nat.mod_lt _ (by omega)⟩ : Fin 46080)) := by
  have hn := n.isLt
  have hm : (⟨(n.val + 2 + 46078) % 46080, Nat.mod_lt _ (by omega)⟩ : Fin 46080) = n := Fin.ext (by show (n.val + 2 + 46078) % 46080 = n.val; omega)
  have e0 := turned_apply 2#32 2 0 v slices_S160x46080_o0_0_S32x46080 rotates_S32x46080_d1 (by decide) (by decide) o n (⟨32 * 0 + o.val, by omega⟩ : Fin 160) (⟨(n.val + 0 + 46078) % 46080, Nat.mod_lt _ (by omega)⟩ : Fin 46080) rfl (by show (n.val + 0 + 46078) % 46080 = (n.val + 46080 - 2) % 46080; omega)
  have e1 := turned_apply 1#32 1 32 v slices_S160x46080_o32_0_S32x46080 rotates_S32x46080_d1 (by decide) (by decide) o n (⟨32 * 1 + o.val, by omega⟩ : Fin 160) (⟨(n.val + 1 + 46078) % 46080, Nat.mod_lt _ (by omega)⟩ : Fin 46080) rfl (by show (n.val + 1 + 46078) % 46080 = (n.val + 46080 - 1) % 46080; omega)
  have e2 := band_apply 64 v slices_S160x46080_o64_0_S32x46080 o n (⟨32 * 2 + o.val, by omega⟩ : Fin 160) (by show 32 * 2 + o.val = 64 + o.val; omega)
  have e3 := turned_apply 46079#32 46079 96 v slices_S160x46080_o96_0_S32x46080 rotates_S32x46080_d1 (by decide) (by decide) o n (⟨32 * 3 + o.val, by omega⟩ : Fin 160) (⟨(n.val + 3 + 46078) % 46080, Nat.mod_lt _ (by omega)⟩ : Fin 46080) rfl (by show (n.val + 3 + 46078) % 46080 = (n.val + 46080 - 46079) % 46080; omega)
  have e4 := turned_apply 46078#32 46078 128 v slices_S160x46080_o128_0_S32x46080 rotates_S32x46080_d1 (by decide) (by decide) o n (⟨32 * 4 + o.val, by omega⟩ : Fin 160) (⟨(n.val + 4 + 46078) % 46080, Nat.mod_lt _ (by omega)⟩ : Fin 46080) rfl (by show (n.val + 4 + 46078) % 46080 = (n.val + 46080 - 46078) % 46080; omega)
  show dynamicRotate 1 2#32 none _ _ (ix2 o n) + dynamicRotate 1 1#32 none _ _ (ix2 o n) + extractStridedSlice _ _ v _ (ix2 o n)
    + dynamicRotate 1 46079#32 none _ _ (ix2 o n) + dynamicRotate 1 46078#32 none _ _ (ix2 o n) = _
  rw [e0, e1, e2, e3, e4, Fin.sum_univ_five]
  exact congrArg (fun m => _ + _ + v (ix2 _ m) + _ + _) hm.symm

theorem pay16_eq (v73 : FVec Ideal S1x48640 .f32) (v75 : FVec Ideal S32x1 .f32) (v83 : FVec Ideal S40x48640 .bf16)
    (v84 : Vec Ideal S40x160 .bf16) (v113 : Vec Ideal S160x160 .bf16) :
    k1_pay16 v73 v75 v83 v84 v113 =
      turnTwo (dotTwo v113 (stackTwo (truncf .bf16 (actOne v73 v75 (dotOne v84 v83)) bitsLt_bf16_f32))) := rfl

/-- The second stage's bias, rectifier and column mask. -/
def actTwo (v77 : FVec Ideal S32x1 .f32) (v115 : FVec Ideal S1x46080 .f32) (v129 : FVec Ideal S32x46080 .f32) :
    FVec Ideal S32x46080 .f32 :=
  mulf (maximumf (addf v129 (broadcastTo S32x46080 v77 broadcasts_S32x1_S32x46080))
      (broadcast S32x46080 (Scalar.ofBits .f32 0x00000000#32)))
    (broadcastTo S32x46080 v115 broadcasts_S1x46080_S32x46080)

theorem actTwo_apply (v77 : FVec Ideal S32x1 .f32) (v115 : FVec Ideal S1x46080 .f32) (v129 : FVec Ideal S32x46080 .f32)
    (o : Fin 32) (n : Fin 46080) :
    actTwo v77 v115 v129 (ix2 o n) = max (v129 (ix2 o n) + v77 (ix2 o 0)) 0 * v115 (ix2 0 n) := by
  pointwise [actTwo]

/-- The third stage's stack of three shifted copies of the second stage's image. -/
def stackThree (v136 : FVec Ideal S32x46080 .bf16) : FVec Ideal S96x44800 .bf16 :=
  concatenate S96x44800 0 [⟨S32x44800, extractStridedSlice S32x44800 ![0, 0] v136 slices_S32x46080_o0_0_S32x44800⟩,
    ⟨S32x44800, extractStridedSlice S32x44800 ![0, 640] v136 slices_S32x46080_o0_640_S32x44800⟩,
    ⟨S32x44800, extractStridedSlice S32x44800 ![0, 1280] v136 slices_S32x46080_o0_1280_S32x44800⟩]
    concatenates_S32x44800_S32x44800_S32x44800_S96x44800_d0

theorem stackThree_apply (v : FVec Ideal S32x46080 .bf16) (dy : Fin 3) (o : Fin 32) (n : Fin 44800) :
    stackThree v (ix2 (⟨32 * dy.val + o.val, by omega⟩ : Fin 96) n) = v (ix2 o (⟨640 * dy.val + n.val, by omega⟩ : Fin 46080)) := by
  have ho := o.isLt
  fin_cases dy <;> pointwise [stackThree]
  rw [dif_neg (by omega), dif_neg (by omega)]
  congr 2
  apply Fin.ext; show 64 + o.val - 32 - 32 = o.val; omega

/-- The third stage's product, its bands turned and added. -/
def dotThree (w : FVec Ideal S96x24 .bf16) (x : FVec Ideal S96x44800 .bf16) : FVec Ideal S24x44800 .f32 :=
  matmul dot_S96x24_S96x44800_S24x44800_0_0_1_1_n_n none (shapeCast S96x24 w shapeCasts_S96x24_S96x24) x
    (constant S24x44800 .f32 0x00000000#32)

theorem dotThree_apply (w : FVec Ideal S96x24 .bf16) (x : FVec Ideal S96x44800 .bf16) (r : Fin 24) (n : Fin 44800) :
    dotThree w x (ix2 r n) = ∑ k : Fin 96, w (ix2 k r) * x (ix2 k n) := by
  pointwise [dotThree]

/-- The third stage's bands turned and added. -/
def turnThree (v143 : FVec Ideal S24x44800 .f32) : FVec Ideal S8x44800 .f32 :=
  addf (addf
      (dynamicRotate 1 1#32 none (extractStridedSlice S8x44800 ![0, 0] v143 slices_S24x44800_o0_0_S8x44800) rotates_S8x44800_d1)
      (extractStridedSlice S8x44800 ![8, 0] v143 slices_S24x44800_o8_0_S8x44800))
      (dynamicRotate 1 44799#32 none (extractStridedSlice S8x44800 ![16, 0] v143 slices_S24x44800_o16_0_S8x44800) rotates_S8x44800_d1)

theorem turnThree_apply (v : FVec Ideal S24x44800 .f32) (o : Fin 8) (n : Fin 44800) : turnThree v (ix2 o n) =
    ∑ dx : Fin 3, v (ix2 (⟨8 * dx.val + o.val, by omega⟩ : Fin 24) (⟨(n.val + dx.val + 44799) % 44800, Nat.mod_lt _ (by omega)⟩ : Fin 44800)) := by
  have hn := n.isLt
  have hm : (⟨(n.val + 1 + 44799) % 44800, Nat.mod_lt _ (by omega)⟩ : Fin 44800) = n := Fin.ext (by show (n.val + 1 + 44799) % 44800 = n.val; omega)
  have e0 := turned_apply 1#32 1 0 v slices_S24x44800_o0_0_S8x44800 rotates_S8x44800_d1 (by decide) (by decide) o n (⟨8 * 0 + o.val, by omega⟩ : Fin 24) (⟨(n.val + 0 + 44799) % 44800, Nat.mod_lt _ (by omega)⟩ : Fin 44800) rfl (by show (n.val + 0 + 44799) % 44800 = (n.val + 44800 - 1) % 44800; omega)
  have e1 := band_apply 8 v slices_S24x44800_o8_0_S8x44800 o n (⟨8 * 1 + o.val, by omega⟩ : Fin 24) (by show 8 * 1 + o.val = 8 + o.val; omega)
  have e2 := turned_apply 44799#32 44799 16 v slices_S24x44800_o16_0_S8x44800 rotates_S8x44800_d1 (by decide) (by decide) o n (⟨8 * 2 + o.val, by omega⟩ : Fin 24) (⟨(n.val + 2 + 44799) % 44800, Nat.mod_lt _ (by omega)⟩ : Fin 44800) rfl (by show (n.val + 2 + 44799) % 44800 = (n.val + 44800 - 44799) % 44800; omega)
  show dynamicRotate 1 1#32 none _ _ (ix2 o n) + extractStridedSlice _ _ v _ (ix2 o n) + dynamicRotate 1 44799#32 none _ _ (ix2 o n) = _
  rw [e0, e1, e2, Fin.sum_univ_three]
  exact congrArg (fun m => _ + v (ix2 _ m) + _) hm.symm

/-- The softmax's argument: the learned cost and the distance, negated. -/
def negCost (v44 : FVec Ideal S80x512 .f32) (v150 : FVec Ideal S8x44800 .f32) (v154 : Vec Ideal S1x1 .f32) : FVec Ideal S64x512 .f32 :=
  subf (broadcast S64x512 (Scalar.ofBits .f32 0x00000000#32))
    (addf (addf (extractStridedSlice S64x512 ![0, 0]
        (shapeCast S64x640 (extractStridedSlice S1x40960 ![0, 1920] v150 slices_S8x44800_o0_1920_S1x40960) shapeCasts_S1x40960_S64x640)
        slices_S64x640_o0_0_S64x512)
        (broadcast S64x512 (extractAt ![0, 0] v154 inpos_S1x1_p0_0)))
      (extractStridedSlice S64x512 ![8, 0] v44 slices_S80x512_o8_0_S64x512))

theorem negCost_apply (v44 : FVec Ideal S80x512 .f32) (v150 : FVec Ideal S8x44800 .f32) (v154 : Vec Ideal S1x1 .f32)
    (j : Fin 64) (x : Fin 512) : negCost v44 v150 v154 (ix2 j x) =
      0 - (v150 (ix2 0 (⟨1920 + (j.val * 640 + x.val), by omega⟩ : Fin 44800)) + v154 (ix2 0 0) +
        v44 (ix2 (⟨8 + j.val, by omega⟩ : Fin 80) x)) := by
  pointwise [negCost]

/-- The row-wise softmax the body writes out. -/
def softRows (v161 : FVec Ideal S64x512 .f32) : FVec Ideal S1x64x512 .f32 :=
  have v162 : FVec Ideal S64 .f32 := multiReduction .maximumf [1] S64 v161 0xFF800000#32 reduces_S64x512_S64 (.inl rfl) rfl
  have v164 : FVec Ideal S64x512 .f32 := broadcastTo S64x512 (shapeCast S64x1 v162 shapeCasts_S64_S64x1) broadcasts_S64x1_S64x512
  have v166 : FVec Ideal S64x512 .f32 := exp (subf v161 v164)
  have v167 : FVec Ideal S64 .f32 := multiReduction .add [1] S64 v166 0x00000000#32 reduces_S64x512_S64 (.inl rfl) rfl
  have v169 : FVec Ideal S64x512 .f32 := broadcastTo S64x512 (shapeCast S64x1 v167 shapeCasts_S64_S64x1) broadcasts_S64x1_S64x512
  shapeCast S1x64x512 (divf v166 v169) shapeCasts_S64x512_S1x64x512

theorem softRows_apply (v : FVec Ideal S64x512 .f32) (j : Fin 64) (x : Fin 512) : softRows v (ix3 0 j x) =
      Ideal.div (Ideal.exp (v (ix2 j x) - Finset.univ.fold max (Ideal.ofBits .f32 0xFF800000#32) fun k => v (ix2 j k)))
        (∑ l, Ideal.exp (v (ix2 j l) - Finset.univ.fold max (Ideal.ofBits .f32 0xFF800000#32) fun k => v (ix2 j k))) := by
  pointwise [softRows]

theorem pay18_eq (v44 : FVec Ideal S80x512 .f32) (v77 : FVec Ideal S32x1 .f32) (v115 : FVec Ideal S1x46080 .f32)
    (v129 : FVec Ideal S32x46080 .f32) (v141 : Vec Ideal S96x24 .bf16) (v154 : Vec Ideal S1x1 .f32) :
    k1_pay18 v44 v77 v115 v129 v141 v154 =
      softRows (negCost v44 (turnThree (dotThree v141 (stackThree (truncf .bf16 (actTwo v77 v115 v129) bitsLt_bf16_f32)))) v154) := rfl

theorem word_row : Ideal.ofBits .f32 986500301#32 = (((13421773 : ℝ) / 8589934592 : ℝ) : EReal) := by
  simp [Ideal.ofBits, Ideal.ieee, BitVec.toNat_ofNat, -EReal.coe_mul]
  norm_num

theorem word_640 : Ideal.ofBits .f32 1142947840#32 = ((640 : ℝ) : EReal) := by
  simp [Ideal.ofBits, Ideal.ieee, BitVec.toNat_ofNat, -EReal.coe_mul]
  norm_num

theorem word_512 : Ideal.ofBits .f32 1140850688#32 = ((512 : ℝ) : EReal) := by
  simp [Ideal.ofBits, Ideal.ieee, BitVec.toNat_ofNat, -EReal.coe_mul]
  norm_num

theorem sitofp_nat (n : Nat) (h : n < 2 ^ 31) : (FloatOps.sitofp .f32 (BitVec.ofNat 32 n) : Ideal .f32) = ((n : ℝ) : EReal) := by
  show (((BitVec.ofNat 32 n).toInt : ℝ) : EReal) = _
  have : (BitVec.ofNat 32 n).toInt = (n : Int) := by
    rw [BitVec.toInt_eq_toNat_cond, BitVec.toNat_ofNat]
    have : n % 2 ^ 32 = n := Nat.mod_eq_of_lt (by omega)
    rw [this, if_pos (by omega)]
  rw [this]
  norm_cast

/-- A one-bit condition turned into a float is one or zero. -/
theorem sitofp_bit (p : Prop) [Decidable p] :
    (FloatOps.sitofp .f32 (BitVec.setWidth 32 (BitVec.ofBool (decide p))) : Ideal .f32) = if p then 1 else 0 := by
  by_cases h : p <;> simp [h] <;> show (((_ : BitVec 32).toInt : ℝ) : EReal) = _ <;> simp

/-- The column mask: one on the first 512 lanes of each row of 640, zero on the rest. -/
theorem pay11_apply (n : Fin 48640) : k1_pay11 (F := Ideal) (ix2 0 n) = if n.val % 640 < 512 then 1 else 0 := by
  have hn := n.isLt
  pointwise [k1_pay11]
  rw [sitofp_nat _ (by omega), word_row, word_640, word_512]
  have hf : Ideal.liftRound Int.floor (((n.val : ℝ) : EReal) * (((13421773 : ℝ) / 8589934592 : ℝ) : EReal)) = (((n.val / 640 : Nat) : ℝ) : EReal) := by
    rw [← EReal.coe_mul]
    show ((Int.floor _ : ℝ) : EReal) = _
    have : Int.floor ((n.val : ℝ) * (13421773 / 8589934592)) = ((n.val / 640 : Nat) : Int) := by
      rw [Int.floor_eq_iff, Int.cast_natCast]
      have h1 : (n.val / 640) * 8589934592 ≤ n.val * 13421773 := by omega
      have h2 : n.val * 13421773 < (n.val / 640 + 1) * 8589934592 := by omega
      have h1' : ((n.val / 640 : Nat) : ℝ) * 8589934592 ≤ (n.val : ℝ) * 13421773 := by exact_mod_cast h1
      have h2' : (n.val : ℝ) * 13421773 < (((n.val / 640 : Nat) : ℝ) + 1) * 8589934592 := by exact_mod_cast h2
      constructor <;> linarith
    rw [this]
    norm_cast
  rw [hf, sitofp_bit]
  congr 1
  rw [← EReal.coe_mul, ← EReal.coe_sub, EReal.coe_lt_coe_iff]
  have h3 : (n.val : ℝ) - 640 * ((n.val / 640 : Nat) : ℝ) = ((n.val % 640 : Nat) : ℝ) := by
    have : 640 * (n.val / 640) + n.val % 640 = n.val := Nat.div_add_mod _ _
    have h' : (640 : ℝ) * ((n.val / 640 : Nat) : ℝ) + ((n.val % 640 : Nat) : ℝ) = (n.val : ℝ) := by exact_mod_cast this
    linarith
  rw [h3]
  norm_cast

theorem pay15_apply (v : FVec Ideal S1x48640 .f32) (n : Fin 46080) :
    k1_pay15 v (ix2 0 n) = v (ix2 0 (⟨n.val, by omega⟩ : Fin 48640)) := by
  pointwise [k1_pay15]

/-- The row mask: one where the local row lies on a real row. -/
theorem pay7_apply (i : grid1.Coords) (l : Fin 80) : k1_pay7 (F := Ideal) i (ix2 l 0) =
    if 8 ≤ 64 * (i 1).val + l.val ∧ 64 * (i 1).val + l.val < 520 then 1 else 0 := by
  have h : ∀ (a : Fin 8) (l : Fin 80), IntOp.andi
          (IntOp.cmpi CmpIPredicate.sge
            (IntOp.addi (BitVec.ofNat 32 l.val) (Scalar.subi (Scalar.muli (BitVec.ofNat 32 a.val) 64#32) 8#32)) 0#32)
          (IntOp.cmpi CmpIPredicate.slt
            (IntOp.addi (BitVec.ofNat 32 l.val) (Scalar.subi (Scalar.muli (BitVec.ofNat 32 a.val) 64#32) 8#32)) 512#32) =
      BitVec.ofBool (decide (8 ≤ 64 * a.val + l.val ∧ 64 * a.val + l.val < 520)) := by decide +kernel
  pointwise [k1_pay7]
  rw [h (i 1) l, sitofp_bit]

theorem pay10_apply (v27 : FVec Ideal S80x1 .f32) (v2 : Vec Ideal S1x80x256 .f32) (x1 : Vec Ideal S1x512x256 .f32)
    (x4 : Vec Ideal S1x1x512 .f32) (l : Fin 80) (k : Fin 512) :
    k1_pay10 (F := Ideal) v27 (k1_pay8 v2 x1) (k1_pay9 v2 x4) (ix2 l k) =
      Ideal.sqrt (max ((∑ d : Fin 256, v2 (ix3 0 l d) * v2 (ix3 0 l d)) + x4 (ix3 0 0 k) -
        Ideal.ofBits .f32 1073741824#32 * ∑ d : Fin 256, v2 (ix3 0 l d) * x1 (ix3 0 k d)) (Ideal.ofBits .f32 730643660#32)) *
      v27 (ix2 l 0) := by
  pointwise [k1_pay10, k1_pay8, k1_pay9, k1_pay4]

/-- The stacked image's entry in band `dy`, channel `c`: the distance, the position cost, or zero, at the flat index
    `640 * dy + n`. -/
theorem pay14_apply (v7 : FVec Ideal S80x1 .f32) (v12 : FVec Ideal S1x512 .f32) (v27 : FVec Ideal S80x1 .f32)
    (v33 v36 : FVec Ideal S80x512 .f32) (dy : Fin 5) (c : Fin 8) (n : Fin 48640) :
    k1_pay14 (F := Ideal) v7 v12 v27 v33 v36 (ix2 (⟨8 * dy.val + c.val, by omega⟩ : Fin 40) n) =
      if h : (640 * dy.val + n.val) % 640 < 512 then
        if c.val = 0 then k1_pay10 v27 v33 v36 (ix2 (⟨(640 * dy.val + n.val) / 640, by omega⟩ : Fin 80) (⟨(640 * dy.val + n.val) % 640, h⟩ : Fin 512))
        else if c.val = 1 then
          max (v7 (ix2 (⟨(640 * dy.val + n.val) / 640, by omega⟩ : Fin 80) 0) - v12 (ix2 0 (⟨(640 * dy.val + n.val) % 640, h⟩ : Fin 512)))
            (-(v7 (ix2 (⟨(640 * dy.val + n.val) / 640, by omega⟩ : Fin 80) 0) - v12 (ix2 0 (⟨(640 * dy.val + n.val) % 640, h⟩ : Fin 512))))
            * v27 (ix2 (⟨(640 * dy.val + n.val) / 640, by omega⟩ : Fin 80) 0)
        else 0
      else 0 := by
  have hc := c.isLt
  have hz : ((((0#32 : BitVec 32).toInt : ℝ) : EReal)) = 0 := by simp
  have hn := n.isLt
  have hd := dy.isLt
  pointwise [k1_pay14]
  fin_cases dy <;> fin_cases c <;> simp [hz]
  all_goals rfl

end Cert.KernelIdeal.Hand

end
-- ==== Proof.Layers.lean ====
/- The convolution layers as plain sums over a window, apart from either program, and the sums over stacked bands. -/
module

public import Idealize.ShloMosaic.Lib.Pipeline.ValueKit

@[expose] public section

noncomputable section

namespace Cert.Layers

/-- A window of `K` by `K` taps over `C` padded images, with its corner at row `u`, column `x`. -/
def win (K C : Nat) (w : Fin K → Fin K → Fin C → EReal) (p : Fin C → ℕ → ℕ → EReal) (u x : ℕ) : EReal :=
  ∑ dx : Fin K, ∑ dy : Fin K, ∑ c : Fin C, w dy dx c * p c (u + dy.val) (x + dx.val)

/-- The first layer's images, padded by two zero columns on each side. -/
def layerOne (w : Fin 30 → Fin 5 → Fin 5 → Fin 2 → EReal) (b : Fin 30 → EReal) (p : Fin 2 → ℕ → ℕ → EReal) (o : Fin 30) (u v : ℕ) : EReal :=
  if 2 ≤ v ∧ v < 514 then max (win 5 2 (w o) p u (v - 2) + b o) 0 else 0

/-- The second layer's images, padded by one zero column on each side. -/
def layerTwo (w : Fin 30 → Fin 5 → Fin 5 → Fin 30 → EReal) (b : Fin 30 → EReal) (p : Fin 30 → ℕ → ℕ → EReal) (o : Fin 30) (u v : ℕ) : EReal :=
  if 1 ≤ v ∧ v < 513 then max (win 5 30 (w o) p u (v - 1) + b o) 0 else 0

/-- A sum over stacked bands, band by band. -/
theorem sum_bands (m n k : Nat) (hk : k = m * n) (f : Fin k → EReal) :
    ∑ i, f i = ∑ a : Fin m, ∑ c : Fin n, f ⟨n * a.val + c.val, by
      have := a.isLt; have := c.isLt; subst hk
      calc n * a.val + c.val < n * a.val + n := by omega
        _ = n * (a.val + 1) := by ring
        _ ≤ n * m := Nat.mul_le_mul_left _ a.isLt
        _ = m * n := Nat.mul_comm _ _⟩ := by
  subst hk
  rw [← Fintype.sum_prod_type' (f := fun (a : Fin m) (c : Fin n) => f ⟨n * a.val + c.val, _⟩)]
  refine (Fintype.sum_equiv finProdFinEquiv _ _ fun x => ?_).symm
  congr 1
  apply Fin.ext
  simp [finProdFinEquiv, Nat.add_comm]

/-- A sum whose terms past `m` are zero. -/
theorem sum_pad (m n : Nat) (h : m ≤ n) (f : Fin n → EReal) (hz : ∀ c : Fin n, m ≤ c.val → f c = 0) :
    ∑ c, f c = ∑ c : Fin m, f ⟨c.val, lt_of_lt_of_le c.isLt h⟩ := by
  obtain ⟨d, rfl⟩ := Nat.exists_eq_add_of_le h
  rw [Fin.sum_univ_add, Finset.sum_eq_zero (s := (Finset.univ : Finset (Fin d))) (fun c _ => hz _ (by simp)), add_zero]
  rfl

/-- Twenty-five terms added one by one, row by row. -/
def addFive (z : EReal) (t : Fin 5 → Fin 5 → EReal) : EReal :=
  z + t 0 0 + t 0 1 + t 0 2 + t 0 3 + t 0 4 + t 1 0 + t 1 1 + t 1 2 + t 1 3 + t 1 4 + t 2 0 + t 2 1 + t 2 2 + t 2 3 + t 2 4
    + t 3 0 + t 3 1 + t 3 2 + t 3 3 + t 3 4 + t 4 0 + t 4 1 + t 4 2 + t 4 3 + t 4 4

theorem addFive_eq (t : Fin 5 → Fin 5 → EReal) : addFive 0 t = ∑ dx, ∑ dy, t dy dx := by
  rw [Finset.sum_comm]
  simp only [addFive, Fin.sum_univ_five, zero_add, add_assoc]

/-- Nine terms added one by one, row by row. -/
def addThree (z : EReal) (t : Fin 3 → Fin 3 → EReal) : EReal :=
  z + t 0 0 + t 0 1 + t 0 2 + t 1 0 + t 1 1 + t 1 2 + t 2 0 + t 2 1 + t 2 2

theorem addThree_eq (t : Fin 3 → Fin 3 → EReal) : addThree 0 t = ∑ dx, ∑ dy, t dy dx := by
  rw [Finset.sum_comm]
  simp only [addThree, Fin.sum_univ_three, zero_add, add_assoc]

/-- One entry of the softmax of a row's negated costs, the row's maximum taken off first. -/
def soft (f : Fin 512 → EReal) (x : Fin 512) : EReal :=
  Idealize.ShloMosaic.Ideal.div
    (Idealize.ShloMosaic.Ideal.exp (-f x - Finset.univ.fold max (Idealize.ShloMosaic.Ideal.ofBits .f32 0xFF800000#32) fun k => -f k))
    (∑ l, Idealize.ShloMosaic.Ideal.exp (-f l - Finset.univ.fold max (Idealize.ShloMosaic.Ideal.ofBits .f32 0xFF800000#32) fun k => -f k))

end Cert.Layers

end
-- ==== Proof.TileConv.lean ====
/- The main call's three convolution stages over a tile, as plain sums over a window: each stage's flat image, read at a
   lane, is the layer of the padded images below it. -/
module

public import proofs.«01_k».proof.Proof.TilePay
public import proofs.«01_k».proof.Proof.Layers

@[expose] public section

set_option maxRecDepth 16384

noncomputable section

namespace Cert.KernelIdeal.Hand

open Cert.KernelIdeal Cert.KernelIdeal.Gen Idealize.ShloMosaic Idealize.ShloMosaic.TcCoe Idealize.SL.Sem
open Cert.Layers

/-- A flat image of zero-padded rows, read `dx - off` lanes away from lane `n`: the padded image's own entry, since the
    lanes between two rows hold zeros. -/
theorem lane_read (F : ℕ → ℕ → EReal) (off n dx m : ℕ) (hF : ∀ u v, v < off ∨ 512 + off ≤ v → F u v = 0)
    (ho : off ≤ 2) (hn : n % 640 < 512) (hdx : dx ≤ 2 * off)
    (hm : (off ≤ n % 640 + dx ∧ m + off = n + dx) ∨ (n % 640 + dx < off ∧ 512 ≤ m % 640)) :
    (if m % 640 < 512 then F (m / 640) (m % 640 + off) else 0) = F (n / 640) (n % 640 + dx) := by
  rcases hm with ⟨h1, h2⟩ | ⟨h1, h2⟩
  · have hq : m / 640 = n / 640 := by omega
    have hr : m % 640 + off = n % 640 + dx := by omega
    by_cases h : m % 640 < 512
    · rw [if_pos h, hq, hr]
    · rw [if_neg h, hF _ _ (Or.inr (by omega))]
  · rw [if_neg (by omega), hF _ _ (Or.inl h1)]

/-- The first stage at a lane. -/
theorem stageOne (x5 : FVec Ideal S40x160 .bf16) (x6 : FVec Ideal S32x1 .f32) (v83 : FVec Ideal S40x48640 .bf16) (s : ℕ)
    (w : Fin 30 → Fin 5 → Fin 5 → Fin 2 → EReal) (b : Fin 30 → EReal) (p : Fin 2 → ℕ → ℕ → EReal)
    (hw : ∀ (dy dx : Fin 5) (c : Fin 8) (o : Fin 30), x5 (ix2 (⟨8 * dy.val + c.val, by omega⟩ : Fin 40) (⟨32 * dx.val + o.val, by omega⟩ : Fin 160)) =
      if h : c.val < 2 then w o dy dx ⟨c.val, h⟩ else 0)
    (hb : ∀ o : Fin 30, x6 (ix2 (⟨o.val, by omega⟩ : Fin 32) 0) = b o)
    (hx : ∀ (dy : Fin 5) (c : Fin 2) (n : Fin 48640), v83 (ix2 (⟨8 * dy.val + c.val, by omega⟩ : Fin 40) n) =
      if n.val % 640 < 512 then p c (s + n.val / 640 + dy.val) (n.val % 640 + 2) else 0)
    (hp : ∀ c u v, v < 2 ∨ 514 ≤ v → p c u v = 0) (o : Fin 30) (n : Fin 48640) :
    actOne k1_pay11 x6 (dotOne x5 v83) (ix2 (⟨o.val, by omega⟩ : Fin 32) n) =
      if n.val % 640 < 512 then layerOne w b p o (s + n.val / 640) (n.val % 640 + 2) else 0 := by
  have hn := n.isLt
  rw [actOne_apply, pay11_apply]
  by_cases h : n.val % 640 < 512
  · rw [if_pos h, if_pos h, mul_one, layerOne, if_pos (by omega), hb, Nat.add_sub_cancel]
    congr 2
    refine Finset.sum_congr rfl fun dx _ => ?_
    have hdx := dx.isLt
    rw [dotOne_apply, sum_bands 5 8 40 rfl]
    refine Finset.sum_congr rfl fun dy _ => ?_
    rw [sum_pad 2 8 (by decide) _ fun c hc => by rw [hw, dif_neg (by omega), zero_mul]]
    refine Finset.sum_congr rfl fun c _ => ?_
    have hc := c.isLt
    have e := hw dy dx ⟨c.val, by omega⟩ o
    rw [dif_pos hc] at e
    refine congrArg₂ (· * ·) e ?_
    rw [hx dy c]
    dsimp only
    exact lane_read (fun u v => p c (s + u + dy.val) v) 2 n.val dx.val _ (fun u v hv => hp c _ v hv) (by decide) h (by omega) (by omega)
  · rw [if_neg h, if_neg h, mul_zero]

/-- The second stage at a lane. -/
theorem stageTwo (x7 : FVec Ideal S160x160 .bf16) (x8 : FVec Ideal S32x1 .f32) (a : FVec Ideal S32x48640 .bf16) (s : ℕ)
    (w : Fin 30 → Fin 5 → Fin 5 → Fin 30 → EReal) (b : Fin 30 → EReal) (q : Fin 30 → ℕ → ℕ → EReal)
    (hw : ∀ (dy dx : Fin 5) (c : Fin 32) (o : Fin 30), x7 (ix2 (⟨32 * dy.val + c.val, by omega⟩ : Fin 160) (⟨32 * dx.val + o.val, by omega⟩ : Fin 160)) =
      if h : c.val < 30 then w o dy dx ⟨c.val, h⟩ else 0)
    (hb : ∀ o : Fin 30, x8 (ix2 (⟨o.val, by omega⟩ : Fin 32) 0) = b o)
    (hx : ∀ (c : Fin 30) (n : Fin 48640), a (ix2 (⟨c.val, by omega⟩ : Fin 32) n) =
      if n.val % 640 < 512 then q c (s + n.val / 640) (n.val % 640 + 2) else 0)
    (hq : ∀ c u v, v < 2 ∨ 514 ≤ v → q c u v = 0) (o : Fin 30) (n : Fin 46080) :
    actTwo x8 (k1_pay15 k1_pay11) (turnTwo (dotTwo x7 (stackTwo a))) (ix2 (⟨o.val, by omega⟩ : Fin 32) n) =
      if n.val % 640 < 512 then layerTwo w b q o (s + n.val / 640) (n.val % 640 + 1) else 0 := by
  have hn := n.isLt
  rw [actTwo_apply, pay15_apply, pay11_apply]
  by_cases h : n.val % 640 < 512
  · rw [if_pos h, if_pos h, mul_one, layerTwo, if_pos (by omega), hb, Nat.add_sub_cancel, turnTwo_apply]
    congr 2
    refine Finset.sum_congr rfl fun dx _ => ?_
    have hdx := dx.isLt
    rw [dotTwo_apply, sum_bands 5 32 160 rfl]
    refine Finset.sum_congr rfl fun dy _ => ?_
    rw [sum_pad 30 32 (by decide) _ fun c hc => by rw [hw, dif_neg (by omega), zero_mul]]
    refine Finset.sum_congr rfl fun c _ => ?_
    have hc := c.isLt
    have hdy := dy.isLt
    have e := hw dy dx ⟨c.val, by omega⟩ o
    rw [dif_pos hc] at e
    refine congrArg₂ (· * ·) e ?_
    rw [stackTwo_apply a dy ⟨c.val, by omega⟩, hx c]
    have hd : ∀ m : ℕ, (640 * dy.val + m) / 640 = m / 640 + dy.val := fun m => by omega
    have hr : ∀ m : ℕ, (640 * dy.val + m) % 640 = m % 640 := fun m => by omega
    simp only [hd, hr]
    refine (lane_read (fun u v => q c (s + (u + dy.val)) v) 2 n.val dx.val _ (fun u v hv => hq c _ v hv) (by decide) h (by omega) (by omega)).trans ?_
    rw [Nat.add_assoc]
  · rw [if_neg h, if_neg h, mul_zero]

/-- The third stage at a lane of a real column. -/
theorem stageThree (x9 : FVec Ideal S96x24 .bf16) (a : FVec Ideal S32x46080 .bf16) (s : ℕ)
    (w : Fin 3 → Fin 3 → Fin 30 → EReal) (q : Fin 30 → ℕ → ℕ → EReal)
    (hw : ∀ (dy dx : Fin 3) (c : Fin 32), x9 (ix2 (⟨32 * dy.val + c.val, by omega⟩ : Fin 96) (⟨8 * dx.val, by omega⟩ : Fin 24)) =
      if h : c.val < 30 then w dy dx ⟨c.val, h⟩ else 0)
    (hx : ∀ (c : Fin 30) (n : Fin 46080), a (ix2 (⟨c.val, by omega⟩ : Fin 32) n) =
      if n.val % 640 < 512 then q c (s + n.val / 640) (n.val % 640 + 1) else 0)
    (hq : ∀ c u v, v < 1 ∨ 513 ≤ v → q c u v = 0) (n : Fin 44800) (h : n.val % 640 < 512) :
    turnThree (dotThree x9 (stackThree a)) (ix2 0 n) = win 3 30 w q (s + n.val / 640) (n.val % 640) := by
  have hn := n.isLt
  rw [turnThree_apply]
  refine Finset.sum_congr rfl fun dx _ => ?_
  have hdx := dx.isLt
  rw [dotThree_apply, sum_bands 3 32 96 rfl]
  refine Finset.sum_congr rfl fun dy _ => ?_
  have hw' : ∀ c : Fin 32, x9 (ix2 (⟨32 * dy.val + c.val, by omega⟩ : Fin 96) (⟨8 * dx.val + (0 : Fin 8).val, by simp; omega⟩ : Fin 24)) =
      if h : c.val < 30 then w dy dx ⟨c.val, h⟩ else 0 := fun c => hw dy dx c
  rw [sum_pad 30 32 (by decide) _ fun c hc => by rw [hw', dif_neg (by omega), zero_mul]]
  refine Finset.sum_congr rfl fun c _ => ?_
  have hc := c.isLt
  have hdy := dy.isLt
  have e := hw' ⟨c.val, by omega⟩
  rw [dif_pos hc] at e
  refine congrArg₂ (· * ·) e ?_
  rw [stackThree_apply a dy ⟨c.val, by omega⟩, hx c]
  have hd : ∀ m : ℕ, (640 * dy.val + m) / 640 = m / 640 + dy.val := fun m => by omega
  have hr : ∀ m : ℕ, (640 * dy.val + m) % 640 = m % 640 := fun m => by omega
  simp only [hd, hr]
  refine (lane_read (fun u v => q c (s + (u + dy.val)) v) 1 n.val dx.val _ (fun u v hv => hq c _ v hv) (by decide) h (by omega) (by omega)).trans ?_
  rw [Nat.add_assoc]

end Cert.KernelIdeal.Hand

end
-- ==== Proof.TileSoft.lean ====
/- One grid point's alignment block, as the softmax of the negated costs of its rows: the body's three stages put
   together over the images that its loads hold. -/
module

public import proofs.«01_k».proof.Proof.TileOut
public import proofs.«01_k».proof.Proof.TileConv

@[expose] public section

set_option maxRecDepth 16384

noncomputable section

namespace Cert.KernelIdeal.Hand

open Cert.KernelIdeal Cert.KernelIdeal.Gen Idealize.ShloMosaic Idealize.ShloMosaic.TcCoe Idealize.SL.Sem Cert.Layers

/-- The rows of the padded sequence that a grid point reads. -/
abbrev seqRows (i : grid1.Coords) (x0 : Vec Ideal S1x528x256 .f32) : Vec Ideal S1x80x256 .f32 :=
  View.ld x0 (Rect.unit (s := S1x528x256) (k1_off1 i) S1x80x256.size (k1_off1_inb i))

/-- The rows of the padded positions that a grid point reads. -/
abbrev posRows (i : grid1.Coords) (x2 : Vec Ideal S1x528x1 .f32) : Vec Ideal S1x80x1 .f32 :=
  View.ld x2 (Rect.unit (s := S1x528x1) (k1_off2 i) S1x80x1.size (k1_off2_inb i))

/-- The cost at row `u` of the padded images and column `x`. -/
def costOf (w1 : Fin 30 → Fin 5 → Fin 5 → Fin 2 → EReal) (b1 : Fin 30 → EReal) (w2 : Fin 30 → Fin 5 → Fin 5 → Fin 30 → EReal)
    (b2 : Fin 30 → EReal) (w3 : Fin 3 → Fin 3 → Fin 30 → EReal) (b3 : EReal) (p : Fin 2 → ℕ → ℕ → EReal) (q : ℕ) (x : Fin 512) : EReal :=
  win 3 30 w3 (layerTwo w2 b2 (layerOne w1 b1 p)) (q + 3) x.val + b3 + p 0 (q + 8) (x.val + 2)

theorem tile_soft (i : grid1.Coords) (x0 : Vec Ideal S1x528x256 .f32) (x1 : Vec Ideal S1x512x256 .f32) (x2 : Vec Ideal S1x528x1 .f32)
    (x3 x4 : Vec Ideal S1x1x512 .f32) (x5 : Vec Ideal S40x160 .bf16) (x6 : Vec Ideal S32x1 .f32) (x7 : Vec Ideal S160x160 .bf16)
    (x8 : Vec Ideal S32x1 .f32) (x9 : Vec Ideal S96x24 .bf16) (x10 : Vec Ideal S1x1 .f32)
    (w1 : Fin 30 → Fin 5 → Fin 5 → Fin 2 → EReal) (b1 : Fin 30 → EReal) (w2 : Fin 30 → Fin 5 → Fin 5 → Fin 30 → EReal)
    (b2 : Fin 30 → EReal) (w3 : Fin 3 → Fin 3 → Fin 30 → EReal) (b3 : EReal) (p : Fin 2 → ℕ → ℕ → EReal)
    (hp : ∀ c u v, v < 2 ∨ 514 ≤ v → p c u v = 0)
    (h5 : ∀ (dy dx : Fin 5) (c : Fin 8) (o : Fin 30), x5 (ix2 (⟨8 * dy.val + c.val, by omega⟩ : Fin 40) (⟨32 * dx.val + o.val, by omega⟩ : Fin 160)) =
      if h : c.val < 2 then w1 o dy dx ⟨c.val, h⟩ else 0)
    (h6 : ∀ o : Fin 30, x6 (ix2 (⟨o.val, by omega⟩ : Fin 32) 0) = b1 o)
    (h7 : ∀ (dy dx : Fin 5) (c : Fin 32) (o : Fin 30), x7 (ix2 (⟨32 * dy.val + c.val, by omega⟩ : Fin 160) (⟨32 * dx.val + o.val, by omega⟩ : Fin 160)) =
      if h : c.val < 30 then w2 o dy dx ⟨c.val, h⟩ else 0)
    (h8 : ∀ o : Fin 30, x8 (ix2 (⟨o.val, by omega⟩ : Fin 32) 0) = b2 o)
    (h9 : ∀ (dy dx : Fin 3) (c : Fin 32), x9 (ix2 (⟨32 * dy.val + c.val, by omega⟩ : Fin 96) (⟨8 * dx.val, by omega⟩ : Fin 24)) =
      if h : c.val < 30 then w3 dy dx ⟨c.val, h⟩ else 0)
    (h10 : x10 (ix2 0 0) = b3)
    (hd : ∀ (l : Fin 80) (x : Fin 512), k1_pay10 (F := Ideal) (k1_pay7 i) (k1_pay8 (seqRows i x0) x1) (k1_pay9 (seqRows i x0) x4) (ix2 l x) =
      p 0 (64 * (i 1).val + l.val) (x.val + 2))
    (hr : ∀ (l : Fin 80) (x : Fin 512), max (k1_pay5 (F := Ideal) (posRows i x2) (ix2 l 0) - k1_pay6 (F := Ideal) x3 (ix2 0 x))
        (-(k1_pay5 (F := Ideal) (posRows i x2) (ix2 l 0) - k1_pay6 (F := Ideal) x3 (ix2 0 x))) * k1_pay7 (F := Ideal) i (ix2 l 0) =
      p 1 (64 * (i 1).val + l.val) (x.val + 2))
    (j : Fin 64) (x : Fin 512) :
    tileOf i x0 x1 x2 x3 x4 x5 x6 x7 x8 x9 x10 (ix3 0 j x) =
      soft (costOf w1 b1 w2 b2 w3 b3 p (64 * (i 1).val + j.val)) x := by
  have h12 : ∀ o : Fin 30, k1_pay12 (F := Ideal) x6 (ix2 (⟨o.val, by omega⟩ : Fin 32) 0) = b1 o := fun o => by
    rw [← h6]; pointwise [k1_pay12]
  have h13 : ∀ o : Fin 30, k1_pay13 (F := Ideal) x8 (ix2 (⟨o.val, by omega⟩ : Fin 32) 0) = b2 o := fun o => by
    rw [← h8]; pointwise [k1_pay13]
  have hx : ∀ (dy : Fin 5) (c : Fin 2) (n : Fin 48640),
      k1_pay14 (F := Ideal) (k1_pay5 (posRows i x2)) (k1_pay6 x3) (k1_pay7 i) (k1_pay8 (seqRows i x0) x1) (k1_pay9 (seqRows i x0) x4)
        (ix2 (⟨8 * dy.val + c.val, by omega⟩ : Fin 40) n) =
      if n.val % 640 < 512 then p c (64 * (i 1).val + n.val / 640 + dy.val) (n.val % 640 + 2) else 0 := by
    intro dy c n
    have hn := n.isLt
    have hc : c.val < 8 := by omega
    have e := pay14_apply (k1_pay5 (F := Ideal) (posRows i x2)) (k1_pay6 (F := Ideal) x3) (k1_pay7 (F := Ideal) i)
      (k1_pay8 (seqRows i x0) x1) (k1_pay9 (seqRows i x0) x4) dy (⟨c.val, hc⟩ : Fin 8) n
    refine e.trans ?_
    by_cases h : n.val % 640 < 512
    · have h' : (640 * dy.val + n.val) % 640 < 512 := by omega
      rw [dif_pos h', if_pos h]
      have e1 : 64 * (i 1).val + (640 * dy.val + n.val) / 640 = 64 * (i 1).val + n.val / 640 + dy.val := by omega
      have e2 : (640 * dy.val + n.val) % 640 + 2 = n.val % 640 + 2 := by omega
      dsimp only
      rw [hd, hr]
      dsimp only
      rw [e1, e2]
      match c with
      | ⟨0, _⟩ => rfl
      | ⟨1, _⟩ => rfl
    · have h' : ¬ (640 * dy.val + n.val) % 640 < 512 := by omega
      rw [dif_neg h', if_neg h]
  have s1 := stageOne x5 (k1_pay12 x6) _ (64 * (i 1).val) w1 b1 p h5 h12 hx hp
  have s2 := stageTwo x7 (k1_pay13 x8) _ (64 * (i 1).val) w2 b2 (layerOne w1 b1 p) h7 h13 s1
    (fun c u v hv => by rw [layerOne, if_neg (by omega)])
  have s3 := stageThree x9 _ (64 * (i 1).val) w3 (layerTwo w2 b2 (layerOne w1 b1 p)) h9 s2
    (fun c u v hv => by rw [layerTwo, if_neg (by omega)])
  unfold tileOf
  rw [pay16_eq, pay18_eq, softRows_apply]
  have hcost : ∀ k : Fin 512, negCost
      (k1_pay10 (F := Ideal) (k1_pay7 i) (k1_pay8 (seqRows i x0) x1) (k1_pay9 (seqRows i x0) x4))
      (turnThree (dotThree x9 (stackThree (actTwo (k1_pay13 x8) (k1_pay15 k1_pay11) (turnTwo (dotTwo x7 (stackTwo
        (actOne k1_pay11 (k1_pay12 x6) (dotOne x5
          (k1_pay14 (k1_pay5 (posRows i x2)) (k1_pay6 x3) (k1_pay7 i) (k1_pay8 (seqRows i x0) x1) (k1_pay9 (seqRows i x0) x4)))))))))))
      x10 (ix2 j k) = -costOf w1 b1 w2 b2 w3 b3 p (64 * (i 1).val + j.val) k := by
    intro k
    rw [negCost_apply, hd, h10, zero_sub, costOf]
    rw [s3 _ (by dsimp only; omega)]
    have e1 : 64 * (i 1).val + (1920 + (j.val * 640 + k.val)) / 640 = 64 * (i 1).val + j.val + 3 := by omega
    have e2 : (1920 + (j.val * 640 + k.val)) % 640 = k.val := by omega
    have e3 : 64 * (i 1).val + (8 + j.val) = 64 * (i 1).val + j.val + 8 := by omega
    dsimp only
    rw [e1, e2, e3]
  unfold soft
  simp only [← hcost]
  rfl

end Cert.KernelIdeal.Hand

end
-- ==== Proof.KernelIdealRun.lean ====
/- The whole run of KernelIdeal: its three calls and the host code between them, each boundary's buffer contents named, from launch to the last thread state. -/
module

public import proofs.«01_k».proof.Proof.KernelIdealMain

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__prep_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4x512x256 := Rect.unit (s := S4x512x256) ![0, 0, 0] S4x512x256.size inb_S4x512x256_S4x512x256_0_0_0
abbrev r0_1 : Rect S4x1 := Rect.unit (s := S4x1) ![0, 0] S4x1.size inb_S4x1_S4x1_0_0
abbrev r0_2 : Rect S4x512 := Rect.unit (s := S4x512) ![0, 0] S4x512.size inb_S4x512_S4x512_0_0

/-! ## What the body leaves in each output window's buffer -/

/-! ### Values of the body that the stores' payloads, spelt out, would write more than once

    Each is a vector the body binds (often a part call's result), stated over the input windows' blocks and
    numbered on from the skeleton's payload functions (`k0_pay12` …, after `k0_pay11`), so that
    `out0_W` and the values after it name it instead of spelling it out (`unfold_out out0_W` opens a canon
    with them, `unfold_payloads` opens them with the payloads); the comment after each is the printed function's
    name for the value (a count appended where that name is bound again). -/

def k0_pay12 (x0 : Vec F S4x512x256 .f32) (x1 : Vec F S4x1 .i32) : FVec F S4x512 .f32 :=
  k0_pay7 (View.ld x1 r0_1) -- `v25`
def k0_pay13 (x0 : Vec F S4x512x256 .f32) (x1 : Vec F S4x1 .i32) : FVec F S4x510x256 .f32 :=
  k0_pay9 (View.ld x0 r0_0) -- `v38`
def k0_pay14 (x0 : Vec F S4x512x256 .f32) (x1 : Vec F S4x1 .i32) : FVec F S4x510x256 .f32 :=
  k0_pay10 (View.ld x0 r0_0) -- `v39`
def k0_pay15 (x0 : Vec F S4x512x256 .f32) (x1 : Vec F S4x1 .i32) : FVec F S4x510x256 .f32 :=
  k0_pay11 (F := F) -- `v40`

/-- Window 2's staging buffer after the body, from the input windows' blocks: its 1 store as pieces, LAST
    FIRST (Lib/Pipeline/FrameBody.lean `View.canon`; the payloads are the skeleton's and the values stated above). -/
def out0_2 (x0 : Vec F S4x512x256 .f32) (x1 : Vec F S4x1 .i32) : Vec F S4x512x256 .f32 :=
  View.canon [⟨r0_0, k0_pay1 (k0_pay12 x0 x1) (k0_pay13 x0 x1) (k0_pay14 x0 x1) (k0_pay15 x0 x1)⟩]

/-- Its stores tile the buffer (checked by evaluation), so they cover it. -/
theorem cover0_2 (p0 : Vec F S4x512x256 .f32) (y : S4x512x256.Idx) :
    ∃ pc ∈ ([⟨r0_0, p0⟩] : List (View.Piece (Elt F) S4x512x256 .f32)), y ∈ pc.1.set :=
  View.cover_of_tiled [⟨r0_0, p0⟩] S4x512x256.size (by rfl) y

/-- Window 3's staging buffer after the body, from the input windows' blocks: its 1 store as pieces, LAST
    FIRST (Lib/Pipeline/FrameBody.lean `View.canon`; the payloads are the skeleton's and the values stated above). -/
def out0_3 (x0 : Vec F S4x512x256 .f32) (x1 : Vec F S4x1 .i32) : Vec F S4x512 .f32 :=
  View.canon [⟨r0_2, k0_pay5 (View.ld x1 r0_1)⟩]

/-- Its stores tile the buffer (checked by evaluation), so they cover it. -/
theorem cover0_3 (p0 : Vec F S4x512 .f32) (y : S4x512.Idx) :
    ∃ pc ∈ ([⟨r0_2, p0⟩] : List (View.Piece (Elt F) S4x512 .f32)), y ∈ pc.1.set :=
  View.cover_of_tiled [⟨r0_2, p0⟩] S4x512.size (by rfl) y

/-- Window 4's staging buffer after the body, from the input windows' blocks: its 1 store as pieces, LAST
    FIRST (Lib/Pipeline/FrameBody.lean `View.canon`; the payloads are the skeleton's and the values stated above). -/
def out0_4 (x0 : Vec F S4x512x256 .f32) (x1 : Vec F S4x1 .i32) : Vec F S4x512 .f32 :=
  View.canon [⟨r0_2, k0_pay8 (View.ld x1 r0_1)⟩]

/-- Its stores tile the buffer (checked by evaluation), so they cover it. -/
theorem cover0_4 (p0 : Vec F S4x512 .f32) (y : S4x512.Idx) :
    ∃ pc ∈ ([⟨r0_2, p0⟩] : List (View.Piece (Elt F) S4x512 .f32)), y ∈ pc.1.set :=
  View.cover_of_tiled [⟨r0_2, p0⟩] S4x512.size (by rfl) y

/-- Window 5's staging buffer after the body, from the input windows' blocks: its 1 store as pieces, LAST
    FIRST (Lib/Pipeline/FrameBody.lean `View.canon`; the payloads are the skeleton's and the values stated above). -/
def out0_5 (x0 : Vec F S4x512x256 .f32) (x1 : Vec F S4x1 .i32) : Vec F S4x512 .f32 :=
  View.canon [⟨r0_2, k0_pay2 (k0_pay12 x0 x1) (k0_pay13 x0 x1) (k0_pay14 x0 x1) (k0_pay15 x0 x1)⟩]

/-- Its stores tile the buffer (checked by evaluation), so they cover it. -/
theorem cover0_5 (p0 : Vec F S4x512 .f32) (y : S4x512.Idx) :
    ∃ pc ∈ ([⟨r0_2, p0⟩] : List (View.Piece (Elt F) S4x512 .f32)), y ∈ pc.1.set :=
  View.cover_of_tiled [⟨r0_2, p0⟩] S4x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S4x512x256 .f32) (harg0 : arg0.IsWhole) (arg1 : Memref sig .tc .vmem S4x1 .i32) (harg1 : arg1.IsWhole) (arg2 : Memref sig .tc .vmem S4x512x256 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole)
    (x0 : Vec F S4x512x256 .f32) (x1 : Vec F S4x1 .i32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1) ∗ owns (c : Thread nD τ) arg5 fullShare (out0_5 x0 x1)) -∗ K ⟨⟩))
      ⊢ wp frame (wpE (defs₀ (F := F)) Variants.none c none) E (cc0__prep_body arg0 harg0 arg1 harg1 arg2 harg2 arg3 harg3 arg4 harg4 arg5 harg5) K := by
  simp only [cc0__prep_body_eq_skeleton]; unfold cc0__prep_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  iexists _; isplitr
  swap; · iexact H5
  ipureintro
  refine (View.read_writes_eq_canon _ _ _ (cover0_5 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 2 of @main: custom_call 2, `cc2__head_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S4x512x256 := Rect.unit (s := S4x512x256) ![0, 0, 0] S4x512x256.size inb_S4x512x256_S4x512x256_0_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

/-! ## What the body leaves in each output window's buffer -/

/-- Window 5's staging buffer after the body, from the input windows' blocks: its 1 store as pieces, LAST
    FIRST (Lib/Pipeline/FrameBody.lean `View.canon`; the payloads are the skeleton's). -/
def out2_5 (x0 : Vec F S4x512x256 .f32) (x1 : Vec F S256x256 .bf16) (x2 : Vec F S1x256 .f32) (x3 : Vec F S256x256 .bf16) (x4 : Vec F S1x256 .f32) : Vec F S4x512x256 .f32 :=
  View.canon [⟨r2_0, k2_pay1 (View.ld x0 r2_0) (View.ld x1 r2_1) (View.ld x2 r2_2) (View.ld x3 r2_1) (View.ld x4 r2_2)⟩]

/-- Its stores tile the buffer (checked by evaluation), so they cover it. -/
theorem cover2_5 (p0 : Vec F S4x512x256 .f32) (y : S4x512x256.Idx) :
    ∃ pc ∈ ([⟨r2_0, p0⟩] : List (View.Piece (Elt F) S4x512x256 .f32)), y ∈ pc.1.set :=
  View.cover_of_tiled [⟨r2_0, p0⟩] S4x512x256.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (arg0 : Memref sig .tc .vmem S4x512x256 .f32) (harg0 : arg0.IsWhole) (arg1 : Memref sig .tc .vmem S256x256 .bf16) (harg1 : arg1.IsWhole) (arg2 : Memref sig .tc .vmem S1x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S4x512x256 .f32) (harg5 : arg5.IsWhole)
    (x0 : Vec F S4x512x256 .f32) (x1 : Vec F S256x256 .bf16) (x2 : Vec F S1x256 .f32) (x3 : Vec F S256x256 .bf16) (x4 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__head_body arg0 harg0 arg1 harg1 arg2 harg2 arg3 harg3 arg4 harg4 arg5 harg5) K := by
  simp only [cc2__head_body_eq_skeleton]; unfold cc2__head_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_c]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_v2]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_c_0]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_v0, main_v3]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_v4, main_cst, main_v5, main_v6, main_c_1, main_v7, main_c_2, main_v8, main_v9, main_v10, main_v11, main_v12, main_cst_3, main_v13, main_v14, main_c_4, main_v15, main_c_5, main_v16, main_v17, main_v18, main_v19, main_v20, main_cst_6, main_v21, main_v22, main_c_7, main_v23, main_c_8, main_v24, main_v25, main_v26, main_v27, main_v28, main_v29, main_c_9]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps1_5` allocates a buffer. -/
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call2_v0, main_v30]
theorem hostOps1_5_writes : (hostOps1_5 : List (HloOp τ sig (Elt F))).Forall fun op => op.writes ⊆ (hostOps1_5_W.map (Proc.devRef (τ := τ) .tc)).toFinset :=
  StableHlo.forall_writes_sub_of_map rfl
/-- `hostOps1_5` writes none of the argument arrays (checked: each argument against each reference it writes). -/
theorem hostOps1_5_args : ∀ a ∈ argRefs, a ∉ hostOps1_5_W := ListAll.forall_mem_of_all_decide (by decide +kernel)

/-- No operation of `hostOps1_6` allocates a buffer. -/
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_v31, main_c_10]
theorem hostOps1_6_writes : (hostOps1_6 : List (HloOp τ sig (Elt F))).Forall fun op => op.writes ⊆ (hostOps1_6_W.map (Proc.devRef (τ := τ) .tc)).toFinset :=
  StableHlo.forall_writes_sub_of_map rfl
/-- `hostOps1_6` writes none of the argument arrays (checked: each argument against each reference it writes). -/
theorem hostOps1_6_args : ∀ a ∈ argRefs, a ∉ hostOps1_6_W := ListAll.forall_mem_of_all_decide (by decide +kernel)

/-- No operation of `hostOps1_7` allocates a buffer. -/
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call3_v0, main_v32]
theorem hostOps1_7_writes : (hostOps1_7 : List (HloOp τ sig (Elt F))).Forall fun op => op.writes ⊆ (hostOps1_7_W.map (Proc.devRef (τ := τ) .tc)).toFinset :=
  StableHlo.forall_writes_sub_of_map rfl
/-- `hostOps1_7` writes none of the argument arrays (checked: each argument against each reference it writes). -/
theorem hostOps1_7_args : ∀ a ∈ argRefs, a ∉ hostOps1_7_W := ListAll.forall_mem_of_all_decide (by decide +kernel)

/-- No operation of `hostOps1_8` allocates a buffer. -/
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_v33, main_v34, main_v35]
theorem hostOps1_8_writes : (hostOps1_8 : List (HloOp τ sig (Elt F))).Forall fun op => op.writes ⊆ (hostOps1_8_W.map (Proc.devRef (τ := τ) .tc)).toFinset :=
  StableHlo.forall_writes_sub_of_map rfl
/-- `hostOps1_8` writes none of the argument arrays (checked: each argument against each reference it writes). -/
theorem hostOps1_8_args : ∀ a ∈ argRefs, a ∉ hostOps1_8_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v37, main_v38, main_v39, main_v40, main_v41, main_v42]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v44]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
/-- A reference `hostOps1_3` does not write keeps its contents across it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4`. -/
abbrev W7 : Dev nD → Valuation τ sig (Elt F) := fun c => StableHlo.after hostOps1_4 (W6 m ρ c)
/-- A reference `hostOps1_4` does not write keeps its contents across it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- After `hostOps1_5`. -/
abbrev W8 : Dev nD → Valuation τ sig (Elt F) := fun c => StableHlo.after hostOps1_5 (W7 m ρ c)
/-- A reference `hostOps1_5` does not write keeps its contents across it. -/
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
theorem W8_args (c : Dev nD) : ∀ a ∈ argRefs, W8 m ρ c (Proc.devRef .tc a) = m ((c : Thread nD τ).loc a) :=
  fun a ha => (W8_of m ρ c a (hostOps1_5_args a ha)).trans (W7_args m ρ c a ha)
/-- After `hostOps1_6`. -/
abbrev W9 : Dev nD → Valuation τ sig (Elt F) := fun c => StableHlo.after hostOps1_6 (W8 m ρ c)
/-- A reference `hostOps1_6` does not write keeps its contents across it. -/
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
theorem W9_args (c : Dev nD) : ∀ a ∈ argRefs, W9 m ρ c (Proc.devRef .tc a) = m ((c : Thread nD τ).loc a) :=
  fun a ha => (W9_of m ρ c a (hostOps1_6_args a ha)).trans (W8_args m ρ c a ha)
/-- After `hostOps1_7`. -/
abbrev W10 : Dev nD → Valuation τ sig (Elt F) := fun c => StableHlo.after hostOps1_7 (W9 m ρ c)
/-- A reference `hostOps1_7` does not write keeps its contents across it. -/
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
theorem W10_args (c : Dev nD) : ∀ a ∈ argRefs, W10 m ρ c (Proc.devRef .tc a) = m ((c : Thread nD τ).loc a) :=
  fun a ha => (W10_of m ρ c a (hostOps1_7_args a ha)).trans (W9_args m ρ c a ha)
/-- After `hostOps1_8` (region 1's entry). -/
abbrev W11 : Dev nD → Valuation τ sig (Elt F) := fun c => StableHlo.after hostOps1_8 (W10 m ρ c)
/-- A reference `hostOps1_8` does not write keeps its contents across it. -/
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
theorem W11_args (c : Dev nD) : ∀ a ∈ argRefs, W11 m ρ c (Proc.devRef .tc a) = m ((c : Thread nD τ).loc a) :=
  fun a ha => (W11_of m ρ c a (hostOps1_8_args a ha)).trans (W10_args m ρ c a ha)
/-- The same read at the TensorCore's references (what region 1's proof data take). -/
abbrev V11 : (c : Dev nD) → (b : Ref sig .tc) → Buf (Elt F) ((c : Thread nD τ).loc b) := fun c b => W11 m ρ c b
/-- At region 1's exit: its arrays at what the pipeline leaves (the inputs as entered, each output's write-backs
    folded: `Dat.arrAt … N`), every other buffer as entered (Lib/Pipeline/FrameSuffix.lean `withArrays`). -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- A reference that is none of region 1's OUTPUT arrays keeps its entry contents across it: an input window's
    array is never written back (`Dat.arrAt_in`, `A_eq1`); any other buffer is left as is. -/
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((dat1 (V11 m ρ) c).arrAt_in w (h w rfl) _).trans (A_eq1 (V11 m ρ) c w))
  · exact W12_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn1 a ha)).trans (W11_args m ρ c a ha)
/-- The same read at the TensorCore's references (region 1's exit contents). -/
abbrev V12 : (c : Dev nD) → (b : Ref sig .tc) → Buf (Elt F) ((c : Thread nD τ).loc b) := fun c b => W12 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-- After `hostOps2` (region 2's entry). -/
abbrev W13 : Dev nD → Valuation τ sig (Elt F) := fun c => StableHlo.after hostOps2 (W12 m ρ c)
/-- A reference `hostOps2` does not write keeps its contents across it. -/
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h
theorem W13_args (c : Dev nD) : ∀ a ∈ argRefs, W13 m ρ c (Proc.devRef .tc a) = m ((c : Thread nD τ).loc a) :=
  fun a ha => (W13_of m ρ c a (hostOps2_args a ha)).trans (W12_args m ρ c a ha)
/-- The same read at the TensorCore's references (what region 2's proof data take). -/
abbrev V13 : (c : Dev nD) → (b : Ref sig .tc) → Buf (Elt F) ((c : Thread nD τ).loc b) := fun c b => W13 m ρ c b
/-- At region 2's exit: its arrays at what the pipeline leaves (the inputs as entered, each output's write-backs
    folded: `Dat.arrAt … N`), every other buffer as entered (Lib/Pipeline/FrameSuffix.lean `withArrays`). -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
/-- A reference that is none of region 2's OUTPUT arrays keeps its entry contents across it: an input window's
    array is never written back (`Dat.arrAt_in`, `A_eq2`); any other buffer is left as is. -/
theorem W14_of (c : Dev nD) (r : Ref sig .tc) (h : ∀ w : Fin cfg2.W, Pipeline.arrRef spec2 w = r → (cfg2.win w).isOut = false) :
    W14 m ρ c (Proc.devRef .tc r) = W13 m ρ c (Proc.devRef .tc r) := by
  by_cases hw : ∃ w : Fin cfg2.W, Pipeline.arrRef spec2 w = r
  · obtain ⟨w, rfl⟩ := hw
    exact (W14_arr m ρ c w).trans (((dat2 (V13 m ρ) c).arrAt_in w (h w rfl) _).trans (A_eq2 (V13 m ρ) c w))
  · exact W14_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn2 a ha)).trans (W13_args m ρ c a ha)
/-- The same read at the TensorCore's references (region 2's exit contents). -/
abbrev V14 : (c : Dev nD) → (b : Ref sig .tc) → Buf (Elt F) ((c : Thread nD τ).loc b) := fun c b => W14 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V13 m ρ) c).arrAt w cfg2.N = V14 m ρ c (Pipeline.arrRef spec2 w) :=
  (W14_arr m ρ c w).symm
theorem hrest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)

/-- After `hostOps3`. -/
abbrev W15 : Dev nD → Valuation τ sig (Elt F) := fun c => StableHlo.after hostOps3 (W14 m ρ c)
/-- A reference `hostOps3` does not write keeps its contents across it. -/
theorem W15_of (c : Dev nD) (r : Ref sig .tc) (h : r ∉ hostOps3_W) : W15 m ρ c (Proc.devRef .tc r) = W14 m ρ c (Proc.devRef .tc r) :=
  StableHlo.after_of_writes_sub hostOps3 _ hostOps3_writes h
theorem W15_args (c : Dev nD) : ∀ a ∈ argRefs, W15 m ρ c (Proc.devRef .tc a) = m ((c : Thread nD τ).loc a) :=
  fun a ha => (W15_of m ρ c a (hostOps3_args a ha)).trans (W14_args m ρ c a ha)

/-! ### The arguments end as launched: no host stretch writes one and no region may change one (a region reads it
    through an input window or bypasses it) -/

theorem W15_main_arg0 (c : Dev nD) : W15 m ρ c (Proc.devRef .tc main_arg0) = m ((c : Thread nD τ).loc main_arg0) :=
  W15_args m ρ c main_arg0 (by decide)
theorem W15_main_arg1 (c : Dev nD) : W15 m ρ c (Proc.devRef .tc main_arg1) = m ((c : Thread nD τ).loc main_arg1) :=
  W15_args m ρ c main_arg1 (by decide)
theorem W15_main_arg2 (c : Dev nD) : W15 m ρ c (Proc.devRef .tc main_arg2) = m ((c : Thread nD τ).loc main_arg2) :=
  W15_args m ρ c main_arg2 (by decide)
theorem W15_main_arg3 (c : Dev nD) : W15 m ρ c (Proc.devRef .tc main_arg3) = m ((c : Thread nD τ).loc main_arg3) :=
  W15_args m ρ c main_arg3 (by decide)
theorem W15_main_arg4 (c : Dev nD) : W15 m ρ c (Proc.devRef .tc main_arg4) = m ((c : Thread nD τ).loc main_arg4) :=
  W15_args m ρ c main_arg4 (by decide)
theorem W15_main_arg5 (c : Dev nD) : W15 m ρ c (Proc.devRef .tc main_arg5) = m ((c : Thread nD τ).loc main_arg5) :=
  W15_args m ρ c main_arg5 (by decide)
theorem W15_main_arg6 (c : Dev nD) : W15 m ρ c (Proc.devRef .tc main_arg6) = m ((c : Thread nD τ).loc main_arg6) :=
  W15_args m ρ c main_arg6 (by decide)
theorem W15_main_arg7 (c : Dev nD) : W15 m ρ c (Proc.devRef .tc main_arg7) = m ((c : Thread nD τ).loc main_arg7) :=
  W15_args m ρ c main_arg7 (by decide)
theorem W15_main_arg8 (c : Dev nD) : W15 m ρ c (Proc.devRef .tc main_arg8) = m ((c : Thread nD τ).loc main_arg8) :=
  W15_args m ρ c main_arg8 (by decide)
theorem W15_main_arg9 (c : Dev nD) : W15 m ρ c (Proc.devRef .tc main_arg9) = m ((c : Thread nD τ).loc main_arg9) :=
  W15_args m ρ c main_arg9 (by decide)
theorem W15_main_arg10 (c : Dev nD) : W15 m ρ c (Proc.devRef .tc main_arg10) = m ((c : Thread nD τ).loc main_arg10) :=
  W15_args m ρ c main_arg10 (by decide)
theorem W15_main_arg11 (c : Dev nD) : W15 m ρ c (Proc.devRef .tc main_arg11) = m ((c : Thread nD τ).loc main_arg11) :=
  W15_args m ρ c main_arg11 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V11 m ρ) c
  | ⟨2, _⟩ => fun c => dat2 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W15`, the generator register at some state. -/
abbrev Tₙ (c : Dev nD) : sProp 𝕄 := iprop(StableHlo.held (c : Thread nD τ) (Pipeline.ucRefs τ sig) (W15 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) (A_eq1 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W13`, left at `W14`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) (A_eq2 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 15 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ),
    .host (hseg hostOps2 hostOps2_sub hostOps2_fresh (W12 m ρ)),
    .region (reg2 m ρ),
    .host (hseg hostOps3 hostOps3_sub hostOps3_fresh (W14 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters @main terminates, and at the end every unscoped buffer holds what the last
    boundary's contents name, every semaphore counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W15 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨h, funext fun g => hz g (.inr (no_unscoped g.2))⟩)

/-- The frame: the argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r hr => ⟨fun c =>
      have h := hr.1
      ⟨(h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩, hr.2⟩) (run_all m ρ)

end Cert.KernelIdeal.Hand

end
-- ==== Proof.HostPack.lean ====
/- What the host hands the main call: the convolution weights packed into zeroed matrices, the bias columns and the
   padded sequences, each read at an entry. -/
module

public import proofs.«01_k».proof.Proof.KernelIdealRun
public import Idealize.ShloMosaic.Lib.Pointwise
public import Idealize.ShloMosaic.Lib.Routing.OpsSet
public import Idealize.ShloMosaic.Lib.Routing.OpsPair
public import Idealize.ShloMosaic.Lib.KernelVsHost

@[expose] public section

set_option maxRecDepth 16384

noncomputable section

namespace Cert.KernelIdeal.Hand

open Cert.KernelIdeal Cert.KernelIdeal.Gen Idealize.ShloMosaic Idealize.ShloMosaic.TcCoe Idealize.SL.Sem

/-- A scatter of a whole block at the origin, read at an entry inside the block. -/
theorem corner_in {s si u : Shape} (d : ScatterDims s si u) (x0 : s.Idx → EReal) (idx : IVec si 32) (upd : u.Idx → EReal)
    (hr : s.rank = u.rank) (h0 : ∀ k, idx k = 0#32) (hw : ∀ k a, d.window k a = (k (a.cast hr)).val) (i : s.Idx) (k : u.Idx)
    (hk : ∀ a, (k (a.cast hr)).val = (i a).val) : Host.scatter d (fun _ b => b) x0 idx upd i = upd k := by
  have st : ∀ k a, d.start k idx a = 0 := by
    intro k a
    unfold ScatterDims.start
    split
    · rw [h0]; rfl
    · rfl
  refine Routing.scatter_set_hit d x0 idx upd i _ (fun k' h' => ?_) k ?_
  · rw [Routing.resultIdx?_eq_some] at h'
    congr 1
    funext a
    have := h' (a.cast hr.symm)
    rw [st, hw, ← hk] at this
    apply Fin.ext
    simpa using this
  · rw [Routing.resultIdx?_eq_some]
    intro a
    rw [st, hw, ← hk]
    simp

/-- The same read at an entry outside the block. -/
theorem corner_out {s si u : Shape} (d : ScatterDims s si u) (x0 : s.Idx → EReal) (idx : IVec si 32) (upd : u.Idx → EReal)
    (hr : s.rank = u.rank) (h0 : ∀ k, idx k = 0#32) (hw : ∀ k a, d.window k a = (k (a.cast hr)).val) (i : s.Idx)
    (hk : ∀ k : u.Idx, ∃ a, (k (a.cast hr)).val ≠ (i a).val) : Host.scatter d (fun _ b => b) x0 idx upd i = x0 i := by
  have st : ∀ k a, d.start k idx a = 0 := by
    intro k a
    unfold ScatterDims.start
    split
    · rw [h0]; rfl
    · rfl
  refine Routing.scatter_set_miss d x0 idx upd i fun k h' => ?_
  rw [Routing.resultIdx?_eq_some] at h'
  obtain ⟨a, ha⟩ := hk k
  have := h' a
  rw [st, hw] at this
  exact ha (by simpa using this)

/-- The pair of zero indices that each packing scatters at. -/
def origin : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

theorem origin_zero (k : S2.Idx) : origin k = 0#32 := by
  unfold origin
  pointwise
  split <;> rfl

def packOne (w : FVec Ideal S30x2x5x5 .f32) : FVec Ideal S40x160 .bf16 :=
  truncf .bf16 (shapeCast S40x160 (Host.scatter scatter_S5x8x5x32_S2_S5x2x5x30_0123_n_13_0 (fun _ b => b)
    (broadcastInDim S5x8x5x32 ![] bcast_S_S5x8x5x32 (constant S_ .f32 0x00000000#32)) origin
    (transpose S5x2x5x30 [2, 1, 3, 0] w transposes_S30x2x5x5_S5x2x5x30_2_1_3_0)) shapeCasts_S5x8x5x32_S40x160) bitsLt_bf16_f32

def packTwo (w : FVec Ideal S30x30x5x5 .f32) : FVec Ideal S160x160 .bf16 :=
  truncf .bf16 (shapeCast S160x160 (Host.scatter scatter_S5x32x5x32_S2_S5x30x5x30_0123_n_13_0 (fun _ b => b)
    (broadcastInDim S5x32x5x32 ![] bcast_S_S5x32x5x32 (constant S_ .f32 0x00000000#32)) origin
    (transpose S5x30x5x30 [2, 1, 3, 0] w transposes_S30x30x5x5_S5x30x5x30_2_1_3_0)) shapeCasts_S5x32x5x32_S160x160) bitsLt_bf16_f32

def packThree (w : FVec Ideal S1x30x3x3 .f32) : FVec Ideal S96x24 .bf16 :=
  truncf .bf16 (shapeCast S96x24 (Host.scatter scatter_S3x32x3x8_S2_S3x30x3x1_0123_n_13_0 (fun _ b => b)
    (broadcastInDim S3x32x3x8 ![] bcast_S_S3x32x3x8 (constant S_ .f32 0x00000000#32)) origin
    (transpose S3x30x3x1 [2, 1, 3, 0] w transposes_S1x30x3x3_S3x30x3x1_2_1_3_0)) shapeCasts_S3x32x3x8_S96x24) bitsLt_bf16_f32

theorem packOne_apply (w : Vec Ideal S30x2x5x5 .f32) (dy dx : Fin 5) (c : Fin 8) (o : Fin 30) :
    packOne w (ix2 (⟨8 * dy.val + c.val, by omega⟩ : Fin 40) (⟨32 * dx.val + o.val, by omega⟩ : Fin 160))
      = if h : c.val < 2 then w (ix4 o (⟨c.val, h⟩ : Fin 2) dy dx) else 0 := by
  have hin : ∀ i : S5x8x5x32.Idx, (i 0).val = dy.val → (i 1).val = c.val → (i 2).val = dx.val → (i 3).val = o.val →
      Host.scatter scatter_S5x8x5x32_S2_S5x2x5x30_0123_n_13_0 (fun _ b => b)
        (broadcastInDim S5x8x5x32 ![] bcast_S_S5x8x5x32 (constant (F := Ideal) S_ .f32 0x00000000#32)) origin
        (transpose S5x2x5x30 [2, 1, 3, 0] w transposes_S30x2x5x5_S5x2x5x30_2_1_3_0) i
        = if h : c.val < 2 then w (ix4 o (⟨c.val, h⟩ : Fin 2) dy dx) else 0 := by
    intro i h0 h1 h2 h3
    split
    · next h =>
      refine (corner_in scatter_S5x8x5x32_S2_S5x2x5x30_0123_n_13_0 _ origin _ rfl origin_zero (fun k a => by fin_cases a <;> rfl) i (ix4 dy (⟨c.val, h⟩ : Fin 2) dx o)
        (fun a => by fin_cases a; exacts [h0.symm, h1.symm, h2.symm, h3.symm])).trans ?_
      pointwise
    · next h =>
      refine (corner_out scatter_S5x8x5x32_S2_S5x2x5x30_0123_n_13_0 _ origin _ rfl origin_zero (fun k a => by fin_cases a <;> rfl) i
        (fun k => ⟨1, by have : (k 1).val < 2 := (k 1).isLt; show (k 1).val ≠ _; omega⟩)).trans ?_
      pointwise
  unfold packOne
  generalize Host.scatter _ _ _ _ _ = f at hin ⊢
  pointwise
  exact hin _ rfl rfl rfl (show (32 * dx.val + o.val) % 32 = o.val by omega)

theorem packTwo_apply (w : Vec Ideal S30x30x5x5 .f32) (dy dx : Fin 5) (c : Fin 32) (o : Fin 30) :
    packTwo w (ix2 (⟨32 * dy.val + c.val, by omega⟩ : Fin 160) (⟨32 * dx.val + o.val, by omega⟩ : Fin 160))
      = if h : c.val < 30 then w (ix4 o (⟨c.val, h⟩ : Fin 30) dy dx) else 0 := by
  have hin : ∀ i : S5x32x5x32.Idx, (i 0).val = dy.val → (i 1).val = c.val → (i 2).val = dx.val → (i 3).val = o.val →
      Host.scatter scatter_S5x32x5x32_S2_S5x30x5x30_0123_n_13_0 (fun _ b => b)
        (broadcastInDim S5x32x5x32 ![] bcast_S_S5x32x5x32 (constant (F := Ideal) S_ .f32 0x00000000#32)) origin
        (transpose S5x30x5x30 [2, 1, 3, 0] w transposes_S30x30x5x5_S5x30x5x30_2_1_3_0) i
        = if h : c.val < 30 then w (ix4 o (⟨c.val, h⟩ : Fin 30) dy dx) else 0 := by
    intro i h0 h1 h2 h3
    split
    · next h =>
      refine (corner_in scatter_S5x32x5x32_S2_S5x30x5x30_0123_n_13_0 _ origin _ rfl origin_zero (fun k a => by fin_cases a <;> rfl) i (ix4 dy (⟨c.val, h⟩ : Fin 30) dx o)
        (fun a => by fin_cases a; exacts [h0.symm, h1.symm, h2.symm, h3.symm])).trans ?_
      pointwise
    · next h =>
      refine (corner_out scatter_S5x32x5x32_S2_S5x30x5x30_0123_n_13_0 _ origin _ rfl origin_zero (fun k a => by fin_cases a <;> rfl) i
        (fun k => ⟨1, by have : (k 1).val < 30 := (k 1).isLt; show (k 1).val ≠ _; omega⟩)).trans ?_
      pointwise
  unfold packTwo
  generalize Host.scatter _ _ _ _ _ = f at hin ⊢
  pointwise
  exact hin _ rfl rfl rfl (show (32 * dx.val + o.val) % 32 = o.val by omega)

theorem packThree_apply (w : Vec Ideal S1x30x3x3 .f32) (dy dx : Fin 3) (c : Fin 32) :
    packThree w (ix2 (⟨32 * dy.val + c.val, by omega⟩ : Fin 96) (⟨8 * dx.val, by omega⟩ : Fin 24))
      = if h : c.val < 30 then w (ix4 (0 : Fin 1) (⟨c.val, h⟩ : Fin 30) dy dx) else 0 := by
  have hin : ∀ i : S3x32x3x8.Idx, (i 0).val = dy.val → (i 1).val = c.val → (i 2).val = dx.val → (i 3).val = 0 →
      Host.scatter scatter_S3x32x3x8_S2_S3x30x3x1_0123_n_13_0 (fun _ b => b)
        (broadcastInDim S3x32x3x8 ![] bcast_S_S3x32x3x8 (constant (F := Ideal) S_ .f32 0x00000000#32)) origin
        (transpose S3x30x3x1 [2, 1, 3, 0] w transposes_S1x30x3x3_S3x30x3x1_2_1_3_0) i
        = if h : c.val < 30 then w (ix4 (0 : Fin 1) (⟨c.val, h⟩ : Fin 30) dy dx) else 0 := by
    intro i h0 h1 h2 h3
    split
    · next h =>
      refine (corner_in scatter_S3x32x3x8_S2_S3x30x3x1_0123_n_13_0 _ origin _ rfl origin_zero (fun k a => by fin_cases a <;> rfl) i (ix4 dy (⟨c.val, h⟩ : Fin 30) dx (0 : Fin 1))
        (fun a => by fin_cases a; exacts [h0.symm, h1.symm, h2.symm, h3.symm])).trans ?_
      pointwise
    · next h =>
      refine (corner_out scatter_S3x32x3x8_S2_S3x30x3x1_0123_n_13_0 _ origin _ rfl origin_zero (fun k a => by fin_cases a <;> rfl) i
        (fun k => ⟨1, by have : (k 1).val < 30 := (k 1).isLt; show (k 1).val ≠ _; omega⟩)).trans ?_
      pointwise
  unfold packThree
  generalize Host.scatter _ _ _ _ _ = f at hin ⊢
  pointwise
  exact hin _ rfl rfl rfl (show 8 * dx.val % 8 = 0 by omega)

variable (X : Valuation τ sig (Elt Ideal))

theorem read_v12 : StableHlo.after (hostOps1_4 (F := Ideal)) X (Proc.devRef .tc main_v12) = packOne (X (Proc.devRef .tc main_arg2)) := by
  after_results
  unfold packOne origin
  rfl
theorem read_v20 : StableHlo.after (hostOps1_4 (F := Ideal)) X (Proc.devRef .tc main_v20) = packTwo (X (Proc.devRef .tc main_arg4)) := by
  after_results
  unfold packTwo origin
  rfl
theorem read_v28 : StableHlo.after (hostOps1_4 (F := Ideal)) X (Proc.devRef .tc main_v28) = packThree (X (Proc.devRef .tc main_arg6)) := by
  after_results
  unfold packThree origin
  rfl

end Cert.KernelIdeal.Hand

end
-- ==== Proof.HostReads.lean ====
/- What the host operations between the launches leave in the buffers the launches read. -/
module

public import proofs.«01_k».proof.Proof.KernelIdealRun
public import proofs.«01_k».proof.Proof.HostPack
public import Idealize.ShloMosaic.Lib.Pipeline.ValueKit
public import Idealize.ShloMosaic.Lib.Pointwise
public import Idealize.ShloMosaic.Lib.KernelVsHost

@[expose] public section

set_option maxRecDepth 16384

noncomputable section

namespace Cert.KernelIdeal.Hand

open Cert.KernelIdeal Cert.KernelIdeal.Gen Idealize.ShloMosaic Idealize.ShloMosaic.TcCoe Idealize.SL.Sem

/-- The sequence with eight zero rows on either side. -/
def padSeq (s : FVec Ideal S4x512x256 .f32) : FVec Ideal S4x528x256 .f32 :=
  pad S4x528x256 ![0, 8, 0] ![0, 8, 0] ![0, 0, 0] s (sitofp .f32 (constantI S_ 32 0#32)) pads_S4x512x256_S4x528x256_000_880_000 h_S_

/-- The positions with eight zeros on either side, as a column. -/
def padPos (r : FVec Ideal S4x512 .f32) : FVec Ideal S4x528x1 .f32 :=
  broadcastInDim S4x528x1 ![0, 1] bcast_S4x528_S4x528x1_0_1
    (pad S4x528 ![0, 8] ![0, 8] ![0, 0] r (sitofp (F := Ideal) .f32 (constantI S_ 32 0#32)) pads_S4x512_S4x528_000_880 h_S_)

/-- Thirty biases as a column, with two zeros below. -/
def padBias (b : FVec Ideal S30 .f32) : FVec Ideal S32x1 .f32 :=
  pad S32x1 ![0, 0] ![2, 0] ![0, 0] (shapeCast S30x1 b shapeCasts_S30_S30x1) (sitofp (F := Ideal) .f32 (constantI S_ 32 0#32)) pads_S30x1_S32x1_020_000 h_S_

theorem padSeq_apply (s : FVec Ideal S4x512x256 .f32) (b : Fin 4) (u : Fin 528) (d : Fin 256) :
    padSeq s (ix3 b u d) = if h : 8 ≤ u.val ∧ u.val < 520 then s (ix3 b ⟨u.val - 8, by omega⟩ d) else 0 := by
  pointwise [padSeq]
  have hz : FloatOps.sitofp (F := Ideal) .f32 0#32 = 0 := by
    show ((((0#32 : BitVec 32).toInt : ℝ) : EReal)) = 0
    simp
  by_cases h : 8 ≤ u.val ∧ u.val < 520
  · rw [dif_pos h, dif_pos ⟨h.1, by omega⟩]
  · rw [dif_neg h, dif_neg (fun g => h ⟨g.1, by omega⟩), hz]

theorem padPos_apply (r : FVec Ideal S4x512 .f32) (b : Fin 4) (u : Fin 528) :
    padPos r (ix3 b u 0) = if h : 8 ≤ u.val ∧ u.val < 520 then r (ix2 b ⟨u.val - 8, by omega⟩) else 0 := by
  pointwise [padPos]
  have hz : FloatOps.sitofp (F := Ideal) .f32 0#32 = 0 := by
    show ((((0#32 : BitVec 32).toInt : ℝ) : EReal)) = 0
    simp
  by_cases h : 8 ≤ u.val ∧ u.val < 520
  · rw [dif_pos h, dif_pos ⟨h.1, by omega⟩]
  · rw [dif_neg h, dif_neg (fun g => h ⟨g.1, by omega⟩), hz]

theorem padBias_apply (x : FVec Ideal S30 .f32) (o : Fin 30) : padBias x (ix2 (⟨o.val, by omega⟩ : Fin 32) 0) = x (ix1 o) := by
  pointwise [padBias]

variable (X : Valuation τ sig (Elt Ideal))

theorem read_v0 (b : Fin 4) : StableHlo.after (hostOps0 (F := Ideal)) X (Proc.devRef .tc main_v0) (ix2 b 0) = X (Proc.devRef .tc main_arg1) (ix1 b) := by
  after_results
  pointwise

theorem read_c : StableHlo.after (hostOps1 (F := Ideal)) X (Proc.devRef .tc main_c) = constantI S_ 32 0#32 := by
  after_results

theorem read_v2 (hc : X (Proc.devRef .tc main_c) = constantI S_ 32 0#32) :
    StableHlo.after (hostOps1_1 (F := Ideal)) X (Proc.devRef .tc main_v2) = padSeq (X (Proc.devRef .tc main_arg0)) := by
  after_results
  rw [hc]
  rfl

theorem read_c_0 : StableHlo.after (hostOps1_2 (F := Ideal)) X (Proc.devRef .tc main_c_0) = constantI S_ 32 0#32 := by
  after_results

theorem read_v3 (hc : X (Proc.devRef .tc main_c_0) = constantI S_ 32 0#32) :
    StableHlo.after (hostOps1_3 (F := Ideal)) X (Proc.devRef .tc main_v3) =
      pad S4x528 ![0, 8] ![0, 8] ![0, 0] (X (Proc.devRef .tc main_v1_1)) (sitofp (F := Ideal) .f32 (constantI S_ 32 0#32)) pads_S4x512_S4x528_000_880 h_S_ := by
  after_results
  rw [hc]
  rfl

theorem read_v4 : StableHlo.after (hostOps1_4 (F := Ideal)) X (Proc.devRef .tc main_v4) =
    broadcastInDim S4x528x1 ![0, 1] bcast_S4x528_S4x528x1_0_1 (X (Proc.devRef .tc main_v3) : FVec Ideal S4x528 .f32) := by
  after_results

theorem read_v29 : StableHlo.after (hostOps1_4 (F := Ideal)) X (Proc.devRef .tc main_v29) =
    shapeCast S30x1 (X (Proc.devRef .tc main_arg3) : FVec Ideal S30 .f32) shapeCasts_S30_S30x1 := by
  after_results
  rfl

theorem read_c_9 : StableHlo.after (hostOps1_4 (F := Ideal)) X (Proc.devRef .tc main_c_9) = constantI S_ 32 0#32 := by
  after_results

theorem read_v30 (hc : X (Proc.devRef .tc main_c_9) = constantI S_ 32 0#32) (x : FVec Ideal S30 .f32)
    (hx : X (Proc.devRef .tc main_v29) = shapeCast S30x1 x shapeCasts_S30_S30x1) :
    StableHlo.after (hostOps1_5 (F := Ideal)) X (Proc.devRef .tc main_v30) = padBias x := by
  after_results
  rw [hc, hx]
  rfl

theorem read_v31 : StableHlo.after (hostOps1_6 (F := Ideal)) X (Proc.devRef .tc main_v31) =
    shapeCast S30x1 (X (Proc.devRef .tc main_arg5) : FVec Ideal S30 .f32) shapeCasts_S30_S30x1 := by
  after_results
  rfl

theorem read_c_10 : StableHlo.after (hostOps1_6 (F := Ideal)) X (Proc.devRef .tc main_c_10) = constantI S_ 32 0#32 := by
  after_results

theorem read_v32 (hc : X (Proc.devRef .tc main_c_10) = constantI S_ 32 0#32) (x : FVec Ideal S30 .f32)
    (hx : X (Proc.devRef .tc main_v31) = shapeCast S30x1 x shapeCasts_S30_S30x1) :
    StableHlo.after (hostOps1_7 (F := Ideal)) X (Proc.devRef .tc main_v32) = padBias x := by
  after_results
  rw [hc, hx]
  rfl

theorem read_v33 (b : Fin 4) (k : Fin 512) : StableHlo.after (hostOps1_8 (F := Ideal)) X (Proc.devRef .tc main_v33) (ix3 b 0 k) =
    X (Proc.devRef .tc main_v1_2) (ix2 b k) := by
  after_results
  pointwise

theorem read_v34 (b : Fin 4) (k : Fin 512) : StableHlo.after (hostOps1_8 (F := Ideal)) X (Proc.devRef .tc main_v34) (ix3 b 0 k) =
    X (Proc.devRef .tc main_v1_3) (ix2 b k) := by
  after_results
  pointwise

theorem read_v35 : StableHlo.after (hostOps1_8 (F := Ideal)) X (Proc.devRef .tc main_v35) (ix2 0 0) =
    X (Proc.devRef .tc main_arg7) (ix1 0) := by
  after_results
  pointwise

theorem read_v38 (k e : Fin 256) : StableHlo.after (hostOps2 (F := Ideal)) X (Proc.devRef .tc main_v38) (ix2 k e) =
    X (Proc.devRef .tc main_arg8) (ix2 e k) := by
  after_results
  pointwise

theorem read_v39 (e : Fin 256) : StableHlo.after (hostOps2 (F := Ideal)) X (Proc.devRef .tc main_v39) (ix2 0 e) =
    X (Proc.devRef .tc main_arg9) (ix1 e) := by
  after_results
  pointwise

theorem read_v41 (k e : Fin 256) : StableHlo.after (hostOps2 (F := Ideal)) X (Proc.devRef .tc main_v41) (ix2 k e) =
    X (Proc.devRef .tc main_arg10) (ix2 e k) := by
  after_results
  pointwise

theorem read_v42 (e : Fin 256) : StableHlo.after (hostOps2 (F := Ideal)) X (Proc.devRef .tc main_v42) (ix2 0 e) =
    X (Proc.devRef .tc main_arg11) (ix1 e) := by
  after_results
  pointwise

end Cert.KernelIdeal.Hand

end
-- ==== Proof.Steps.lean ====
/- The small functions that the prep call, the distances and the prediction head share with the reference: the clipped
   length, the normalised positions, the three-tap average, the distance of two rows, and the head's row. -/
module

public import Idealize.ShloMosaic.PureOps
public import Idealize.ShloMosaic.Lib.Pointwise
public import Idealize.ShloMosaic.Lib.KernelVsHost
public import Idealize.ShloMosaic.Lib.SortNet.Extract

@[expose] public section

noncomputable section

namespace Cert.Layers

open Idealize.ShloMosaic

/-- A sequence's length, clipped to 8 … 512. -/
def lenOf (n : BitVec 32) : EReal := (FloatOps.sitofp .f32 (IntOp.minsi 512#32 (IntOp.maxsi 8#32 n)) : Ideal .f32)

/-- One where position `k` lies below `L`, zero elsewhere. -/
def below (L : EReal) (k : ℕ) : EReal := if (FloatOps.sitofp .f32 (BitVec.ofNat 32 k) : Ideal .f32) < L then 1 else 0

/-- The normalised position `(k + 1) / L`, zero from `L` on. -/
def posOf (L : EReal) (k : ℕ) : EReal := Ideal.div ((FloatOps.sitofp .f32 (BitVec.ofNat 32 k) : Ideal .f32) + 1) L * below L k

/-- The three-tap average of a column of the sequence, masked. -/
def avgOf (s : Fin 512 → EReal) (L : EReal) (k : Fin 512) : EReal :=
  (if h : k.val < 510 then
    Ideal.ofBits .f32 0x3DCCCCCD#32 * s k + Ideal.ofBits .f32 0x3F4CCCCD#32 * s (⟨1 + k.val, by omega⟩ : Fin 512)
      + Ideal.ofBits .f32 0x3DCCCCCD#32 * s (⟨2 + k.val, by omega⟩ : Fin 512)
  else 0) * below L k.val

/-- The distance of two rows, by the expanded square. -/
def distOf (a v : Fin 256 → EReal) : EReal :=
  Ideal.sqrt (max ((∑ d, a d * a d) + (∑ d, v d * v d) - Ideal.ofBits .f32 1073741824#32 * ∑ d, a d * v d) (Ideal.ofBits .f32 730643660#32))

/-- The difference of two positions, in absolute value. -/
def gapOf (a b : EReal) : EReal := max (a - b) (-(a - b))

/-- A row through one dense layer. -/
def dense (s : Fin 256 → EReal) (w : Fin 256 → Fin 256 → EReal) (b : Fin 256 → EReal) (e : Fin 256) : EReal :=
  (∑ k, s k * w k e) + b e

/-- A row through both dense layers. -/
def twoDense (s : Fin 256 → EReal) (w1 : Fin 256 → Fin 256 → EReal) (b1 : Fin 256 → EReal) (w2 : Fin 256 → Fin 256 → EReal)
    (b2 : Fin 256 → EReal) : Fin 256 → EReal :=
  dense (fun e => max (dense s w1 b1 e) 0) w2 b2

/-- A row over its length, the length bounded below. -/
def unitRow (v : Fin 256 → EReal) (d : Fin 256) : EReal :=
  Ideal.div (v d) (max (Ideal.sqrt (∑ e, v e * v e)) (Ideal.ofBits .f32 0x2B8CBCCC#32))

theorem uitofp_bit (p : Prop) [Decidable p] :
    (FloatOps.uitofp .f32 (BitVec.ofBool (decide p)) : Ideal .f32) = if p then 1 else 0 := by
  by_cases h : p <;> simp [h] <;> show (((_ : BitVec 1).toNat : ℝ) : EReal) = _ <;> simp

theorem word_8 : Ideal.ofBits .f32 1090519040#32 = ((8 : ℝ) : EReal) := by
  simp [Ideal.ofBits, Ideal.ieee, BitVec.toNat_ofNat, -EReal.coe_mul]
  norm_num

theorem word_512' : Ideal.ofBits .f32 1140850688#32 = ((512 : ℝ) : EReal) := by
  simp [Ideal.ofBits, Ideal.ieee, BitVec.toNat_ofNat, -EReal.coe_mul]
  norm_num

/-- Clipping after the conversion is clipping before it. -/
theorem clip_eq (n : BitVec 32) :
    min (Ideal.ofBits .f32 1140850688#32) (max (Ideal.ofBits .f32 1090519040#32) (FloatOps.sitofp .f32 n : Ideal .f32)) = lenOf n := by
  rw [word_8, word_512']
  show min ((512 : ℝ) : EReal) (max ((8 : ℝ) : EReal) (((n.toInt : ℝ) : EReal))) = (((IntOp.minsi 512#32 (IntOp.maxsi 8#32 n)).toInt : ℝ) : EReal)
  have mono : Monotone (fun k : ℤ => (((k : ℤ) : ℝ) : EReal)) := fun a b h => EReal.coe_le_coe_iff.2 (Int.cast_le.2 h)
  have h1 : (IntOp.minsi 512#32 (IntOp.maxsi 8#32 n)).toInt = min 512 (max 8 n.toInt) := by
    rw [SortNet.toInt_minsi, SortNet.toInt_maxsi]
    rfl
  rw [h1]
  refine Eq.trans ?_ (mono.map_min (a := 512) (b := max 8 n.toInt)).symm
  refine congrArg₂ min ?_ (Eq.trans ?_ (mono.map_max (a := 8) (b := n.toInt)).symm)
  · norm_num
  · refine congrArg₂ max ?_ rfl
    norm_num

end Cert.Layers

end
-- ==== Proof.Prep.lean ====
/- The prep call's four arrays over its two inputs, read at an entry. -/
module

public import proofs.«01_k».proof.Proof.KernelIdealRun
public import proofs.«01_k».proof.Proof.TilePay
public import proofs.«01_k».proof.Proof.Steps
public import Idealize.ShloMosaic.Lib.Pipeline.ValueKit
public import Idealize.ShloMosaic.Lib.Pointwise
public import Idealize.ShloMosaic.Lib.KernelVsHost

@[expose] public section

set_option maxRecDepth 16384

noncomputable section

namespace Cert.KernelIdeal.Hand

open Cert.Layers Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem index0 : ∀ t : Fin cfg0.N, win0_0.index t = (fun _ => 0) ∧ win0_1.index t = (fun _ => 0) ∧ win0_2.index t = (fun _ => 0) ∧
    win0_3.index t = (fun _ => 0) ∧ win0_4.index t = (fun _ => 0) ∧ win0_5.index t = (fun _ => 0) := by decide +kernel

theorem block0_0 (c : Dev nD) (t : Fin cfg0.N) : iblk0 V c 0 t = V c main_arg0 := by
  funext y
  blk_ext [iblk0, index0 t]

theorem block0_1 (c : Dev nD) (t : Fin cfg0.N) : iblk0 V c 1 t = V c main_v0 := by
  funext y
  blk_ext [iblk0, index0 t]

theorem ld_len (l : Vec Ideal S4x1 .i32) : View.ld l r0_1 = l := View.ld_unit_lit _ _ (by decide)

theorem ld_seq (s : Vec Ideal S4x512x256 .f32) : View.ld s r0_0 = s := View.ld_unit_lit _ _ (by decide)

theorem avg_loads (l : Vec Ideal S4x1 .i32) (s : Vec Ideal S4x512x256 .f32) :
    k0_pay1 (F := Ideal) (k0_pay7 (View.ld l r0_1)) (k0_pay9 (View.ld s r0_0)) (k0_pay10 (View.ld s r0_0)) k0_pay11 =
      k0_pay1 (k0_pay7 l) (k0_pay9 s) (k0_pay10 s) k0_pay11 := by
  rw [ld_len, ld_seq]

theorem square_loads (l : Vec Ideal S4x1 .i32) (s : Vec Ideal S4x512x256 .f32) :
    k0_pay2 (F := Ideal) (k0_pay7 (View.ld l r0_1)) (k0_pay9 (View.ld s r0_0)) (k0_pay10 (View.ld s r0_0)) k0_pay11 =
      k0_pay2 (k0_pay7 l) (k0_pay9 s) (k0_pay10 s) k0_pay11 := by
  rw [ld_len, ld_seq]

theorem arr0_2 (c : Dev nD) : (dat0 V c).arrAt 2 cfg0.N = k0_pay1 (k0_pay7 (V c main_v0)) (k0_pay9 (V c main_arg0)) (k0_pay10 (V c main_arg0)) k0_pay11 := by
  refine (dat0 V c).arrAt_eq_of_covers 2 _ (by decide +kernel) fun t hf y => ?_
  blk_simp
  rw [after0_2, block0_1, block0_0]
  frame_out
  unfold k0_pay12 k0_pay13 k0_pay14 k0_pay15
  generalize V c main_v0 = l
  generalize V c main_arg0 = s
  refine (congrFun (avg_loads l s) y).trans ?_
  refine congrArg _ (funext fun a => Fin.ext ?_)
  blk_simp [index0 t]

theorem arr0_3 (c : Dev nD) : (dat0 V c).arrAt 3 cfg0.N = k0_pay5 (V c main_v0) := by
  refine (dat0 V c).arrAt_eq_of_covers 3 _ (by decide +kernel) fun t hf y => ?_
  blk_simp
  rw [after0_3, block0_1]
  frame_out
  generalize V c main_v0 = l
  refine congrArg _ (funext fun a => Fin.ext ?_)
  blk_simp [index0 t]

theorem arr0_4 (c : Dev nD) : (dat0 V c).arrAt 4 cfg0.N = k0_pay8 (V c main_v0) := by
  refine (dat0 V c).arrAt_eq_of_covers 4 _ (by decide +kernel) fun t hf y => ?_
  blk_simp
  rw [after0_4, block0_1]
  frame_out
  generalize V c main_v0 = l
  refine congrArg _ (funext fun a => Fin.ext ?_)
  blk_simp [index0 t]

theorem arr0_5 (c : Dev nD) : (dat0 V c).arrAt 5 cfg0.N = k0_pay2 (k0_pay7 (V c main_v0)) (k0_pay9 (V c main_arg0)) (k0_pay10 (V c main_arg0)) k0_pay11 := by
  refine (dat0 V c).arrAt_eq_of_covers 5 _ (by decide +kernel) fun t hf y => ?_
  blk_simp
  rw [after0_5, block0_1, block0_0]
  frame_out
  unfold k0_pay12 k0_pay13 k0_pay14 k0_pay15
  generalize V c main_v0 = l
  generalize V c main_arg0 = s
  refine (congrFun (square_loads l s) y).trans ?_
  refine congrArg _ (funext fun a => Fin.ext ?_)
  blk_simp [index0 t]

/-- Two less than a length, the bound of the averaged sequence. -/
abbrev lessTwo (L : EReal) : EReal := L - Ideal.ofBits .f32 0x40000000#32

theorem prep_len (v3 : Vec Ideal S4x1 .i32) (b : Fin 4) : k0_pay4 (F := Ideal) v3 (ix2 b 0) = lenOf (v3 (ix2 b 0)) := by
  rw [← clip_eq]
  pointwise [k0_pay4]

theorem prep_pos (v3 : Vec Ideal S4x1 .i32) (b : Fin 4) (k : Fin 512) :
    k0_pay5 (F := Ideal) v3 (ix2 b k) = posOf (lenOf (v3 (ix2 b 0))) k.val := by
  have h := prep_len v3 b
  pointwise [k0_pay5, k0_pay3]
  rw [h, sitofp_bit]
  rfl

theorem prep_mask (v3 : Vec Ideal S4x1 .i32) (b : Fin 4) (k : Fin 512) :
    k0_pay7 (F := Ideal) v3 (ix2 b k) = below (lessTwo (lenOf (v3 (ix2 b 0)))) k.val := by
  have h := prep_len v3 b
  pointwise [k0_pay7, k0_pay6, k0_pay3]
  rw [h, sitofp_bit]
  rfl

theorem prep_posAvg (v3 : Vec Ideal S4x1 .i32) (b : Fin 4) (k : Fin 512) :
    k0_pay8 (F := Ideal) v3 (ix2 b k) = posOf (lessTwo (lenOf (v3 (ix2 b 0)))) k.val := by
  have h := prep_len v3 b
  have h' := prep_mask v3 b k
  pointwise [k0_pay8, k0_pay6, k0_pay3]
  rw [h, h']
  rfl

theorem prep_avg (v3 : Vec Ideal S4x1 .i32) (s : Vec Ideal S4x512x256 .f32) (b : Fin 4) (k : Fin 512) (d : Fin 256) :
    k0_pay1 (F := Ideal) (k0_pay7 v3) (k0_pay9 s) (k0_pay10 s) k0_pay11 (ix3 b k d) =
      avgOf (fun k => s (ix3 b k d)) (lessTwo (lenOf (v3 (ix2 b 0)))) k := by
  have h := prep_mask v3 b k
  have hz : ((((0#32 : BitVec 32).toInt : ℝ) : EReal)) = 0 := by simp
  generalize k0_pay7 (F := Ideal) v3 = M at h ⊢
  pointwise [k0_pay1, k0_pay9, k0_pay10, k0_pay11]
  rw [h, hz]
  rfl

theorem prep_square (v25 : FVec Ideal S4x512 .f32) (v38 v39 v40 : FVec Ideal S4x510x256 .f32) (b : Fin 4) (k : Fin 512) :
    k0_pay2 (F := Ideal) v25 v38 v39 v40 (ix2 b k) =
      ∑ d : Fin 256, k0_pay1 (F := Ideal) v25 v38 v39 v40 (ix3 b k d) * k0_pay1 (F := Ideal) v25 v38 v39 v40 (ix3 b k d) := by
  unfold k0_pay2
  generalize k0_pay1 (F := Ideal) v25 v38 v39 v40 = A
  pointwise

end Cert.KernelIdeal.Hand

end
-- ==== Proof.RefConv.lean ====
/- The reference's convolutions read at an index: each of its taps, and the sum of the taps as a sum over the window. -/
module

public import proofs.«01_k».proof.Proof.Gen.ReferenceIdeal.Read
public import proofs.«01_k».proof.Proof.Layers

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem
open Cert.Layers

/-- One tap of the first convolution. -/
def tapOne (p : FVec Ideal S4x2x516x516 .f32) (w : FVec Ideal S30x2x5x5 .f32) (dy dx : Fin 5) : FVec Ideal S4x30x512x512 .f32 :=
  transpose S4x30x512x512 [0, 3, 1, 2]
    (Host.dotGeneral dot_S4x2x512x512_S30x2_S4x512x512x30_1_1_023_0_n_n none
      (extractStridedSlice S4x2x512x512 ![0, 0, dy.val, dx.val] p ((by decide : ∀ dy dx : Fin 5, S4x2x516x516.Slices ![0, 0, dy.val, dx.val] S4x2x512x512) dy dx))
      (shapeCast S30x2 (extractStridedSlice S30x2x1x1 ![0, 0, dy.val, dx.val] w ((by decide : ∀ dy dx : Fin 5, S30x2x5x5.Slices ![0, 0, dy.val, dx.val] S30x2x1x1) dy dx)) shapeCasts_S30x2x1x1_S30x2))
    transposes_S4x512x512x30_S4x30x512x512_0_3_1_2

theorem tapOne_apply (p : FVec Ideal S4x2x516x516 .f32) (w : FVec Ideal S30x2x5x5 .f32) (dy dx : Fin 5) (b : Fin 4) (o : Fin 30) (y x : Fin 512) :
    tapOne p w dy dx (ix4 b o y x) =
      ∑ c : Fin 2, p (ix4 b c (⟨dy.val + y.val, by omega⟩ : Fin 516) (⟨dx.val + x.val, by omega⟩ : Fin 516)) * w (ix4 o c dy dx) := by
  pointwise [tapOne]

/-- One tap of the second convolution. -/
def tapTwo (p : FVec Ideal S4x30x516x516 .f32) (w : FVec Ideal S30x30x5x5 .f32) (dy dx : Fin 5) : FVec Ideal S4x30x512x512 .f32 :=
  transpose S4x30x512x512 [0, 3, 1, 2]
    (Host.dotGeneral dot_S4x30x512x512_S30x30_S4x512x512x30_1_1_023_0_n_n none
      (extractStridedSlice S4x30x512x512 ![0, 0, dy.val, dx.val] p ((by decide : ∀ dy dx : Fin 5, S4x30x516x516.Slices ![0, 0, dy.val, dx.val] S4x30x512x512) dy dx))
      (shapeCast S30x30 (extractStridedSlice S30x30x1x1 ![0, 0, dy.val, dx.val] w ((by decide : ∀ dy dx : Fin 5, S30x30x5x5.Slices ![0, 0, dy.val, dx.val] S30x30x1x1) dy dx)) shapeCasts_S30x30x1x1_S30x30))
    transposes_S4x512x512x30_S4x30x512x512_0_3_1_2

theorem tapTwo_apply (p : FVec Ideal S4x30x516x516 .f32) (w : FVec Ideal S30x30x5x5 .f32) (dy dx : Fin 5) (b : Fin 4) (o : Fin 30) (y x : Fin 512) :
    tapTwo p w dy dx (ix4 b o y x) =
      ∑ c : Fin 30, p (ix4 b c (⟨dy.val + y.val, by omega⟩ : Fin 516) (⟨dx.val + x.val, by omega⟩ : Fin 516)) * w (ix4 o c dy dx) := by
  pointwise [tapTwo]

/-- One tap of the third convolution. -/
def tapThree (p : FVec Ideal S4x30x514x514 .f32) (w : FVec Ideal S1x30x3x3 .f32) (dy dx : Fin 3) : FVec Ideal S4x1x512x512 .f32 :=
  transpose S4x1x512x512 [0, 3, 1, 2]
    (Host.dotGeneral dot_S4x30x512x512_S1x30_S4x512x512x1_1_1_023_0_n_n none
      (extractStridedSlice S4x30x512x512 ![0, 0, dy.val, dx.val] p ((by decide : ∀ dy dx : Fin 3, S4x30x514x514.Slices ![0, 0, dy.val, dx.val] S4x30x512x512) dy dx))
      (shapeCast S1x30 (extractStridedSlice S1x30x1x1 ![0, 0, dy.val, dx.val] w ((by decide : ∀ dy dx : Fin 3, S1x30x3x3.Slices ![0, 0, dy.val, dx.val] S1x30x1x1) dy dx)) shapeCasts_S1x30x1x1_S1x30))
    transposes_S4x512x512x1_S4x1x512x512_0_3_1_2

theorem tapThree_apply (p : FVec Ideal S4x30x514x514 .f32) (w : FVec Ideal S1x30x3x3 .f32) (dy dx : Fin 3) (b : Fin 4) (y x : Fin 512) :
    tapThree p w dy dx (ix4 b 0 y x) =
      ∑ c : Fin 30, p (ix4 b c (⟨dy.val + y.val, by omega⟩ : Fin 514) (⟨dx.val + x.val, by omega⟩ : Fin 514)) * w (ix4 0 c dy dx) := by
  pointwise [tapThree]

variable (x0 : FVec Ideal S4x512x256 .f32) (x1 : IVec S4 32) (x2 : FVec Ideal S30x2x5x5 .f32) (x3 : FVec Ideal S30 .f32)
  (x4 : FVec Ideal S30x30x5x5 .f32) (x5 : FVec Ideal S30 .f32) (x6 : FVec Ideal S1x30x3x3 .f32) (x7 : FVec Ideal S1 .f32)

/-- The two input images with zeros around them, rows shifted by eight, columns by two. -/
def images (b : Fin 4) (c : Fin 2) (u v : ℕ) : EReal :=
  if h : (8 ≤ u ∧ u < 520) ∧ (2 ≤ v ∧ v < 514) then
    val_main_v72 (F := Ideal) x0 x1 (ix4 b c (⟨u - 8, by omega⟩ : Fin 512) (⟨v - 2, by omega⟩ : Fin 512)) else 0

theorem v73_read (b : Fin 4) (c : Fin 2) (y x : Fin 516) : val_main_v73 (F := Ideal) x0 x1 (ix4 b c y x) = images x0 x1 b c (y.val + 6) x.val := by
  rw [images]
  generalize hv : val_main_v72 (F := Ideal) x0 x1 = v
  have hz : val_main_call2_v0 (F := Ideal) (Shape.Idx.first h_S_) = 0 := by
    show ((((0#32 : BitVec 32).toInt : ℝ) : EReal)) = 0
    simp
  pointwise [val_main_v73, hv]
  rw [hz]
  by_cases h : (2 ≤ y.val ∧ y.val - 2 < 512) ∧ 2 ≤ x.val ∧ x.val - 2 < 512
  · rw [dif_pos h, dif_pos (by omega)]
    congr 2
  · rw [dif_neg h, dif_neg (by omega)]

theorem v224_read (b : Fin 4) (o : Fin 30) (y x : Fin 512) :
    val_main_v224 (F := Ideal) x0 x1 x2 (ix4 b o y x) =
      win 5 2 (fun dy dx c => x2 (ix4 o c dy dx)) (images x0 x1 b) (y.val + 6) x.val := by
  have hz : val_main_v79 (F := Ideal) (ix4 b o y x) = 0 := Ideal.ofBits_zero_f32
  have hs : val_main_v224 (F := Ideal) x0 x1 x2 (ix4 b o y x) = addFive (val_main_v79 (F := Ideal) (ix4 b o y x))
      fun dy dx => tapOne (val_main_v73 (F := Ideal) x0 x1) x2 dy dx (ix4 b o y x) := rfl
  rw [hs, hz, addFive_eq]
  refine Finset.sum_congr rfl fun dx _ => Finset.sum_congr rfl fun dy _ => ?_
  rw [tapOne_apply]
  refine Finset.sum_congr rfl fun c _ => ?_
  rw [v73_read, mul_comm]
  congr 2
  · show dy.val + y.val + 6 = y.val + 6 + dy.val; omega
  · exact Nat.add_comm _ _

theorem v229_read (b : Fin 4) (o : Fin 30) (y x : Fin 516) (hy : 2 ≤ y.val ∧ y.val < 514) :
    val_main_v229 (F := Ideal) x0 x1 x2 x3 (ix4 b o y x) =
      layerOne (fun o dy dx c => x2 (ix4 o c dy dx)) (fun o => x3 (ix1 o)) (images x0 x1 b) o (y.val + 4) x.val := by
  rw [layerOne]
  have h228 : ∀ (y x : Fin 512), val_main_v228 (F := Ideal) x0 x1 x2 x3 (ix4 b o y x) =
      max (win 5 2 (fun dy dx c => x2 (ix4 o c dy dx)) (images x0 x1 b) (y.val + 6) x.val + x3 (ix1 o)) 0 := fun y x => by
    rw [← v224_read]
    pointwise [val_main_v228, val_main_v227, val_main_v226, val_main_v225, val_main_call3_v0, val_main_call3_cst]
  generalize hv : val_main_v228 (F := Ideal) x0 x1 x2 x3 = v at h228
  have hz : val_main_call4_v0 (F := Ideal) (Shape.Idx.first h_S_) = 0 := by
    show ((((0#32 : BitVec 32).toInt : ℝ) : EReal)) = 0
    simp
  pointwise [val_main_v229, hv]
  rw [hz]
  by_cases h : 2 ≤ x.val ∧ x.val < 514
  · rw [dif_pos (by omega), if_pos h, h228]
    dsimp only
    rw [show y.val - 2 + 6 = y.val + 4 by omega]
  · rw [dif_neg (by omega), if_neg h]

theorem v380_read (b : Fin 4) (o : Fin 30) (y x : Fin 512) (hy : 2 ≤ y.val ∧ y.val < 510) :
    val_main_v380 (F := Ideal) x0 x1 x2 x3 x4 (ix4 b o y x) =
      win 5 30 (fun dy dx c => x4 (ix4 o c dy dx))
        (layerOne (fun o dy dx c => x2 (ix4 o c dy dx)) (fun o => x3 (ix1 o)) (images x0 x1 b)) (y.val + 4) x.val := by
  have hz : val_main_v235 (F := Ideal) (ix4 b o y x) = 0 := Ideal.ofBits_zero_f32
  have hs : val_main_v380 (F := Ideal) x0 x1 x2 x3 x4 (ix4 b o y x) = addFive (val_main_v235 (F := Ideal) (ix4 b o y x))
      fun dy dx => tapTwo (val_main_v229 (F := Ideal) x0 x1 x2 x3) x4 dy dx (ix4 b o y x) := rfl
  rw [hs, hz, addFive_eq]
  refine Finset.sum_congr rfl fun dx _ => Finset.sum_congr rfl fun dy _ => ?_
  rw [tapTwo_apply]
  refine Finset.sum_congr rfl fun c _ => ?_
  have hdy := dy.isLt
  rw [v229_read _ _ _ _ _ _ _ _ (by dsimp only; omega), mul_comm]
  congr 2
  · show dy.val + y.val + 4 = y.val + 4 + dy.val; omega
  · exact Nat.add_comm _ _

theorem v385_read (b : Fin 4) (o : Fin 30) (y x : Fin 514) (hy : 3 ≤ y.val ∧ y.val < 511) :
    val_main_v385 (F := Ideal) x0 x1 x2 x3 x4 x5 (ix4 b o y x) =
      layerTwo (fun o dy dx c => x4 (ix4 o c dy dx)) (fun o => x5 (ix1 o))
        (layerOne (fun o dy dx c => x2 (ix4 o c dy dx)) (fun o => x3 (ix1 o)) (images x0 x1 b)) o (y.val + 3) x.val := by
  rw [layerTwo]
  have h384 : ∀ (y x : Fin 512), 2 ≤ y.val ∧ y.val < 510 → val_main_v384 (F := Ideal) x0 x1 x2 x3 x4 x5 (ix4 b o y x) =
      max (win 5 30 (fun dy dx c => x4 (ix4 o c dy dx))
        (layerOne (fun o dy dx c => x2 (ix4 o c dy dx)) (fun o => x3 (ix1 o)) (images x0 x1 b)) (y.val + 4) x.val + x5 (ix1 o)) 0 :=
    fun y x hy => by
      rw [← v380_read _ _ _ _ _ _ _ _ _ hy]
      pointwise [val_main_v384, val_main_v383, val_main_v382, val_main_v381, val_main_call5_v0, val_main_call5_cst]
  generalize hv : val_main_v384 (F := Ideal) x0 x1 x2 x3 x4 x5 = v at h384
  have hz : val_main_call6_v0 (F := Ideal) (Shape.Idx.first h_S_) = 0 := by
    show ((((0#32 : BitVec 32).toInt : ℝ) : EReal)) = 0
    simp
  pointwise [val_main_v385, hv]
  rw [hz]
  by_cases h : 1 ≤ x.val ∧ x.val < 513
  · rw [dif_pos (by omega), if_pos h, h384 _ _ (by dsimp only; omega)]
    dsimp only
    rw [show y.val - 1 + 4 = y.val + 3 by omega]
  · rw [dif_neg (by omega), if_neg h]

theorem v440_read (b : Fin 4) (y x : Fin 512) (hy : 3 ≤ y.val ∧ y.val < 509) :
    val_main_v440 (F := Ideal) x0 x1 x2 x3 x4 x5 x6 (ix4 b 0 y x) =
      win 3 30 (fun dy dx c => x6 (ix4 0 c dy dx))
        (layerTwo (fun o dy dx c => x4 (ix4 o c dy dx)) (fun o => x5 (ix1 o))
          (layerOne (fun o dy dx c => x2 (ix4 o c dy dx)) (fun o => x3 (ix1 o)) (images x0 x1 b))) (y.val + 3) x.val := by
  have hz : val_main_v391 (F := Ideal) (ix4 b 0 y x) = 0 := Ideal.ofBits_zero_f32
  have hs : val_main_v440 (F := Ideal) x0 x1 x2 x3 x4 x5 x6 (ix4 b 0 y x) = addThree (val_main_v391 (F := Ideal) (ix4 b 0 y x))
      fun dy dx => tapThree (val_main_v385 (F := Ideal) x0 x1 x2 x3 x4 x5) x6 dy dx (ix4 b 0 y x) := rfl
  rw [hs, hz, addThree_eq]
  refine Finset.sum_congr rfl fun dx _ => Finset.sum_congr rfl fun dy _ => ?_
  rw [tapThree_apply]
  refine Finset.sum_congr rfl fun c _ => ?_
  have hdy := dy.isLt
  rw [v385_read _ _ _ _ _ _ _ _ _ _ (by dsimp only; omega), mul_comm]
  congr 2
  · show dy.val + y.val + 3 = y.val + 3 + dy.val; omega
  · exact Nat.add_comm _ _

/-- The cost the softmax takes in row `y`, column `x`: the third convolution, its bias and the distance. -/
def costAt (b : Fin 4) (y x : Fin 512) : EReal :=
  win 3 30 (fun dy dx c => x6 (ix4 0 c dy dx))
    (layerTwo (fun o dy dx c => x4 (ix4 o c dy dx)) (fun o => x5 (ix1 o))
      (layerOne (fun o dy dx c => x2 (ix4 o c dy dx)) (fun o => x3 (ix1 o)) (images x0 x1 b))) (y.val + 3) x.val + x7 (ix1 0) +
    val_main_v63 (F := Ideal) x0 x1 (ix3 b y x)

theorem v445_read (b : Fin 4) (y x : Fin 512) (hy : 3 ≤ y.val ∧ y.val < 509) :
    val_main_v445 (F := Ideal) x0 x1 x2 x3 x4 x5 x6 x7 (ix3 b y x) = costAt x0 x1 x2 x3 x4 x5 x6 x7 b y x := by
  rw [costAt, ← v440_read _ _ _ _ _ _ _ _ _ _ hy]
  pointwise [val_main_v445, val_main_v444, val_main_v443, val_main_v442, val_main_v441]

/-- The alignment's entry as a softmax of the negated costs of its row. -/
theorem v457_read (b : Fin 4) (y x : Fin 512) (hy : 3 ≤ y.val ∧ y.val < 509) :
    val_main_v457 (F := Ideal) x0 x1 x2 x3 x4 x5 x6 x7 (ix3 b y x) = soft (costAt x0 x1 x2 x3 x4 x5 x6 x7 b y) x := by
  have h := fun k => v445_read x0 x1 x2 x3 x4 x5 x6 x7 b y k hy
  generalize hv : val_main_v445 (F := Ideal) x0 x1 x2 x3 x4 x5 x6 x7 = v at h
  pointwise [val_main_v457, val_main_v456, val_main_v455, val_main_v454, val_main_cst_19, val_main_v453, val_main_v452, val_main_v451,
    val_main_v450, val_main_v449, val_main_v448, val_main_cst_18, val_main_v447, val_main_cst_17, val_main_v446, hv, h]
  rw [max_eq_right (Finset.le_fold_max _ |>.mpr (Or.inl le_rfl))]
  rfl

end Cert.ReferenceIdeal.Hand

end
-- ==== Proof.RefPrep.lean ====
/- The reference's padded positions, averaged sequence, distances and prediction head, read at an entry. -/
module

public import proofs.«01_k».proof.Proof.Gen.ReferenceIdeal.Read
public import proofs.«01_k».proof.Proof.Layers
public import proofs.«01_k».proof.Proof.Steps
public import Idealize.ShloMosaic.Lib.Pointwise
public import Idealize.ShloMosaic.Lib.KernelVsHost

@[expose] public section

set_option maxRecDepth 16384

noncomputable section

namespace Cert.ReferenceIdeal.Hand

open Cert.Layers Cert.ReferenceIdeal Cert.ReferenceIdeal.Gen Cert.ReferenceIdeal.Read Idealize.ShloMosaic Idealize.ShloMosaic.TcCoe Idealize.SL.Sem

variable (x0 : FVec Ideal S4x512x256 .f32) (x1 : IVec S4 32)

/-- Two less than a length, the bound of the averaged sequence. -/
abbrev less (L : EReal) : EReal := L - Ideal.ofBits .f32 0x40000000#32

theorem ref_len (b : Fin 4) : val_main_v1 (F := Ideal) x1 (ix1 b) = lenOf (x1 (ix1 b)) := by
  pointwise [val_main_v1, val_main_v0, val_main_call0_v4, val_main_call0_v2, val_main_call0_v1, val_main_call0_v0, val_main_call0_v3]
  rfl

theorem ref_pos (b : Fin 4) (k : Fin 512) : val_main_v16 (F := Ideal) x1 (ix2 b k) = posOf (lenOf (x1 (ix1 b))) k.val := by
  have h := ref_len x1 b
  generalize hv : val_main_v1 (F := Ideal) x1 = L at h
  pointwise [val_main_v16, val_main_v15, val_main_v14, val_main_v13, val_main_v12, val_main_v11, val_main_v10, val_main_v9, val_main_cst, val_main_v8,
   val_main_v7, val_main_v6, val_main_v5, val_main_v4, val_main_v3, val_main_v2, hv]
  rw [h, uitofp_bit]
  rfl

theorem ref_mask (b : Fin 4) (k : Fin 512) : val_main_v36 (F := Ideal) x1 (ix2 b k) = below (less (lenOf (x1 (ix1 b)))) k.val := by
  have h := ref_len x1 b
  generalize hv : val_main_v1 (F := Ideal) x1 = L at h
  pointwise [val_main_v36, val_main_v35, val_main_v34, val_main_v33, val_main_v32, val_main_v31, val_main_v30, val_main_v29, val_main_cst_5, val_main_v2, hv]
  rw [h, uitofp_bit]
  rfl

theorem ref_posAvg (b : Fin 4) (k : Fin 512) : val_main_v47 (F := Ideal) x1 (ix2 b k) = posOf (less (lenOf (x1 (ix1 b)))) k.val := by
  have h := ref_len x1 b
  have h' := ref_mask x1 b k
  generalize hv' : val_main_v36 (F := Ideal) x1 = M at h'
  generalize hv : val_main_v1 (F := Ideal) x1 = L at h
  pointwise [val_main_v47, val_main_v46, val_main_v45, val_main_v44, val_main_v43, val_main_v42, val_main_v41, val_main_v40, val_main_cst_6, val_main_v2,
    val_main_v30, val_main_v29, val_main_cst_5, hv, hv']
  rw [h, h']
  rfl

theorem ref_avg (b : Fin 4) (k : Fin 512) (d : Fin 256) :
    val_main_v39 (F := Ideal) x0 x1 (ix3 b k d) = avgOf (fun k => x0 (ix3 b k d)) (less (lenOf (x1 (ix1 b)))) k := by
  have h := ref_mask x1 b k
  have hz : val_main_call1_v0 (F := Ideal) (Shape.Idx.first h_S_) = 0 := by
    show ((((0#32 : BitVec 32).toInt : ℝ) : EReal)) = 0
    simp
  generalize hv : val_main_v36 (F := Ideal) x1 = L at h
  pointwise [val_main_v39, val_main_v38, val_main_v37, val_main_v28, val_main_v27, val_main_v26, val_main_v25, val_main_v24, val_main_v23, val_main_v22,
    val_main_v21, val_main_v20, val_main_v19, val_main_v18, val_main_v17, hv]
  rw [h, hz]
  rfl

theorem ref_dist (b : Fin 4) (y x : Fin 512) :
    val_main_v63 (F := Ideal) x0 x1 (ix3 b y x) = distOf (fun d => x0 (ix3 b y d)) (fun d => val_main_v39 (F := Ideal) x0 x1 (ix3 b x d)) := by
  have hz : val_main_cst_7 (F := Ideal) (Shape.Idx.first h_S_) = 0 := Ideal.ofBits_zero_f32
  have hz' : val_main_cst_8 (F := Ideal) (Shape.Idx.first h_S_) = 0 := Ideal.ofBits_zero_f32
  generalize hv : val_main_v39 (F := Ideal) x0 x1 = A
  pointwise [val_main_v63, val_main_v62, val_main_v61, val_main_cst_10, val_main_v60, val_main_v59, val_main_v58, val_main_cst_9, val_main_v57,
    val_main_v56, val_main_v55, val_main_v54, val_main_v53, val_main_v52, val_main_v51, val_main_v50, val_main_v49, val_main_v48, hv]
  rw [hz, hz', zero_add, zero_add]
  rfl

/-- The two stacked images: the distances, then the position gaps. -/
theorem ref_stack (b : Fin 4) (c : Fin 2) (y x : Fin 512) :
    val_main_v72 (F := Ideal) x0 x1 (ix4 b c y x) = if c.val = 0 then val_main_v63 (F := Ideal) x0 x1 (ix3 b y x)
      else gapOf (val_main_v16 (F := Ideal) x1 (ix2 b y)) (val_main_v47 (F := Ideal) x1 (ix2 b x)) := by
  generalize hv : val_main_v63 (F := Ideal) x0 x1 = A
  generalize hr : val_main_v16 (F := Ideal) x1 = R
  generalize hg : val_main_v47 (F := Ideal) x1 = G
  pointwise [val_main_v72, val_main_v71, val_main_v70, val_main_v69, val_main_v68, val_main_v67, val_main_v66, val_main_v65, val_main_v64, hv, hr, hg]
  by_cases h : c.val = 0
  · rw [dif_pos (by omega), if_pos h]
  · rw [dif_neg (by omega), if_neg h]
    rfl

theorem ref_lin (x8 x10 : FVec Ideal S256x256 .f32) (x9 x11 : FVec Ideal S256 .f32) (b : Fin 4) (k : Fin 512) (d : Fin 256) :
    val_main_v477 (F := Ideal) x0 x8 x9 x10 x11 (ix2 (⟨b.val * 512 + k.val, by omega⟩ : Fin 2048) d) =
      twoDense (fun e => x0 (ix3 b k e)) (fun k e => x8 (ix2 e k)) (fun e => x9 (ix1 e)) (fun k e => x10 (ix2 e k)) (fun e => x11 (ix1 e)) d := by
  have hz : ∀ i, val_main_call7_v0 (F := Ideal) i = 0 := fun i => Ideal.ofBits_zero_f32
  generalize hv : val_main_call7_v0 (F := Ideal) = z at hz
  pointwise [val_main_v477, val_main_v476, val_main_v475, val_main_v474, val_main_v473, val_main_v472, val_main_v471, val_main_v470, val_main_v469, val_main_v468,
    val_main_v467, val_main_v466, hv]
  simp only [hz]
  rfl

theorem ref_head (x8 x10 : FVec Ideal S256x256 .f32) (x9 x11 : FVec Ideal S256 .f32) (b : Fin 4) (k : Fin 512) (d : Fin 256) :
    val_main_v483 (F := Ideal) x0 x8 x9 x10 x11 (ix3 b k d) =
      unitRow (twoDense (fun e => x0 (ix3 b k e)) (fun k e => x8 (ix2 e k)) (fun e => x9 (ix1 e)) (fun k e => x10 (ix2 e k)) (fun e => x11 (ix1 e))) d := by
  have h := ref_lin x0 x8 x10 x9 x11 b k
  generalize hv : val_main_v477 (F := Ideal) x0 x8 x9 x10 x11 = L at h
  have hz : val_main_call8_cst (F := Ideal) (Shape.Idx.first h_S_) = 0 := Ideal.ofBits_zero_f32
  pointwise [val_main_v483, val_main_v482, val_main_v481, val_main_v480, val_main_v479, val_main_v478, val_main_call8_v2, val_main_call8_v1, val_main_call8_v0, hv]
  simp only [h, hz, zero_add]
  rfl

end Cert.ReferenceIdeal.Hand

end
-- ==== Proof.Alignment.lean ====
/- The alignment array read at an entry, over the contents the call starts from: a softmax of the costs of its row. -/
module

public import proofs.«01_k».proof.Proof.TileSoft
public import proofs.«01_k».proof.Proof.HostReads
public import proofs.«01_k».proof.Proof.Prep
public import proofs.«01_k».proof.Proof.RefConv
public import proofs.«01_k».proof.Proof.RefPrep

@[expose] public section

set_option maxRecDepth 16384

noncomputable section

namespace Cert.ReferenceIdeal.Hand

open Cert.Layers Cert.ReferenceIdeal Idealize.ShloMosaic

variable (x0 : FVec Ideal S4x512x256 .f32) (x1 : IVec S4 32)

/-- The first image: the distance of a sequence row and an averaged row, zero outside the rows. -/
theorem images_dist (b : Fin 4) (u : ℕ) (x : Fin 512) :
    images x0 x1 b 0 u (x.val + 2) = if h : 8 ≤ u ∧ u < 520 then
      distOf (fun d => x0 (ix3 b (⟨u - 8, by omega⟩ : Fin 512) d)) (fun d => avgOf (fun k => x0 (ix3 b k d)) (less (lenOf (x1 (ix1 b)))) x) else 0 := by
  rw [images]
  by_cases h : 8 ≤ u ∧ u < 520
  · rw [dif_pos h, dif_pos ⟨h, by omega, by omega⟩]
    simp only [Nat.add_sub_cancel, Fin.eta]
    rw [ref_stack, if_pos (show ((0 : Fin 2) : ℕ) = 0 from rfl), ref_dist]
    simp only [ref_avg]
  · rw [dif_neg h, dif_neg fun g => h g.1]

/-- The second image: the difference of two positions, zero outside the rows. -/
theorem images_gap (b : Fin 4) (u : ℕ) (x : Fin 512) :
    images x0 x1 b 1 u (x.val + 2) = if 8 ≤ u ∧ u < 520 then
      gapOf (posOf (lenOf (x1 (ix1 b))) (u - 8)) (posOf (less (lenOf (x1 (ix1 b)))) x.val) else 0 := by
  rw [images]
  by_cases h : 8 ≤ u ∧ u < 520
  · rw [if_pos h, dif_pos ⟨h, by omega, by omega⟩]
    simp only [Nat.add_sub_cancel, Fin.eta]
    rw [ref_stack, if_neg (by decide), ref_pos, ref_posAvg]
  · rw [if_neg h, dif_neg fun g => h g.1]

theorem images_out (b : Fin 4) (c : Fin 2) (u v : ℕ) (h : v < 2 ∨ 514 ≤ v) : images x0 x1 b c u v = 0 := by
  rw [images, dif_neg (by omega)]

end Cert.ReferenceIdeal.Hand

namespace Cert.KernelIdeal.Hand

open Cert.Layers Cert.KernelIdeal Cert.KernelIdeal.Gen Idealize.ShloMosaic Idealize.ShloMosaic.TcCoe Idealize.SL.Sem
open Idealize.ShloMosaic.Pipeline (Dat)
open Cert.ReferenceIdeal.Hand (images images_dist images_gap images_out)

variable (V : (c : Dev nD) → (b : Ref sig .tc) → Buf (Elt Ideal) ((c : Thread nD τ).loc b))

theorem index1_in : ∀ t : Fin cfg1.N, win1_0.index t = ![t.val / 8, 0, 0] ∧ win1_1.index t = ![t.val / 8, 0, 0] ∧
    win1_2.index t = ![t.val / 8, 0, 0] ∧ win1_3.index t = ![t.val / 8, 0, 0] ∧ win1_4.index t = ![t.val / 8, 0, 0] ∧
    win1_5.index t = (fun _ => 0) ∧ win1_6.index t = (fun _ => 0) ∧ win1_7.index t = (fun _ => 0) ∧ win1_8.index t = (fun _ => 0) ∧
    win1_9.index t = (fun _ => 0) ∧ win1_10.index t = (fun _ => 0) := by decide +kernel

theorem off1_at : ∀ t : Fin cfg1.N, k1_off1 (grid1.coords t) = ![0, 64 * (t.val % 8), 0] := by decide +kernel

theorem off2_at : ∀ t : Fin cfg1.N, k1_off2 (grid1.coords t) = ![0, 64 * (t.val % 8), 0] := by decide +kernel

theorem coord_at : ∀ t : Fin cfg1.N, (grid1.coords t 1).val = t.val % 8 := by decide +kernel

theorem block1_0 (c : Dev nD) (t : Fin cfg1.N) (b : Fin 4) (h : t.val / 8 = b.val) (u : Fin 528) (d : Fin 256) :
    iblk1 V c 0 t (ix3 0 u d) = V c main_v2 (ix3 b u d) := by
  blk_ext [iblk1, index1_in t, h]

theorem block1_1 (c : Dev nD) (t : Fin cfg1.N) (b : Fin 4) (h : t.val / 8 = b.val) (k : Fin 512) (d : Fin 256) :
    iblk1 V c 1 t (ix3 0 k d) = V c main_v1_0 (ix3 b k d) := by
  blk_ext [iblk1, index1_in t, h]

theorem block1_2 (c : Dev nD) (t : Fin cfg1.N) (b : Fin 4) (h : t.val / 8 = b.val) (u : Fin 528) :
    iblk1 V c 2 t (ix3 0 u 0) = V c main_v4 (ix3 b u 0) := by
  blk_ext [iblk1, index1_in t, h]

theorem block1_3 (c : Dev nD) (t : Fin cfg1.N) (b : Fin 4) (h : t.val / 8 = b.val) (k : Fin 512) :
    iblk1 V c 3 t (ix3 0 0 k) = V c main_v33 (ix3 b 0 k) := by
  blk_ext [iblk1, index1_in t, h]

theorem block1_4 (c : Dev nD) (t : Fin cfg1.N) (b : Fin 4) (h : t.val / 8 = b.val) (k : Fin 512) :
    iblk1 V c 4 t (ix3 0 0 k) = V c main_v34 (ix3 b 0 k) := by
  blk_ext [iblk1, index1_in t, h]

theorem block1_5 (c : Dev nD) (t : Fin cfg1.N) : iblk1 V c 5 t = V c main_v12 := by
  funext y
  blk_ext [iblk1, index1_in t]

theorem block1_6 (c : Dev nD) (t : Fin cfg1.N) : iblk1 V c 6 t = V c main_v30 := by
  funext y
  blk_ext [iblk1, index1_in t]

theorem block1_7 (c : Dev nD) (t : Fin cfg1.N) : iblk1 V c 7 t = V c main_v20 := by
  funext y
  blk_ext [iblk1, index1_in t]

theorem block1_8 (c : Dev nD) (t : Fin cfg1.N) : iblk1 V c 8 t = V c main_v32 := by
  funext y
  blk_ext [iblk1, index1_in t]

theorem block1_9 (c : Dev nD) (t : Fin cfg1.N) : iblk1 V c 9 t = V c main_v28 := by
  funext y
  blk_ext [iblk1, index1_in t]

theorem block1_10 (c : Dev nD) (t : Fin cfg1.N) : iblk1 V c 10 t = V c main_v35 := by
  funext y
  blk_ext [iblk1, index1_in t]

theorem seqRows_apply (t : Fin cfg1.N) (x0 : Vec Ideal S1x528x256 .f32) (l : Fin 80) (d : Fin 256) (u : Fin 528)
    (hu : u.val = 64 * (t.val % 8) + l.val) : seqRows (grid1.coords t) x0 (ix3 0 l d) = x0 (ix3 0 u d) := by
  refine View.ld_unit_apply_of x0 _ _ _ _ _ fun a => ?_
  refine Eq.trans ?_ (congrArg (· + _) (congrFun (off1_at t) a).symm)
  fin_cases a
  · rfl
  · exact hu
  · exact (Nat.zero_add _).symm

theorem posRows_apply (t : Fin cfg1.N) (x2 : Vec Ideal S1x528x1 .f32) (l : Fin 80) (u : Fin 528)
    (hu : u.val = 64 * (t.val % 8) + l.val) : posRows (grid1.coords t) x2 (ix3 0 l 0) = x2 (ix3 0 u 0) := by
  refine View.ld_unit_apply_of x2 _ _ _ _ _ fun a => ?_
  refine Eq.trans ?_ (congrArg (· + _) (congrFun (off2_at t) a).symm)
  fin_cases a
  · rfl
  · exact hu
  · rfl

/-- What the launch of the main call holds, over the arguments. -/
structure Entry (c : Dev nD) (s : FVec Ideal S4x512x256 .f32) (n : IVec S4 32) (w1 : FVec Ideal S30x2x5x5 .f32) (b1 : FVec Ideal S30 .f32)
    (w2 : FVec Ideal S30x30x5x5 .f32) (b2 : FVec Ideal S30 .f32) (w3 : FVec Ideal S1x30x3x3 .f32) (b3 : FVec Ideal S1 .f32) : Prop where
  seq : V c main_v2 = padSeq s
  avg : ∀ b k d, V c main_v1_0 (ix3 b k d) = avgOf (fun k => s (ix3 b k d)) (lessTwo (lenOf (n (ix1 b)))) k
  pos : ∀ (b : Fin 4) (u : Fin 528), V c main_v4 (ix3 b u 0) = if 8 ≤ u.val ∧ u.val < 520 then posOf (lenOf (n (ix1 b))) (u.val - 8) else 0
  posAvg : ∀ (b : Fin 4) (k : Fin 512), V c main_v33 (ix3 b 0 k) = posOf (lessTwo (lenOf (n (ix1 b)))) k.val
  square : ∀ (b : Fin 4) (k : Fin 512), V c main_v34 (ix3 b 0 k) =
    ∑ d, avgOf (fun k => s (ix3 b k d)) (lessTwo (lenOf (n (ix1 b)))) k * avgOf (fun k => s (ix3 b k d)) (lessTwo (lenOf (n (ix1 b)))) k
  wOne : V c main_v12 = packOne w1
  bOne : V c main_v30 = padBias b1
  wTwo : V c main_v20 = packTwo w2
  bTwo : V c main_v32 = padBias b2
  wThree : V c main_v28 = packThree w3
  bThree : V c main_v35 (ix2 0 0) = b3 (ix1 0)

/-- The alignment's entry as a softmax of the negated costs of its row, in every row. -/
theorem alignment_read (c : Dev nD) (s : FVec Ideal S4x512x256 .f32) (n : IVec S4 32) (w1 : FVec Ideal S30x2x5x5 .f32) (b1 : FVec Ideal S30 .f32)
    (w2 : FVec Ideal S30x30x5x5 .f32) (b2 : FVec Ideal S30 .f32) (w3 : FVec Ideal S1x30x3x3 .f32) (b3 : FVec Ideal S1 .f32)
    (E : Entry V c s n w1 b1 w2 b2 w3 b3) (b : Fin 4) (q x : Fin 512) :
    (dat1 V c).arrAt 11 cfg1.N (ix3 b q x) =
      soft (costOf (fun o dy dx c => w1 (ix4 o c dy dx)) (fun o => b1 (ix1 o)) (fun o dy dx c => w2 (ix4 o c dy dx)) (fun o => b2 (ix1 o))
        (fun dy dx c => w3 (ix4 0 c dy dx)) (b3 (ix1 0)) (images s n b) q.val) x := by
  have hN : (pointOf b q).val = b.val * 8 + q.val / 64 := rfl
  have hb : (pointOf b q).val / 8 = b.val := by omega
  have hc : (pointOf b q).val % 8 = q.val / 64 := by omega
  rw [arr11 V c]
  show tileAt V c (pointOf b q) (ix3 (0 : Fin 1) (⟨q.val % 64, _⟩ : Fin 64) x) = _
  generalize pointOf b q = t at hb hc
  have hi := coord_at t
  have h7 := fun l : Fin 80 => pay7_apply (grid1.coords t) l
  rw [tileAt, tile_soft (grid1.coords t) _ _ _ _ _ _ _ _ _ _ _ (fun o dy dx c => w1 (ix4 o c dy dx)) (fun o => b1 (ix1 o))
    (fun o dy dx c => w2 (ix4 o c dy dx)) (fun o => b2 (ix1 o)) (fun dy dx c => w3 (ix4 0 c dy dx)) (b3 (ix1 0)) (images s n b)
    (fun c u v h => images_out s n b c u v h) ?_ ?_ ?_ ?_ ?_ ?_ ?_ ?_]
  · congr 2
    dsimp only
    omega
  · intro dy dx c' o
    rw [block1_5, E.wOne]
    exact packOne_apply w1 dy dx c' _
  · intro o
    rw [block1_6, E.bOne]
    exact padBias_apply b1 o
  · intro dy dx c' o
    rw [block1_7, E.wTwo]
    exact packTwo_apply w2 dy dx c' _
  · intro o
    rw [block1_8, E.bTwo]
    exact padBias_apply b2 o
  · intro dy dx c'
    rw [block1_9, E.wThree]
    exact packThree_apply w3 dy dx c'
  · rw [block1_10]
    exact E.bThree
  · intro l k
    have hl : 64 * (t.val % 8) + l.val < 528 := by omega
    have hs : ∀ d, seqRows (grid1.coords t) (iblk1 V c 0 t) (ix3 0 l d) = padSeq s (ix3 b ⟨64 * (t.val % 8) + l.val, hl⟩ d) := fun d => by
      rw [seqRows_apply t _ l d ⟨_, hl⟩ rfl, block1_0 V c t b hb, E.seq]
    rw [pay10_apply, h7, images_dist]
    simp only [hs, block1_1 V c t b hb, block1_4 V c t b hb, E.avg, E.square, padSeq_apply, hi]
    by_cases h : 8 ≤ 64 * (t.val % 8) + l.val ∧ 64 * (t.val % 8) + l.val < 520
    · simp only [if_pos h, dif_pos h, mul_one]
      rfl
    · simp only [if_neg h, dif_neg h, mul_zero]
  · intro l k
    have hl : 64 * (t.val % 8) + l.val < 528 := by omega
    have hr : k1_pay5 (F := Ideal) (posRows (grid1.coords t) (iblk1 V c 2 t)) (ix2 l 0) = V c main_v4 (ix3 b ⟨64 * (t.val % 8) + l.val, hl⟩ 0) := by
      rw [← block1_2 V c t b hb, ← posRows_apply t (iblk1 V c 2 t) l ⟨_, hl⟩ rfl]
      pointwise [k1_pay5]
    have hg : k1_pay6 (F := Ideal) (iblk1 V c 3 t) (ix2 0 k) = V c main_v33 (ix3 b 0 k) := by
      rw [← block1_3 V c t b hb]
      pointwise [k1_pay6]
    rw [hr, hg, h7, images_gap, E.pos, E.posAvg]
    simp only [hi]
    by_cases h : 8 ≤ 64 * (t.val % 8) + l.val ∧ 64 * (t.val % 8) + l.val < 520
    · simp only [if_pos h, mul_one]
      rfl
    · simp only [if_neg h, mul_zero]

end Cert.KernelIdeal.Hand

end
-- ==== Proof.Head.lean ====
/- The prediction head's array over its inputs, read at an entry. -/
module

public import proofs.«01_k».proof.Proof.KernelIdealRun
public import proofs.«01_k».proof.Proof.Steps
public import Idealize.ShloMosaic.Lib.Pipeline.ValueKit
public import Idealize.ShloMosaic.Lib.Pointwise
public import Idealize.ShloMosaic.Lib.KernelVsHost

@[expose] public section

set_option maxRecDepth 16384

noncomputable section

namespace Cert.KernelIdeal.Hand

open Cert.Layers Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem index2 : ∀ t : Fin cfg2.N, win2_0.index t = (fun _ => 0) ∧ win2_1.index t = (fun _ => 0) ∧ win2_2.index t = (fun _ => 0) ∧
    win2_3.index t = (fun _ => 0) ∧ win2_4.index t = (fun _ => 0) ∧ win2_5.index t = (fun _ => 0) := by decide +kernel

theorem block2_0 (c : Dev nD) (t : Fin cfg2.N) : iblk2 V c 0 t = V c main_arg0 := by
  funext y
  blk_ext [iblk2, index2 t]

theorem block2_1 (c : Dev nD) (t : Fin cfg2.N) : iblk2 V c 1 t = V c main_v38 := by
  funext y
  blk_ext [iblk2, index2 t]

theorem block2_2 (c : Dev nD) (t : Fin cfg2.N) : iblk2 V c 2 t = V c main_v39 := by
  funext y
  blk_ext [iblk2, index2 t]

theorem block2_3 (c : Dev nD) (t : Fin cfg2.N) : iblk2 V c 3 t = V c main_v41 := by
  funext y
  blk_ext [iblk2, index2 t]

theorem block2_4 (c : Dev nD) (t : Fin cfg2.N) : iblk2 V c 4 t = V c main_v42 := by
  funext y
  blk_ext [iblk2, index2 t]

theorem arr2_5 (c : Dev nD) : (dat2 V c).arrAt 5 cfg2.N =
    k2_pay1 (V c main_arg0) (V c main_v38) (V c main_v39) (V c main_v41) (V c main_v42) := by
  refine (dat2 V c).arrAt_eq_of_covers 5 _ (by decide +kernel) fun t hf y => ?_
  blk_simp
  rw [after2_5, block2_0, block2_1, block2_2, block2_3, block2_4]
  frame_out
  refine congrArg _ (funext fun a => Fin.ext ?_)
  blk_simp [index2 t]

theorem head_apply (v0 : Vec Ideal S4x512x256 .f32) (v3 : Vec Ideal S256x256 .bf16) (v6 : Vec Ideal S1x256 .f32)
    (v13 : Vec Ideal S256x256 .bf16) (v16 : Vec Ideal S1x256 .f32) (b : Fin 4) (k : Fin 512) (d : Fin 256) :
    k2_pay1 (F := Ideal) v0 v3 v6 v13 v16 (ix3 b k d) =
      unitRow (twoDense (fun e => v0 (ix3 b k e)) (fun k e => v3 (ix2 k e)) (fun e => v6 (ix2 0 e)) (fun k e => v13 (ix2 k e)) (fun e => v16 (ix2 0 e))) d := by
  pointwise [k2_pay1]
  rfl

end Cert.KernelIdeal.Hand

end
-- ==== Proof.KernelOut.lean ====
/- The kernel's results at the end of its run, over the arguments. -/
module

public import proofs.«01_k».proof.Proof.Alignment
public import proofs.«01_k».proof.Proof.Head

@[expose] public section

set_option maxRecDepth 16384

noncomputable section

namespace Cert.KernelIdeal.Hand

open Cert.Layers Cert.KernelIdeal Cert.KernelIdeal.Gen Idealize.ShloMosaic Idealize.ShloMosaic.TcCoe Idealize.SL.Sem
open Cert.ReferenceIdeal.Hand (images)

variable (m : (ℓ : Loc nD τ sig) → Buf (Elt Ideal) ℓ) (ρ : Dev nD → PrngReg)

/-- A buffer no host operation between the first two launches writes is carried across them. -/
theorem carry (c : Dev nD) (r : Ref sig .tc) (h : r ∉ hostOps1_W ∧ r ∉ hostOps1_1_W ∧ r ∉ hostOps1_2_W ∧ r ∉ hostOps1_3_W ∧
    r ∉ hostOps1_4_W ∧ r ∉ hostOps1_5_W ∧ r ∉ hostOps1_6_W ∧ r ∉ hostOps1_7_W ∧ r ∉ hostOps1_8_W) :
    W11 m ρ c (Proc.devRef .tc r) = W2 m ρ c (Proc.devRef .tc r) := by
  obtain ⟨h3, h4, h5, h6, h7, h8, h9, h10, h11⟩ := h
  rw [W11_of m ρ c r h11, W10_of m ρ c r h10, W9_of m ρ c r h9, W8_of m ρ c r h8, W7_of m ρ c r h7, W6_of m ρ c r h6, W5_of m ρ c r h5,
    W4_of m ρ c r h4, W3_of m ρ c r h3]

/-- The first launch's length column holds the lengths. -/
theorem len_at (c : Dev nD) (b : Fin 4) : V1 m ρ c main_v0 (ix2 b 0) = m ((c : Thread nD τ).loc main_arg1) (ix1 b) :=
  read_v0 (W0 m ρ c) b

theorem seq_at (c : Dev nD) : V1 m ρ c main_arg0 = m ((c : Thread nD τ).loc main_arg0) := W1_args m ρ c main_arg0 (by decide)

theorem avg_at (c : Dev nD) (b : Fin 4) (k : Fin 512) (d : Fin 256) : W2 m ρ c (Proc.devRef .tc main_v1_0) (ix3 b k d) =
    avgOf (fun k => m ((c : Thread nD τ).loc main_arg0) (ix3 b k d)) (lessTwo (lenOf (m ((c : Thread nD τ).loc main_arg1) (ix1 b)))) k := by
  rw [← len_at m ρ c b, ← seq_at m ρ c, ← prep_avg]
  exact congrFun ((W2_arr m ρ c 2).trans (arr0_2 (V1 m ρ) c)) _

theorem pos_at (c : Dev nD) (b : Fin 4) (k : Fin 512) : W2 m ρ c (Proc.devRef .tc main_v1_1) (ix2 b k) =
    posOf (lenOf (m ((c : Thread nD τ).loc main_arg1) (ix1 b))) k.val := by
  rw [← len_at m ρ c b, ← prep_pos]
  exact congrFun ((W2_arr m ρ c 3).trans (arr0_3 (V1 m ρ) c)) _

theorem posAvg_at (c : Dev nD) (b : Fin 4) (k : Fin 512) : W2 m ρ c (Proc.devRef .tc main_v1_2) (ix2 b k) =
    posOf (lessTwo (lenOf (m ((c : Thread nD τ).loc main_arg1) (ix1 b)))) k.val := by
  rw [← len_at m ρ c b, ← prep_posAvg]
  exact congrFun ((W2_arr m ρ c 4).trans (arr0_4 (V1 m ρ) c)) _

theorem square_at (c : Dev nD) (b : Fin 4) (k : Fin 512) : W2 m ρ c (Proc.devRef .tc main_v1_3) (ix2 b k) =
    ∑ d, avgOf (fun k => m ((c : Thread nD τ).loc main_arg0) (ix3 b k d)) (lessTwo (lenOf (m ((c : Thread nD τ).loc main_arg1) (ix1 b)))) k *
      avgOf (fun k => m ((c : Thread nD τ).loc main_arg0) (ix3 b k d)) (lessTwo (lenOf (m ((c : Thread nD τ).loc main_arg1) (ix1 b)))) k := by
  rw [← len_at m ρ c b, ← seq_at m ρ c]
  simp only [← prep_avg]
  rw [← prep_square]
  exact congrFun ((W2_arr m ρ c 5).trans (arr0_5 (V1 m ρ) c)) _

theorem padded_at (c : Dev nD) (b : Fin 4) (u : Fin 528) : V11 m ρ c main_v4 (ix3 b u 0) =
    if 8 ≤ u.val ∧ u.val < 520 then posOf (lenOf (m ((c : Thread nD τ).loc main_arg1) (ix1 b))) (u.val - 8) else 0 := by
  have h : V11 m ρ c main_v4 = padPos (W2 m ρ c (Proc.devRef .tc main_v1_1)) := by
    refine (W11_of m ρ c main_v4 (by decide)).trans <| (W10_of m ρ c main_v4 (by decide)).trans <| (W9_of m ρ c main_v4 (by decide)).trans <|
      (W8_of m ρ c main_v4 (by decide)).trans <| (read_v4 (W6 m ρ c)).trans ?_
    refine congrArg (broadcastInDim S4x528x1 ![0, 1] bcast_S4x528_S4x528x1_0_1) ((read_v3 (W5 m ρ c) (read_c_0 _)).trans ?_)
    rw [W5_of m ρ c main_v1_1 (by decide), W4_of m ρ c main_v1_1 (by decide), W3_of m ρ c main_v1_1 (by decide)]
  rw [h, padPos_apply]
  by_cases g : 8 ≤ u.val ∧ u.val < 520
  · rw [dif_pos g, if_pos g, pos_at]
  · rw [dif_neg g, if_neg g]

theorem bOne_at (c : Dev nD) : V11 m ρ c main_v30 = padBias (m ((c : Thread nD τ).loc main_arg3)) := by
  refine (W11_of m ρ c main_v30 (by decide)).trans <| (W10_of m ρ c main_v30 (by decide)).trans <| (W9_of m ρ c main_v30 (by decide)).trans <|
    read_v30 (W7 m ρ c) (read_c_9 _) _ ((read_v29 _).trans ?_)
  rw [W6_args m ρ c main_arg3 (by decide)]

theorem bTwo_at (c : Dev nD) : V11 m ρ c main_v32 = padBias (m ((c : Thread nD τ).loc main_arg5)) := by
  refine (W11_of m ρ c main_v32 (by decide)).trans <| read_v32 (W9 m ρ c) (read_c_10 _) _ ((read_v31 _).trans ?_)
  rw [W8_args m ρ c main_arg5 (by decide)]

/-- What the main call starts from. -/
theorem entry (c : Dev nD) : Entry (V11 m ρ) c (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) where
  seq := by
    refine (W11_of m ρ c main_v2 (by decide)).trans <| (W10_of m ρ c main_v2 (by decide)).trans <| (W9_of m ρ c main_v2 (by decide)).trans <|
      (W8_of m ρ c main_v2 (by decide)).trans <| (W7_of m ρ c main_v2 (by decide)).trans <| (W6_of m ρ c main_v2 (by decide)).trans <|
      (W5_of m ρ c main_v2 (by decide)).trans <| (read_v2 (W3 m ρ c) (read_c _)).trans ?_
    rw [W3_args m ρ c main_arg0 (by decide)]
  avg b k d := (congrFun (carry m ρ c main_v1_0 (by decide)) _).trans (avg_at m ρ c b k d)
  pos := padded_at m ρ c
  posAvg b k := by
    refine (read_v33 (W10 m ρ c) b k).trans ?_
    rw [← posAvg_at m ρ c b k, ← carry m ρ c main_v1_2 (by decide), W11_of m ρ c main_v1_2 (by decide)]
  square b k := by
    refine (read_v34 (W10 m ρ c) b k).trans ?_
    rw [← square_at m ρ c b k, ← carry m ρ c main_v1_3 (by decide), W11_of m ρ c main_v1_3 (by decide)]
  wOne := by
    refine (W11_of m ρ c main_v12 (by decide)).trans <| (W10_of m ρ c main_v12 (by decide)).trans <| (W9_of m ρ c main_v12 (by decide)).trans <|
      (W8_of m ρ c main_v12 (by decide)).trans <| (read_v12 (W6 m ρ c)).trans ?_
    rw [W6_args m ρ c main_arg2 (by decide)]
  bOne := bOne_at m ρ c
  wTwo := by
    refine (W11_of m ρ c main_v20 (by decide)).trans <| (W10_of m ρ c main_v20 (by decide)).trans <| (W9_of m ρ c main_v20 (by decide)).trans <|
      (W8_of m ρ c main_v20 (by decide)).trans <| (read_v20 (W6 m ρ c)).trans ?_
    rw [W6_args m ρ c main_arg4 (by decide)]
  bTwo := bTwo_at m ρ c
  wThree := by
    refine (W11_of m ρ c main_v28 (by decide)).trans <| (W10_of m ρ c main_v28 (by decide)).trans <| (W9_of m ρ c main_v28 (by decide)).trans <|
      (W8_of m ρ c main_v28 (by decide)).trans <| (read_v28 (W6 m ρ c)).trans ?_
    rw [W6_args m ρ c main_arg6 (by decide)]
  bThree := by
    refine (read_v35 (W10 m ρ c)).trans ?_
    rw [W10_args m ρ c main_arg7 (by decide)]

/-- The alignment at the end of the run. -/
theorem alignment_at (c : Dev nD) (b : Fin 4) (q x : Fin 512) : W15 m ρ c (Proc.devRef .tc main_v36_0) (ix3 b q x) =
    soft (costOf (fun o dy dx d => m ((c : Thread nD τ).loc main_arg2) (ix4 o d dy dx)) (fun o => m ((c : Thread nD τ).loc main_arg3) (ix1 o))
      (fun o dy dx d => m ((c : Thread nD τ).loc main_arg4) (ix4 o d dy dx)) (fun o => m ((c : Thread nD τ).loc main_arg5) (ix1 o))
      (fun dy dx d => m ((c : Thread nD τ).loc main_arg6) (ix4 0 d dy dx)) (m ((c : Thread nD τ).loc main_arg7) (ix1 0))
      (images (m ((c : Thread nD τ).loc main_arg0)) (m ((c : Thread nD τ).loc main_arg1)) b) q.val) x := by
  rw [W15_of m ρ c main_v36_0 (by decide), W14_of m ρ c main_v36_0 (by decide), W13_of m ρ c main_v36_0 (by decide),
    ← alignment_read (V11 m ρ) c _ _ _ _ _ _ _ _ (entry m ρ c) b q x]
  exact congrFun (W12_arr m ρ c 11) _

/-- The averaged sequence at the end of the run. -/
theorem average_at (c : Dev nD) (b : Fin 4) (k : Fin 512) (d : Fin 256) : W15 m ρ c (Proc.devRef .tc main_v1_0) (ix3 b k d) =
    avgOf (fun k => m ((c : Thread nD τ).loc main_arg0) (ix3 b k d)) (lessTwo (lenOf (m ((c : Thread nD τ).loc main_arg1) (ix1 b)))) k := by
  rw [W15_of m ρ c main_v1_0 (by decide), W14_of m ρ c main_v1_0 (by decide), W13_of m ρ c main_v1_0 (by decide),
    W12_of m ρ c main_v1_0 (by decide), carry m ρ c main_v1_0 (by decide), avg_at]

/-- The prediction at the end of the run. -/
theorem prediction_at (c : Dev nD) (b : Fin 4) (k : Fin 512) (d : Fin 256) : W15 m ρ c (Proc.devRef .tc main_v43) (ix3 b k d) =
    unitRow (twoDense (fun e => m ((c : Thread nD τ).loc main_arg0) (ix3 b k e)) (fun k e => m ((c : Thread nD τ).loc main_arg8) (ix2 e k))
      (fun e => m ((c : Thread nD τ).loc main_arg9) (ix1 e)) (fun k e => m ((c : Thread nD τ).loc main_arg10) (ix2 e k))
      (fun e => m ((c : Thread nD τ).loc main_arg11) (ix1 e))) d := by
  rw [W15_of m ρ c main_v43 (by decide)]
  refine (congrFun ((W14_arr m ρ c 5).trans (arr2_5 (V13 m ρ) c)) _).trans ((head_apply _ _ _ _ _ b k d).trans ?_)
  have h0 : V13 m ρ c main_arg0 = m ((c : Thread nD τ).loc main_arg0) := W13_args m ρ c main_arg0 (by decide)
  have h8 := fun k e => read_v38 (W12 m ρ c) k e
  have h9 := fun e => read_v39 (W12 m ρ c) e
  have h10 := fun k e => read_v41 (W12 m ρ c) k e
  have h11 := fun e => read_v42 (W12 m ρ c) e
  rw [W12_args m ρ c main_arg8 (by decide)] at h8
  rw [W12_args m ρ c main_arg9 (by decide)] at h9
  rw [W12_args m ρ c main_arg10 (by decide)] at h10
  rw [W12_args m ρ c main_arg11 (by decide)] at h11
  rw [h0]
  simp only [h8, h9, h10, h11]

end Cert.KernelIdeal.Hand

end
-- ==== Proof.Algebraic.lean ====
/- The reference's frame and the value claim: where the mask is set, the kernel's results are the reference's. -/
module

public import proofs.«01_k».proof.Defs
public import proofs.«01_k».proof.Proof.KernelOut
public import proofs.«01_k».proof.Proof.Gen.On_inner_rows
public import proofs.«01_k».proof.Proof.Gen.ReferenceIdeal.Run
public import proofs.«01_k».proof.Proof.Gen.ReferenceIdeal.Read

@[expose] public section

set_option maxRecDepth 16384

noncomputable section

/-! ## The mask -/

namespace Cert.On_inner_rows

open Idealize.ShloMosaic

variable {F : FTy → Type} [FloatOps F] [Facts]

/-- Where the alignment's mask is set, the row is three rows away from either border. -/
theorem fn_row (a0 : FVec F S4x512x256 .f32) (a1 : IVec S4 32) (a2 : FVec F S30x2x5x5 .f32) (a3 : FVec F S30 .f32) (a4 : FVec F S30x30x5x5 .f32)
    (a5 : FVec F S30 .f32) (a6 : FVec F S1x30x3x3 .f32) (a7 : FVec F S1 .f32) (a8 : FVec F S256x256 .f32) (a9 : FVec F S256 .f32)
    (a10 : FVec F S256x256 .f32) (a11 : FVec F S256 .f32) (i : S4x512x512.Idx)
    (h : (fn a0 a1 a2 a3 a4 a5 a6 a7 a8 a9 a10 a11).1 i = 1#1) : 3 ≤ (i 1).val ∧ (i 1).val < 509 := by
  have key : ∀ r < 512, IntOp.andi (IntOp.cmpi .sge (BitVec.ofNat 32 r) 3#32) (IntOp.cmpi .slt (BitVec.ofNat 32 r) 509#32) = 1#1 →
      3 ≤ r ∧ r < 509 := by decide +kernel
  exact key (i 1).val (i 1).isLt h

/-- The second result's mask is nowhere set. -/
theorem fn_none (a0 : FVec F S4x512x256 .f32) (a1 : IVec S4 32) (a2 : FVec F S30x2x5x5 .f32) (a3 : FVec F S30 .f32) (a4 : FVec F S30x30x5x5 .f32)
    (a5 : FVec F S30 .f32) (a6 : FVec F S1x30x3x3 .f32) (a7 : FVec F S1 .f32) (a8 : FVec F S256x256 .f32) (a9 : FVec F S256 .f32)
    (a10 : FVec F S256x256 .f32) (a11 : FVec F S256 .f32) (i : S4.Idx) : (fn a0 a1 a2 a3 a4 a5 a6 a7 a8 a9 a10 a11).2.1 i ≠ 1#1 := by
  show (0#1 : BitVec 1) ≠ 1#1
  decide

end Cert.On_inner_rows

namespace Cert.Proof

open Idealize.ShloMosaic Idealize.ShloMosaic.TcCoe Idealize.SL.Sem Cert.Layers

/-- The reference runs, keeps its arguments and has no counters. -/
theorem frame_referenceIdeal : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The alignment's two readings agree away from the border rows. -/
theorem cost_eq (x0 : FVec Ideal Cert.ReferenceIdeal.S4x512x256 .f32) (x1 : IVec Cert.ReferenceIdeal.S4 32)
    (x2 : FVec Ideal Cert.ReferenceIdeal.S30x2x5x5 .f32) (x3 : FVec Ideal Cert.ReferenceIdeal.S30 .f32)
    (x4 : FVec Ideal Cert.ReferenceIdeal.S30x30x5x5 .f32) (x5 : FVec Ideal Cert.ReferenceIdeal.S30 .f32)
    (x6 : FVec Ideal Cert.ReferenceIdeal.S1x30x3x3 .f32) (x7 : FVec Ideal Cert.ReferenceIdeal.S1 .f32) (b : Fin 4) (y : Fin 512) :
    Cert.ReferenceIdeal.Hand.costAt x0 x1 x2 x3 x4 x5 x6 x7 b y =
      Cert.KernelIdeal.Hand.costOf (fun o dy dx c => x2 (ix4 o c dy dx)) (fun o => x3 (ix1 o)) (fun o dy dx c => x4 (ix4 o c dy dx))
        (fun o => x5 (ix1 o)) (fun dy dx c => x6 (ix4 0 c dy dx)) (x7 (ix1 0)) (Cert.ReferenceIdeal.Hand.images x0 x1 b) y.val := by
  funext x
  rw [Cert.ReferenceIdeal.Hand.costAt, Cert.KernelIdeal.Hand.costOf, Cert.ReferenceIdeal.Hand.images_dist, dif_pos (by omega),
    Cert.ReferenceIdeal.Hand.ref_dist]
  simp only [Nat.add_sub_cancel, Fin.eta, Cert.ReferenceIdeal.Hand.ref_avg]

/-- Over the reals: alignment away from the border rows, prediction and averaged sequence are the reference's. -/
theorem algebraic : Cert.algebraic_KernelIdeal_ReferenceIdeal_on_inner_rows := by
  intro m ρ m' ρ' _ hagree
  refine ⟨fun c => Cert.KernelIdeal.Hand.W15 m ρ c (Proc.devRef .tc Cert.KernelIdeal.main_v36_0),
    fun c => Cert.KernelIdeal.Hand.W15 m ρ c (Proc.devRef .tc Cert.KernelIdeal.main_v44),
    fun c => Cert.KernelIdeal.Hand.W15 m ρ c (Proc.devRef .tc Cert.KernelIdeal.main_v43),
    fun c => Cert.KernelIdeal.Hand.W15 m ρ c (Proc.devRef .tc Cert.KernelIdeal.main_v1_0), ?_, ?_⟩
  · refine (θ_run Cert.KernelIdeal.defs _ _).mono (fun r h c => ?_) (Cert.KernelIdeal.Hand.run_all m ρ)
    have keep : ∀ b, b ∈ Pipeline.ucRefs Cert.KernelIdeal.τ Cert.KernelIdeal.sig →
        r.2.mem (((c : Thread Cert.KernelIdeal.nD Cert.KernelIdeal.τ)).1, b) = Cert.KernelIdeal.Hand.W15 m ρ c b := fun b hb => h.1 c b hb
    have arg : ∀ a ∈ Cert.KernelIdeal.Hand.argRefs, Proc.devRef .tc a ∈ Pipeline.ucRefs Cert.KernelIdeal.τ Cert.KernelIdeal.sig →
        r.2.mem ((c : Thread Cert.KernelIdeal.nD Cert.KernelIdeal.τ).loc a) = m ((c : Thread Cert.KernelIdeal.nD Cert.KernelIdeal.τ).loc a) :=
      fun a ha hb => (keep _ hb).trans (Cert.KernelIdeal.Hand.W15_args m ρ c a ha)
    exact ⟨fun i _ => congrFun (keep _ (Cert.KernelIdeal.Hand.mem_uc Cert.KernelIdeal.main_v36_0 (by decide))) i,
      fun i _ => congrFun (keep _ (Cert.KernelIdeal.Hand.mem_uc Cert.KernelIdeal.main_v44 (by decide))) i,
      fun i _ => congrFun (keep _ (Cert.KernelIdeal.Hand.mem_uc Cert.KernelIdeal.main_v43 (by decide))) i,
      fun i _ => congrFun (keep _ (Cert.KernelIdeal.Hand.mem_uc Cert.KernelIdeal.main_v1_0 (by decide))) i,
      arg Cert.KernelIdeal.main_arg0 (by decide) (Cert.KernelIdeal.Hand.mem_uc Cert.KernelIdeal.main_arg0 (by decide)),
      arg Cert.KernelIdeal.main_arg1 (by decide) (Cert.KernelIdeal.Hand.mem_uc Cert.KernelIdeal.main_arg1 (by decide)),
      arg Cert.KernelIdeal.main_arg2 (by decide) (Cert.KernelIdeal.Hand.mem_uc Cert.KernelIdeal.main_arg2 (by decide)),
      arg Cert.KernelIdeal.main_arg3 (by decide) (Cert.KernelIdeal.Hand.mem_uc Cert.KernelIdeal.main_arg3 (by decide)),
      arg Cert.KernelIdeal.main_arg4 (by decide) (Cert.KernelIdeal.Hand.mem_uc Cert.KernelIdeal.main_arg4 (by decide)),
      arg Cert.KernelIdeal.main_arg5 (by decide) (Cert.KernelIdeal.Hand.mem_uc Cert.KernelIdeal.main_arg5 (by decide)),
      arg Cert.KernelIdeal.main_arg6 (by decide) (Cert.KernelIdeal.Hand.mem_uc Cert.KernelIdeal.main_arg6 (by decide)),
      arg Cert.KernelIdeal.main_arg7 (by decide) (Cert.KernelIdeal.Hand.mem_uc Cert.KernelIdeal.main_arg7 (by decide)),
      arg Cert.KernelIdeal.main_arg8 (by decide) (Cert.KernelIdeal.Hand.mem_uc Cert.KernelIdeal.main_arg8 (by decide)),
      arg Cert.KernelIdeal.main_arg9 (by decide) (Cert.KernelIdeal.Hand.mem_uc Cert.KernelIdeal.main_arg9 (by decide)),
      arg Cert.KernelIdeal.main_arg10 (by decide) (Cert.KernelIdeal.Hand.mem_uc Cert.KernelIdeal.main_arg10 (by decide)),
      arg Cert.KernelIdeal.main_arg11 (by decide) (Cert.KernelIdeal.Hand.mem_uc Cert.KernelIdeal.main_arg11 (by decide))⟩
  · refine (θ_run Cert.ReferenceIdeal.defs _ _).mono (fun r h c => ?_) (Cert.ReferenceIdeal.Value.run (F := Ideal) m' ρ')
    obtain ⟨hA, hD, hP, hV, hargs⟩ := h c
    obtain ⟨e0, e1, e2, e3, e4, e5, e6, e7, e8, e9, e10, e11⟩ := hagree c
    clear h
    have f0 := (StableHlo.launchContents_devRef m' c Cert.ReferenceIdeal.main_arg0).trans e0
    have f1 := (StableHlo.launchContents_devRef m' c Cert.ReferenceIdeal.main_arg1).trans e1
    have f2 := (StableHlo.launchContents_devRef m' c Cert.ReferenceIdeal.main_arg2).trans e2
    have f3 := (StableHlo.launchContents_devRef m' c Cert.ReferenceIdeal.main_arg3).trans e3
    have f4 := (StableHlo.launchContents_devRef m' c Cert.ReferenceIdeal.main_arg4).trans e4
    have f5 := (StableHlo.launchContents_devRef m' c Cert.ReferenceIdeal.main_arg5).trans e5
    have f6 := (StableHlo.launchContents_devRef m' c Cert.ReferenceIdeal.main_arg6).trans e6
    have f7 := (StableHlo.launchContents_devRef m' c Cert.ReferenceIdeal.main_arg7).trans e7
    have f8 := (StableHlo.launchContents_devRef m' c Cert.ReferenceIdeal.main_arg8).trans e8
    have f9 := (StableHlo.launchContents_devRef m' c Cert.ReferenceIdeal.main_arg9).trans e9
    have f10 := (StableHlo.launchContents_devRef m' c Cert.ReferenceIdeal.main_arg10).trans e10
    have f11 := (StableHlo.launchContents_devRef m' c Cert.ReferenceIdeal.main_arg11).trans e11
    refine ⟨fun i hi => ?_, fun i hi => absurd hi (Cert.On_inner_rows.fn_none _ _ _ _ _ _ _ _ _ _ _ _ i), fun i _ => ?_, fun i _ => ?_, hargs⟩
    · have hy := Cert.On_inner_rows.fn_row _ _ _ _ _ _ _ _ _ _ _ _ i hi
      obtain ⟨b, y, x, rfl⟩ : ∃ b y x, i = ix3 b y x := ⟨i 0, i 1, i 2, by funext a; fin_cases a <;> rfl⟩
      refine (congrFun (hA.trans (Cert.ReferenceIdeal.Read.val_main_v457_eq _)) _).trans ?_
      rw [f0, f1, f2, f3, f4, f5, f6, f7]
      refine (Cert.ReferenceIdeal.Hand.v457_read _ _ _ _ _ _ _ _ b y x hy).trans ?_
      rw [cost_eq]
      exact (Cert.KernelIdeal.Hand.alignment_at m ρ c b y x).symm
    · obtain ⟨b, y, x, rfl⟩ : ∃ b y x, i = ix3 b y x := ⟨i 0, i 1, i 2, by funext a; fin_cases a <;> rfl⟩
      refine (congrFun (hP.trans (Cert.ReferenceIdeal.Read.val_main_v483_eq _)) _).trans ?_
      rw [f0, f8, f9, f10, f11]
      exact (Cert.ReferenceIdeal.Hand.ref_head _ _ _ _ _ b y x).trans (Cert.KernelIdeal.Hand.prediction_at m ρ c b y x).symm
    · obtain ⟨b, y, x, rfl⟩ : ∃ b y x, i = ix3 b y x := ⟨i 0, i 1, i 2, by funext a; fin_cases a <;> rfl⟩
      refine (congrFun (hV.trans (Cert.ReferenceIdeal.Read.val_main_v39_eq _)) _).trans ?_
      rw [f0, f1]
      exact (Cert.ReferenceIdeal.Hand.ref_avg _ _ b y x).trans (Cert.KernelIdeal.Hand.average_at m ρ c b y x).symm

end Cert.Proof

end
-- ==== Proof.Dis.lean ====
/- The mean distance: what the main call's body adds to its one-entry block at a grid point, the block after a batch member's
   eight points, and the result at the end of the run. -/
module

public import proofs.«01_k».proof.Proof.KernelOut

@[expose] public section

set_option maxRecDepth 16384

noncomputable section

namespace Cert.KernelIdeal.Hand

open Cert.Layers Cert.KernelIdeal Cert.KernelIdeal.Gen Idealize.ShloMosaic Idealize.ShloMosaic.TcCoe Idealize.SL.Sem
open Idealize.ShloMosaic.Pipeline (Dat)
open Cert.ReferenceIdeal.Hand (images images_dist)

/-- The distances of one grid point's own rows. -/
def rowsOf (i : grid1.Coords) (x0 : Vec Ideal S1x528x256 .f32) (x1 : Vec Ideal S1x512x256 .f32) (x4 : Vec Ideal S1x1x512 .f32) : FVec Ideal S64x512 .f32 :=
  k1_pay19 (k1_pay10 (k1_pay7 i) (k1_pay8 (seqRows i x0) x1) (k1_pay9 (seqRows i x0) x4))

/-- The softmax of one grid point's rows, before it is stored. -/
def weightsOf (i : grid1.Coords) (x0 : Vec Ideal S1x528x256 .f32) (x1 : Vec Ideal S1x512x256 .f32) (x2 : Vec Ideal S1x528x1 .f32)
    (x3 x4 : Vec Ideal S1x1x512 .f32) (x5 : Vec Ideal S40x160 .bf16) (x6 : Vec Ideal S32x1 .f32) (x7 : Vec Ideal S160x160 .bf16)
    (x8 : Vec Ideal S32x1 .f32) (x9 : Vec Ideal S96x24 .bf16) (x10 : Vec Ideal S1x1 .f32) : FVec Ideal S64x512 .f32 :=
  k1_pay17
    (k1_pay10 (k1_pay7 i) (k1_pay8 (seqRows i x0) x1) (k1_pay9 (seqRows i x0) x4))
    (k1_pay13 x8) (k1_pay15 k1_pay11)
    (k1_pay16 k1_pay11 (k1_pay12 x6)
      (k1_pay14 (k1_pay5 (posRows i x2)) (k1_pay6 x3) (k1_pay7 i) (k1_pay8 (seqRows i x0) x1) (k1_pay9 (seqRows i x0) x4)) x5 x7)
    x9 x10

theorem store_apply (v : FVec Ideal S64x512 .f32) (j : Fin 64) (x : Fin 512) :
    (shapeCast S1x64x512 v shapeCasts_S64x512_S1x64x512 : FVec Ideal S1x64x512 .f32) (ix3 0 j x) = v (ix2 j x) := by
  pointwise

theorem weights_apply (i : grid1.Coords) (x0 : Vec Ideal S1x528x256 .f32) (x1 : Vec Ideal S1x512x256 .f32) (x2 : Vec Ideal S1x528x1 .f32)
    (x3 x4 : Vec Ideal S1x1x512 .f32) (x5 : Vec Ideal S40x160 .bf16) (x6 : Vec Ideal S32x1 .f32) (x7 : Vec Ideal S160x160 .bf16)
    (x8 : Vec Ideal S32x1 .f32) (x9 : Vec Ideal S96x24 .bf16) (x10 : Vec Ideal S1x1 .f32) (j : Fin 64) (x : Fin 512) :
    weightsOf i x0 x1 x2 x3 x4 x5 x6 x7 x8 x9 x10 (ix2 j x) = tileOf i x0 x1 x2 x3 x4 x5 x6 x7 x8 x9 x10 (ix3 0 j x) := by
  refine (store_apply _ j x).symm.trans ?_
  rfl

theorem pay1_apply (w d : FVec Ideal S64x512 .f32) : k1_pay1 (F := Ideal) w d (ix2 0 0) =
    (∑ j : Fin 64, ∑ x : Fin 512, d (ix2 j x) * w (ix2 j x)) * Ideal.ofBits .f32 0x3B000000#32 := by
  pointwise [k1_pay1]

theorem pay2_apply (w d : FVec Ideal S64x512 .f32) : k1_pay2 (F := Ideal) w d (ix3 0 0 0) = k1_pay1 (F := Ideal) w d (ix2 0 0) := by
  generalize hv : k1_pay1 (F := Ideal) w d = v
  pointwise [k1_pay2, hv]

theorem pay3_apply (w d : FVec Ideal S64x512 .f32) (z : Vec Ideal S1x1x1 .f32) :
    k1_pay3 (F := Ideal) w d z (ix3 0 0 0) = z (ix3 0 0 0) + k1_pay1 (F := Ideal) w d (ix2 0 0) := by
  generalize hv : k1_pay1 (F := Ideal) w d = v
  pointwise [k1_pay3, hv]

variable (V : (c : Dev nD) → (b : Ref sig .tc) → Buf (Elt Ideal) ((c : Thread nD τ).loc b))

/-- The softmax block of point `t`. -/
def weightsAt (c : Dev nD) (t : Fin cfg1.N) : FVec Ideal S64x512 .f32 :=
  weightsOf (grid1.coords t) (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t)

/-- The distance block of point `t`. -/
def rowsAt (c : Dev nD) (t : Fin cfg1.N) : FVec Ideal S64x512 .f32 :=
  rowsOf (grid1.coords t) (iblk1 V c 0 t) (iblk1 V c 1 t) (iblk1 V c 4 t)

theorem outsAt1_snd_A (c : Dev nD) (t : Fin cfg1.N) (h0 : t.val % 8 = 0) :
    (outsAt1 V c t.val t.isLt).2 = k1_pay2 (F := Ideal) (weightsAt V c t) (rowsAt V c t) := by
  rw [outsAt1_A V c t h0 (by omega)]
  frame_out
  rfl

theorem outsAt1_snd_B (c : Dev nD) (t : Fin cfg1.N) (h0 : ¬t.val % 8 = 0) :
    (outsAt1 V c t.val t.isLt).2 = k1_pay3 (F := Ideal) (weightsAt V c t) (rowsAt V c t)
      (outsAt1 V c (t.val - 1) (Nat.lt_of_le_of_lt (Nat.sub_le _ _) t.isLt)).2 := by
  rw [outsAt1_B V c t h0 (by omega)]
  frame_out
  rfl

/-- What point `n` adds. -/
def part (c : Dev nD) (n : ℕ) : EReal :=
  if h : n < cfg1.N then k1_pay1 (F := Ideal) (weightsAt V c ⟨n, h⟩) (rowsAt V c ⟨n, h⟩) (ix2 0 0) else 0

theorem sums (c : Dev nD) (n : ℕ) : ∀ hn : n < cfg1.N, (outsAt1 V c n hn).2 (ix3 0 0 0) =
    ∑ s ∈ Finset.range (n % 8 + 1), part V c (n / 8 * 8 + s) := by
  induction n with
  | zero =>
    intro hn
    refine (congrFun (outsAt1_snd_A V c ⟨0, hn⟩ rfl) _).trans ((pay2_apply _ _).trans ?_)
    rw [Finset.sum_range_one, part, dif_pos (by exact hn)]
  | succ n ih =>
    intro hn
    by_cases h : (n + 1) % 8 = 0
    · refine (congrFun (outsAt1_snd_A V c ⟨n + 1, hn⟩ h) _).trans ((pay2_apply _ _).trans ?_)
      have e : (n + 1) / 8 * 8 + 0 = n + 1 := by omega
      rw [h, Finset.sum_range_one, e, part, dif_pos hn]
    · refine (congrFun (outsAt1_snd_B V c ⟨n + 1, hn⟩ h) _).trans ((pay3_apply _ _ _).trans ?_)
      have e1 : (n + 1) % 8 = n % 8 + 1 := by omega
      have e2 : (n + 1) / 8 = n / 8 := by omega
      have e3 : n / 8 * 8 + (n % 8 + 1) = n + 1 := by omega
      rw [e1, e2, Finset.sum_range_succ, e3]
      refine congrArg₂ (· + ·) (ih (Nat.lt_of_succ_lt hn)) ?_
      rw [part, dif_pos hn]

/-- A batch member's last grid point. -/
def lastOf (b : Fin 4) : Fin cfg1.N := ⟨b.val * 8 + 7, by
  show _ < 32
  omega⟩

theorem index1_12 : ∀ t : Fin cfg1.N, win1_12.index t = ![t.val / 8, 0, 0] := by decide +kernel

theorem flush1_12 : ∀ t : Fin cfg1.N, win1_12.flush t = true → t.val % 8 = 7 := by decide +kernel

/-- The array of the mean distances after the call. -/
theorem arr12 (c : Dev nD) : (dat1 V c).arrAt 12 cfg1.N =
    fun i : S4x1x1.Idx => (outsAt1 V c (lastOf (i 0)).val (lastOf (i 0)).isLt).2 (ix3 0 0 0) := by
  refine (dat1 V c).arrAt_eq_of_covers 12 _ (by decide +kernel) fun t hf y => ?_
  blk_simp
  rw [after1_12]
  have h7 := flush1_12 t hf
  have h0 : ((win1_12.blk t).view.emb y 0).val = t.val / 8 := by
    have hy : (y 0).val < 1 := (y 0).isLt
    blk_simp [index1_12]
  have hp : lastOf ((win1_12.blk t).view.emb y 0) = t := by
    apply Fin.ext
    show ((win1_12.blk t).view.emb y 0).val * 8 + 7 = t.val
    omega
  rw [hp]
  refine congrArg (outsAt1 V c t.val t.isLt).2 (show y = ix3 0 0 0 from ?_)
  funext a
  apply Fin.ext
  fin_cases a
  · have hy : (y 0).val < 1 := (y 0).isLt
    show (y 0).val = 0
    omega
  · have hy : (y 1).val < 1 := (y 1).isLt
    show (y 1).val = 0
    omega
  · have hy : (y 2).val < 1 := (y 2).isLt
    show (y 2).val = 0
    omega

/-- The point's own rows of distances. -/
theorem rows_apply (i : grid1.Coords) (x0 : Vec Ideal S1x528x256 .f32) (x1 : Vec Ideal S1x512x256 .f32) (x4 : Vec Ideal S1x1x512 .f32)
    (j : Fin 64) (x : Fin 512) : rowsOf i x0 x1 x4 (ix2 j x) =
      k1_pay10 (F := Ideal) (k1_pay7 i) (k1_pay8 (seqRows i x0) x1) (k1_pay9 (seqRows i x0) x4) (ix2 (⟨8 + j.val, by omega⟩ : Fin 80) x) := by
  unfold rowsOf
  generalize k1_pay10 (F := Ideal) (k1_pay7 i) (k1_pay8 (seqRows i x0) x1) (k1_pay9 (seqRows i x0) x4) = v
  pointwise [k1_pay19]

variable (c : Dev nD) (s : FVec Ideal S4x512x256 .f32) (n : IVec S4 32) (w1 : FVec Ideal S30x2x5x5 .f32) (b1 : FVec Ideal S30 .f32)
  (w2 : FVec Ideal S30x30x5x5 .f32) (b2 : FVec Ideal S30 .f32) (w3 : FVec Ideal S1x30x3x3 .f32) (b3 : FVec Ideal S1 .f32)

theorem rowsAt_apply (E : Entry V c s n w1 b1 w2 b2 w3 b3) (b : Fin 4) (t : Fin cfg1.N) (hb : t.val / 8 = b.val) (j : Fin 64) (x : Fin 512) :
    rowsAt V c t (ix2 j x) = images s n b 0 (64 * (t.val % 8) + j.val + 8) (x.val + 2) := by
  have hl : 64 * (t.val % 8) + (8 + j.val) < 528 := by omega
  have h7 := fun l : Fin 80 => pay7_apply (grid1.coords t) l
  have hi := coord_at t
  have hs : ∀ d, seqRows (grid1.coords t) (iblk1 V c 0 t) (ix3 0 (⟨8 + j.val, by omega⟩ : Fin 80) d) =
      padSeq s (ix3 b ⟨64 * (t.val % 8) + (8 + j.val), hl⟩ d) := fun d => by
    rw [seqRows_apply t _ (⟨8 + j.val, by omega⟩ : Fin 80) d ⟨_, hl⟩ rfl, block1_0 V c t b hb, E.seq]
  rw [rowsAt, rows_apply, pay10_apply, h7, images_dist]
  simp only [hs, block1_1 V c t b hb, block1_4 V c t b hb, E.avg, E.square, padSeq_apply, hi]
  have e : 64 * (t.val % 8) + (8 + j.val) = 64 * (t.val % 8) + j.val + 8 := by omega
  simp only [e]
  have h : 8 ≤ 64 * (t.val % 8) + j.val + 8 ∧ 64 * (t.val % 8) + j.val + 8 < 520 := by omega
  simp only [if_pos h, dif_pos h, mul_one]
  rfl

theorem weightsAt_apply (E : Entry V c s n w1 b1 w2 b2 w3 b3) (b : Fin 4) (k : Fin 8) (t : Fin cfg1.N) (ht : t.val = b.val * 8 + k.val)
    (j : Fin 64) (x : Fin 512) : weightsAt V c t (ix2 j x) =
      soft (costOf (fun o dy dx c => w1 (ix4 o c dy dx)) (fun o => b1 (ix1 o)) (fun o dy dx c => w2 (ix4 o c dy dx)) (fun o => b2 (ix1 o))
        (fun dy dx c => w3 (ix4 0 c dy dx)) (b3 (ix1 0)) (images s n b) (64 * k.val + j.val)) x := by
  have h := (congrFun (arr11 V c) (ix3 b (⟨64 * k.val + j.val, by omega⟩ : Fin 512) x)).symm.trans
    (alignment_read V c s n w1 b1 w2 b2 w3 b3 E b ⟨64 * k.val + j.val, by omega⟩ x)
  refine Eq.trans ?_ h
  have hp : pointOf b (⟨64 * k.val + j.val, by omega⟩ : Fin 512) = t := by
    apply Fin.ext
    show b.val * 8 + (64 * k.val + j.val) / 64 = t.val
    omega
  show _ = tileAt V c (pointOf b (⟨64 * k.val + j.val, by omega⟩ : Fin 512)) (ix3 (0 : Fin 1) (⟨(64 * k.val + j.val) % 64, _⟩ : Fin 64) x)
  have hj : (⟨(64 * k.val + j.val) % 64, Nat.mod_lt _ (by decide)⟩ : Fin 64) = j := Fin.ext (by dsimp only; omega)
  rw [hp, hj]
  exact weights_apply _ _ _ _ _ _ _ _ _ _ _ _ j x

/-- The mean distances' array: over a batch member's eight points, the products of distance and softmax, over 512. -/
theorem mean_read (E : Entry V c s n w1 b1 w2 b2 w3 b3) (b : Fin 4) : (dat1 V c).arrAt 12 cfg1.N (ix3 b 0 0) =
    ∑ k : Fin 8, (∑ j : Fin 64, ∑ x : Fin 512, images s n b 0 (64 * k.val + j.val + 8) (x.val + 2) *
      soft (costOf (fun o dy dx c => w1 (ix4 o c dy dx)) (fun o => b1 (ix1 o)) (fun o dy dx c => w2 (ix4 o c dy dx)) (fun o => b2 (ix1 o))
        (fun dy dx c => w3 (ix4 0 c dy dx)) (b3 (ix1 0)) (images s n b) (64 * k.val + j.val)) x) * Ideal.ofBits .f32 0x3B000000#32 := by
  rw [arr12 V c]
  refine (sums V c (lastOf b).val (lastOf b).isLt).trans ?_
  have e1 : (lastOf b).val % 8 + 1 = 8 := by show (b.val * 8 + 7) % 8 + 1 = 8; omega
  have e2 : (lastOf b).val / 8 * 8 = b.val * 8 := by show (b.val * 8 + 7) / 8 * 8 = b.val * 8; omega
  rw [e1, e2, Finset.sum_range]
  refine Finset.sum_congr rfl fun k _ => ?_
  have hN : b.val * 8 + k.val < cfg1.N := by
    show _ < 32
    omega
  rw [part, dif_pos hN, pay1_apply]
  refine congrArg (· * _) (Finset.sum_congr rfl fun j _ => Finset.sum_congr rfl fun x _ => ?_)
  rw [rowsAt_apply V c s n w1 b1 w2 b2 w3 b3 E b ⟨b.val * 8 + k.val, hN⟩ (by dsimp only; omega),
    weightsAt_apply V c s n w1 b1 w2 b2 w3 b3 E b k ⟨b.val * 8 + k.val, hN⟩ rfl]
  rw [show (b.val * 8 + k.val) % 8 = k.val by omega]

theorem read_v44 (X : Valuation τ sig (Elt Ideal)) (b : Fin 4) :
    StableHlo.after (hostOps3 (F := Ideal)) X (Proc.devRef .tc main_v44) (ix1 b) = X (Proc.devRef .tc main_v36_1) (ix3 b 0 0) := by
  after_results
  pointwise

variable (m : (ℓ : Loc nD τ sig) → Buf (Elt Ideal) ℓ) (ρ : Dev nD → PrngReg)

/-- The mean distance at the end of the run. -/
theorem mean_at (c : Dev nD) (b : Fin 4) : W15 m ρ c (Proc.devRef .tc main_v44) (ix1 b) =
    ∑ k : Fin 8, (∑ j : Fin 64, ∑ x : Fin 512, images (m ((c : Thread nD τ).loc main_arg0)) (m ((c : Thread nD τ).loc main_arg1)) b 0 (64 * k.val + j.val + 8) (x.val + 2) *
      soft (costOf (fun o dy dx d => m ((c : Thread nD τ).loc main_arg2) (ix4 o d dy dx)) (fun o => m ((c : Thread nD τ).loc main_arg3) (ix1 o))
        (fun o dy dx d => m ((c : Thread nD τ).loc main_arg4) (ix4 o d dy dx)) (fun o => m ((c : Thread nD τ).loc main_arg5) (ix1 o))
        (fun dy dx d => m ((c : Thread nD τ).loc main_arg6) (ix4 0 d dy dx)) (m ((c : Thread nD τ).loc main_arg7) (ix1 0))
        (images (m ((c : Thread nD τ).loc main_arg0)) (m ((c : Thread nD τ).loc main_arg1)) b) (64 * k.val + j.val)) x) * Ideal.ofBits .f32 0x3B000000#32 := by
  refine (read_v44 (W14 m ρ c) b).trans ?_
  rw [W14_of m ρ c main_v36_1 (by decide), W13_of m ρ c main_v36_1 (by decide),
    ← mean_read (V11 m ρ) c _ _ _ _ _ _ _ _ (entry m ρ c) b]
  exact congrFun (W12_arr m ρ c 12) _

end Cert.KernelIdeal.Hand

end
-- ==== Proof.OnceConv.lean ====
/- The second reference, whose images are padded above and below once, read at an index. Up to the stacked images, and in
   the prediction, its values are the first reference's. -/
module

public import proofs.«01_k».proof.Proof.Gen.ReferenceOnceIdeal.Read
public import proofs.«01_k».proof.Proof.RefConv

@[expose] public section

set_option maxRecDepth 16384

noncomputable section

namespace Cert.ReferenceOnceIdeal.Hand

open Cert.ReferenceOnceIdeal Cert.ReferenceOnceIdeal.Gen Cert.ReferenceOnceIdeal.Read Idealize.ShloMosaic Idealize.ShloMosaic.TcCoe Idealize.SL.Sem
open Cert.Layers
open Cert.ReferenceIdeal.Hand (images)

variable (x0 : FVec Ideal S4x512x256 .f32) (x1 : IVec S4 32) (x2 : FVec Ideal S30x2x5x5 .f32) (x3 : FVec Ideal S30 .f32)
  (x4 : FVec Ideal S30x30x5x5 .f32) (x5 : FVec Ideal S30 .f32) (x6 : FVec Ideal S1x30x3x3 .f32) (x7 : FVec Ideal S1 .f32)

/-- The averaged sequence is the first reference's. -/
theorem avg_same : val_main_v39 (F := Ideal) x0 x1 = Cert.ReferenceIdeal.Read.val_main_v39 (F := Ideal) x0 x1 := rfl

/-- The distances are the first reference's. -/
theorem dist_same : val_main_v63 (F := Ideal) x0 x1 = Cert.ReferenceIdeal.Read.val_main_v63 (F := Ideal) x0 x1 := rfl

/-- The stacked images are the first reference's. -/
theorem stack_same : val_main_v72 (F := Ideal) x0 x1 = Cert.ReferenceIdeal.Read.val_main_v72 (F := Ideal) x0 x1 := rfl

/-- The prediction is the first reference's. -/
theorem head_same (x8 x10 : FVec Ideal S256x256 .f32) (x9 x11 : FVec Ideal S256 .f32) :
    val_main_v485 (F := Ideal) x0 x8 x9 x10 x11 = Cert.ReferenceIdeal.Read.val_main_v483 (F := Ideal) x0 x8 x9 x10 x11 := rfl

/-- The padding constant is zero. -/
theorem fill_zero : (((0#32 : BitVec 32).toInt : ℝ) : EReal) = 0 := by simp

/-- One tap of the first convolution over the taller images. -/
def tapOne (p : FVec Ideal S4x2x532x516 .f32) (w : FVec Ideal S30x2x5x5 .f32) (dy dx : Fin 5) : FVec Ideal S4x30x528x512 .f32 :=
  transpose S4x30x528x512 [0, 3, 1, 2]
    (Host.dotGeneral dot_S4x2x528x512_S30x2_S4x528x512x30_1_1_023_0_n_n none
      (extractStridedSlice S4x2x528x512 ![0, 0, dy.val, dx.val] p ((by decide : ∀ dy dx : Fin 5, S4x2x532x516.Slices ![0, 0, dy.val, dx.val] S4x2x528x512) dy dx))
      (shapeCast S30x2 (extractStridedSlice S30x2x1x1 ![0, 0, dy.val, dx.val] w ((by decide : ∀ dy dx : Fin 5, S30x2x5x5.Slices ![0, 0, dy.val, dx.val] S30x2x1x1) dy dx)) shapeCasts_S30x2x1x1_S30x2))
    transposes_S4x528x512x30_S4x30x528x512_0_3_1_2

theorem tapOne_apply (p : FVec Ideal S4x2x532x516 .f32) (w : FVec Ideal S30x2x5x5 .f32) (dy dx : Fin 5) (b : Fin 4) (o : Fin 30) (r : Fin 528) (x : Fin 512) :
    tapOne p w dy dx (ix4 b o r x) =
      ∑ c : Fin 2, p (ix4 b c (⟨dy.val + r.val, by omega⟩ : Fin 532) (⟨dx.val + x.val, by omega⟩ : Fin 516)) * w (ix4 o c dy dx) := by
  pointwise [tapOne]

/-- One tap of the second convolution over the taller images. -/
def tapTwo (p : FVec Ideal S4x30x532x516 .f32) (w : FVec Ideal S30x30x5x5 .f32) (dy dx : Fin 5) : FVec Ideal S4x30x528x512 .f32 :=
  transpose S4x30x528x512 [0, 3, 1, 2]
    (Host.dotGeneral dot_S4x30x528x512_S30x30_S4x528x512x30_1_1_023_0_n_n none
      (extractStridedSlice S4x30x528x512 ![0, 0, dy.val, dx.val] p ((by decide : ∀ dy dx : Fin 5, S4x30x532x516.Slices ![0, 0, dy.val, dx.val] S4x30x528x512) dy dx))
      (shapeCast S30x30 (extractStridedSlice S30x30x1x1 ![0, 0, dy.val, dx.val] w ((by decide : ∀ dy dx : Fin 5, S30x30x5x5.Slices ![0, 0, dy.val, dx.val] S30x30x1x1) dy dx)) shapeCasts_S30x30x1x1_S30x30))
    transposes_S4x528x512x30_S4x30x528x512_0_3_1_2

theorem tapTwo_apply (p : FVec Ideal S4x30x532x516 .f32) (w : FVec Ideal S30x30x5x5 .f32) (dy dx : Fin 5) (b : Fin 4) (o : Fin 30) (r : Fin 528) (x : Fin 512) :
    tapTwo p w dy dx (ix4 b o r x) =
      ∑ c : Fin 30, p (ix4 b c (⟨dy.val + r.val, by omega⟩ : Fin 532) (⟨dx.val + x.val, by omega⟩ : Fin 516)) * w (ix4 o c dy dx) := by
  pointwise [tapTwo]

/-- One tap of the third convolution over the taller images. -/
def tapThree (p : FVec Ideal S4x30x530x514 .f32) (w : FVec Ideal S1x30x3x3 .f32) (dy dx : Fin 3) : FVec Ideal S4x1x528x512 .f32 :=
  transpose S4x1x528x512 [0, 3, 1, 2]
    (Host.dotGeneral dot_S4x30x528x512_S1x30_S4x528x512x1_1_1_023_0_n_n none
      (extractStridedSlice S4x30x528x512 ![0, 0, dy.val, dx.val] p ((by decide : ∀ dy dx : Fin 3, S4x30x530x514.Slices ![0, 0, dy.val, dx.val] S4x30x528x512) dy dx))
      (shapeCast S1x30 (extractStridedSlice S1x30x1x1 ![0, 0, dy.val, dx.val] w ((by decide : ∀ dy dx : Fin 3, S1x30x3x3.Slices ![0, 0, dy.val, dx.val] S1x30x1x1) dy dx)) shapeCasts_S1x30x1x1_S1x30))
    transposes_S4x528x512x1_S4x1x528x512_0_3_1_2

theorem tapThree_apply (p : FVec Ideal S4x30x530x514 .f32) (w : FVec Ideal S1x30x3x3 .f32) (dy dx : Fin 3) (b : Fin 4) (r : Fin 528) (x : Fin 512) :
    tapThree p w dy dx (ix4 b 0 r x) =
      ∑ c : Fin 30, p (ix4 b c (⟨dy.val + r.val, by omega⟩ : Fin 530) (⟨dx.val + x.val, by omega⟩ : Fin 514)) * w (ix4 0 c dy dx) := by
  pointwise [tapThree]

/-- The images with eight zero rows on either side. -/
theorem v73_read (b : Fin 4) (c : Fin 2) (u : Fin 528) (x : Fin 512) :
    val_main_v73 (F := Ideal) x0 x1 (ix4 b c u x) = images x0 x1 b c u.val (x.val + 2) := by
  rw [images, ← stack_same]
  generalize hv : val_main_v72 (F := Ideal) x0 x1 = v
  have hz : val_main_call2_v0 (F := Ideal) (Shape.Idx.first h_S_) = 0 := fill_zero
  pointwise [val_main_v73, hv]
  rw [hz]
  by_cases h : 8 ≤ u.val ∧ u.val - 8 < 512
  · rw [dif_pos h, dif_pos (by omega)]
    congr 2
  · rw [dif_neg h, dif_neg (by omega)]

theorem v74_read (b : Fin 4) (c : Fin 2) (y : Fin 532) (x : Fin 516) (hy : 2 ≤ y.val ∧ y.val < 530) :
    val_main_v74 (F := Ideal) x0 x1 (ix4 b c y x) = images x0 x1 b c (y.val - 2) x.val := by
  have h73 := fun u x => v73_read x0 x1 b c u x
  generalize hv : val_main_v73 (F := Ideal) x0 x1 = v at h73
  have hz : val_main_call3_v0 (F := Ideal) (Shape.Idx.first h_S_) = 0 := fill_zero
  pointwise [val_main_v74, hv]
  rw [hz]
  by_cases h : 2 ≤ x.val ∧ x.val - 2 < 512
  · rw [dif_pos (by omega), h73]
    dsimp only
    rw [show x.val - 2 + 2 = x.val by omega]
  · rw [dif_neg (by omega), images, dif_neg (by omega)]

theorem v225_read (b : Fin 4) (o : Fin 30) (r : Fin 528) (x : Fin 512) (hr : 2 ≤ r.val ∧ r.val < 526) :
    val_main_v225 (F := Ideal) x0 x1 x2 (ix4 b o r x) =
      win 5 2 (fun dy dx c => x2 (ix4 o c dy dx)) (images x0 x1 b) (r.val - 2) x.val := by
  have hz : val_main_v80 (F := Ideal) (ix4 b o r x) = 0 := Ideal.ofBits_zero_f32
  have hs : val_main_v225 (F := Ideal) x0 x1 x2 (ix4 b o r x) = addFive (val_main_v80 (F := Ideal) (ix4 b o r x))
      fun dy dx => tapOne (val_main_v74 (F := Ideal) x0 x1) x2 dy dx (ix4 b o r x) := rfl
  rw [hs, hz, addFive_eq]
  refine Finset.sum_congr rfl fun dx _ => Finset.sum_congr rfl fun dy _ => ?_
  rw [tapOne_apply]
  refine Finset.sum_congr rfl fun c _ => ?_
  have hdy := dy.isLt
  rw [v74_read _ _ _ _ _ _ (by dsimp only; omega), mul_comm]
  congr 2
  · show dy.val + r.val - 2 = r.val - 2 + dy.val; omega
  · exact Nat.add_comm _ _

theorem v230_read (b : Fin 4) (o : Fin 30) (y : Fin 532) (x : Fin 516) (hy : 4 ≤ y.val ∧ y.val < 528) :
    val_main_v230 (F := Ideal) x0 x1 x2 x3 (ix4 b o y x) =
      layerOne (fun o dy dx c => x2 (ix4 o c dy dx)) (fun o => x3 (ix1 o)) (images x0 x1 b) o (y.val - 4) x.val := by
  rw [layerOne]
  have h229 : ∀ (r : Fin 528) (x : Fin 512), 2 ≤ r.val ∧ r.val < 526 → val_main_v229 (F := Ideal) x0 x1 x2 x3 (ix4 b o r x) =
      max (win 5 2 (fun dy dx c => x2 (ix4 o c dy dx)) (images x0 x1 b) (r.val - 2) x.val + x3 (ix1 o)) 0 := fun r x hr => by
    rw [← v225_read _ _ _ _ _ _ _ hr]
    pointwise [val_main_v229, val_main_v228, val_main_v227, val_main_v226, val_main_call4_v0, val_main_call4_cst]
  generalize hv : val_main_v229 (F := Ideal) x0 x1 x2 x3 = v at h229
  have hz : val_main_call5_v0 (F := Ideal) (Shape.Idx.first h_S_) = 0 := fill_zero
  pointwise [val_main_v230, hv]
  rw [hz]
  by_cases h : 2 ≤ x.val ∧ x.val < 514
  · rw [dif_pos (by omega), if_pos h, h229 _ _ (by dsimp only; omega)]
    dsimp only
    rw [show y.val - 2 - 2 = y.val - 4 by omega]
  · rw [dif_neg (by omega), if_neg h]

theorem v381_read (b : Fin 4) (o : Fin 30) (r : Fin 528) (x : Fin 512) (hr : 4 ≤ r.val ∧ r.val < 524) :
    val_main_v381 (F := Ideal) x0 x1 x2 x3 x4 (ix4 b o r x) =
      win 5 30 (fun dy dx c => x4 (ix4 o c dy dx))
        (layerOne (fun o dy dx c => x2 (ix4 o c dy dx)) (fun o => x3 (ix1 o)) (images x0 x1 b)) (r.val - 4) x.val := by
  have hz : val_main_v236 (F := Ideal) (ix4 b o r x) = 0 := Ideal.ofBits_zero_f32
  have hs : val_main_v381 (F := Ideal) x0 x1 x2 x3 x4 (ix4 b o r x) = addFive (val_main_v236 (F := Ideal) (ix4 b o r x))
      fun dy dx => tapTwo (val_main_v230 (F := Ideal) x0 x1 x2 x3) x4 dy dx (ix4 b o r x) := rfl
  rw [hs, hz, addFive_eq]
  refine Finset.sum_congr rfl fun dx _ => Finset.sum_congr rfl fun dy _ => ?_
  rw [tapTwo_apply]
  refine Finset.sum_congr rfl fun c _ => ?_
  have hdy := dy.isLt
  rw [v230_read _ _ _ _ _ _ _ _ (by dsimp only; omega), mul_comm]
  congr 2
  · show dy.val + r.val - 4 = r.val - 4 + dy.val; omega
  · exact Nat.add_comm _ _

theorem v386_read (b : Fin 4) (o : Fin 30) (y : Fin 530) (x : Fin 514) (hy : 5 ≤ y.val ∧ y.val < 525) :
    val_main_v386 (F := Ideal) x0 x1 x2 x3 x4 x5 (ix4 b o y x) =
      layerTwo (fun o dy dx c => x4 (ix4 o c dy dx)) (fun o => x5 (ix1 o))
        (layerOne (fun o dy dx c => x2 (ix4 o c dy dx)) (fun o => x3 (ix1 o)) (images x0 x1 b)) o (y.val - 5) x.val := by
  rw [layerTwo]
  have h385 : ∀ (r : Fin 528) (x : Fin 512), 4 ≤ r.val ∧ r.val < 524 → val_main_v385 (F := Ideal) x0 x1 x2 x3 x4 x5 (ix4 b o r x) =
      max (win 5 30 (fun dy dx c => x4 (ix4 o c dy dx))
        (layerOne (fun o dy dx c => x2 (ix4 o c dy dx)) (fun o => x3 (ix1 o)) (images x0 x1 b)) (r.val - 4) x.val + x5 (ix1 o)) 0 :=
    fun r x hr => by
      rw [← v381_read _ _ _ _ _ _ _ _ _ hr]
      pointwise [val_main_v385, val_main_v384, val_main_v383, val_main_v382, val_main_call6_v0, val_main_call6_cst]
  generalize hv : val_main_v385 (F := Ideal) x0 x1 x2 x3 x4 x5 = v at h385
  have hz : val_main_call7_v0 (F := Ideal) (Shape.Idx.first h_S_) = 0 := fill_zero
  pointwise [val_main_v386, hv]
  rw [hz]
  by_cases h : 1 ≤ x.val ∧ x.val < 513
  · rw [dif_pos (by omega), if_pos h, h385 _ _ (by dsimp only; omega)]
    dsimp only
    rw [show y.val - 1 - 4 = y.val - 5 by omega]
  · rw [dif_neg (by omega), if_neg h]

theorem v441_read (b : Fin 4) (r : Fin 528) (x : Fin 512) (hr : 5 ≤ r.val ∧ r.val < 523) :
    val_main_v441 (F := Ideal) x0 x1 x2 x3 x4 x5 x6 (ix4 b 0 r x) =
      win 3 30 (fun dy dx c => x6 (ix4 0 c dy dx))
        (layerTwo (fun o dy dx c => x4 (ix4 o c dy dx)) (fun o => x5 (ix1 o))
          (layerOne (fun o dy dx c => x2 (ix4 o c dy dx)) (fun o => x3 (ix1 o)) (images x0 x1 b))) (r.val - 5) x.val := by
  have hz : val_main_v392 (F := Ideal) (ix4 b 0 r x) = 0 := Ideal.ofBits_zero_f32
  have hs : val_main_v441 (F := Ideal) x0 x1 x2 x3 x4 x5 x6 (ix4 b 0 r x) = addThree (val_main_v392 (F := Ideal) (ix4 b 0 r x))
      fun dy dx => tapThree (val_main_v386 (F := Ideal) x0 x1 x2 x3 x4 x5) x6 dy dx (ix4 b 0 r x) := rfl
  rw [hs, hz, addThree_eq]
  refine Finset.sum_congr rfl fun dx _ => Finset.sum_congr rfl fun dy _ => ?_
  rw [tapThree_apply]
  refine Finset.sum_congr rfl fun c _ => ?_
  have hdy := dy.isLt
  rw [v386_read _ _ _ _ _ _ _ _ _ _ (by dsimp only; omega), mul_comm]
  congr 2
  · show dy.val + r.val - 5 = r.val - 5 + dy.val; omega
  · exact Nat.add_comm _ _

/-- The softmax's argument in any row. -/
theorem v447_read (b : Fin 4) (y x : Fin 512) :
    val_main_v447 (F := Ideal) x0 x1 x2 x3 x4 x5 x6 x7 (ix3 b y x) = Cert.ReferenceIdeal.Hand.costAt x0 x1 x2 x3 x4 x5 x6 x7 b y x := by
  have h := v441_read x0 x1 x2 x3 x4 x5 x6 b (⟨8 + y.val, by omega⟩ : Fin 528) x (by dsimp only; omega)
  rw [Cert.ReferenceIdeal.Hand.costAt, ← dist_same]
  rw [show (⟨8 + y.val, by omega⟩ : Fin 528).val - 5 = y.val + 3 by dsimp only; omega] at h
  rw [← h]
  generalize hv : val_main_v441 (F := Ideal) x0 x1 x2 x3 x4 x5 x6 = v
  generalize hd : val_main_v63 (F := Ideal) x0 x1 = d
  pointwise [hv, hd, val_main_v447, val_main_v446, val_main_v445, val_main_v444, val_main_v443, val_main_v442]

/-- The alignment's entry, in any row, as a softmax of the negated costs of its row. -/
theorem v459_read (b : Fin 4) (y x : Fin 512) :
    val_main_v459 (F := Ideal) x0 x1 x2 x3 x4 x5 x6 x7 (ix3 b y x) = soft (Cert.ReferenceIdeal.Hand.costAt x0 x1 x2 x3 x4 x5 x6 x7 b y) x := by
  have h := fun k => v447_read x0 x1 x2 x3 x4 x5 x6 x7 b y k
  generalize hv : val_main_v447 (F := Ideal) x0 x1 x2 x3 x4 x5 x6 x7 = v at h
  pointwise [val_main_v459, val_main_v458, val_main_v457, val_main_v456, val_main_cst_20, val_main_v455, val_main_v454, val_main_v453,
    val_main_v452, val_main_v451, val_main_v450, val_main_cst_19, val_main_v449, val_main_cst_18, val_main_v448, hv, h]
  rw [max_eq_right (Finset.le_fold_max _ |>.mpr (Or.inl le_rfl))]
  rfl

end Cert.ReferenceOnceIdeal.Hand

end
-- ==== Proof.Finite.lean ====
/- Which of the reference's intermediate values are real numbers when the arguments are: all of them up to the softmax, so that
   each row of the alignment sums to one, and the mean distance has one value in both programs' orders. -/
module

public import proofs.«01_k».proof.Proof.Layers
public import proofs.«01_k».proof.Proof.Steps

@[expose] public section

noncomputable section

namespace Cert.Layers

open Idealize.ShloMosaic

/-- Being a real number. -/
def Rl (e : EReal) : Prop := ∃ r : ℝ, (r : EReal) = e

theorem Rl.coe (r : ℝ) : Rl (r : EReal) := ⟨r, rfl⟩

theorem Rl.zero : Rl 0 := ⟨0, rfl⟩

theorem Rl.one : Rl 1 := ⟨1, rfl⟩

theorem Rl.add {a b : EReal} (ha : Rl a) (hb : Rl b) : Rl (a + b) := by
  obtain ⟨r, rfl⟩ := ha
  obtain ⟨s, rfl⟩ := hb
  exact ⟨r + s, EReal.coe_add r s⟩

theorem Rl.mul {a b : EReal} (ha : Rl a) (hb : Rl b) : Rl (a * b) := by
  obtain ⟨r, rfl⟩ := ha
  obtain ⟨s, rfl⟩ := hb
  exact ⟨r * s, EReal.coe_mul r s⟩

theorem Rl.neg {a : EReal} (ha : Rl a) : Rl (-a) := by
  obtain ⟨r, rfl⟩ := ha
  exact ⟨-r, EReal.coe_neg r⟩

theorem Rl.sub {a b : EReal} (ha : Rl a) (hb : Rl b) : Rl (a - b) := by
  obtain ⟨r, rfl⟩ := ha
  obtain ⟨s, rfl⟩ := hb
  exact ⟨r - s, EReal.coe_sub r s⟩

theorem Rl.max {a b : EReal} (ha : Rl a) (hb : Rl b) : Rl (max a b) := by
  rcases max_choice a b with h | h <;> rw [h] <;> assumption

theorem Rl.ite {p : Prop} [Decidable p] {a b : EReal} (ha : p → Rl a) (hb : Rl b) : Rl (if p then a else b) := by
  by_cases h : p
  · rw [if_pos h]; exact ha h
  · rw [if_neg h]; exact hb

theorem sum_coe {ι : Type*} [Fintype ι] (f : ι → ℝ) : ∑ i, (f i : EReal) = ((∑ i, f i : ℝ) : EReal) := by
  classical
  refine Finset.induction_on (Finset.univ : Finset ι) rfl fun i s hi ih => ?_
  rw [Finset.sum_insert hi, Finset.sum_insert hi, ih, EReal.coe_add]

theorem Rl.sum {ι : Type*} [Fintype ι] {f : ι → EReal} (h : ∀ i, Rl (f i)) : Rl (∑ i, f i) := by
  choose g hg using h
  exact ⟨∑ i, g i, by rw [← sum_coe]; simp only [hg]⟩

theorem Rl.div {a : EReal} (ha : Rl a) {y : ℝ} (hy : y ≠ 0) : Rl (Ideal.div a (y : EReal)) := by
  rw [Ideal.div_coe hy]
  exact ha.mul (Rl.coe _)

theorem Rl.of_lt {e : EReal} (h : Max.max e (-e) < ⊤) : Rl e := by
  induction e with
  | bot => exact absurd h (by simp)
  | coe r => exact ⟨r, rfl⟩
  | top => exact absurd h (by simp)

/-! ## The constants -/

theorem word_two : Ideal.ofBits .f32 0x40000000#32 = ((2 : ℝ) : EReal) := by
  simp [Ideal.ofBits, Ideal.ieee, BitVec.toNat_ofNat, -EReal.coe_mul]
  norm_num

theorem word_top : Ideal.ofBits .f32 0x7F800000#32 = ⊤ := by
  simp [Ideal.ofBits, Ideal.ieee, BitVec.toNat_ofNat]

theorem word_bot : Ideal.ofBits .f32 0xFF800000#32 = ⊥ := by
  simp [Ideal.ofBits, Ideal.ieee, BitVec.toNat_ofNat]

theorem word_part : Ideal.ofBits .f32 0x3B000000#32 = ((1 / 512 : ℝ) : EReal) := by
  simp [Ideal.ofBits, Ideal.ieee, BitVec.toNat_ofNat, -EReal.coe_mul]
  norm_num

theorem word_tiny : ∃ r : ℝ, 0 < r ∧ Ideal.ofBits .f32 730643660#32 = (r : EReal) := by
  refine ⟨_, ?_, by
    simp [Ideal.ofBits, Ideal.ieee, BitVec.toNat_ofNat, -EReal.coe_mul]
    rfl⟩
  positivity

theorem word_tenth : Rl (Ideal.ofBits .f32 0x3DCCCCCD#32) := by
  refine ⟨_, by
    simp [Ideal.ofBits, Ideal.ieee, BitVec.toNat_ofNat, -EReal.coe_mul]
    rfl⟩

theorem word_fifths : Rl (Ideal.ofBits .f32 0x3F4CCCCD#32) := by
  refine ⟨_, by
    simp [Ideal.ofBits, Ideal.ieee, BitVec.toNat_ofNat, -EReal.coe_mul]
    rfl⟩

/-! ## The reference's steps -/

theorem len_real (n : BitVec 32) : ∃ r : ℝ, 8 ≤ r ∧ lenOf n = (r : EReal) := by
  refine ⟨((IntOp.minsi 512#32 (IntOp.maxsi 8#32 n)).toInt : ℝ), ?_, rfl⟩
  have h1 : (IntOp.minsi 512#32 (IntOp.maxsi 8#32 n)).toInt = min 512 (max 8 n.toInt) := by
    rw [SortNet.toInt_minsi, SortNet.toInt_maxsi]
    rfl
  rw [h1]
  exact_mod_cast (le_min (by norm_num) (le_max_left _ _) : (8 : ℤ) ≤ min 512 (max 8 n.toInt))

theorem less_real (n : BitVec 32) : ∃ r : ℝ, 6 ≤ r ∧ lenOf n - Ideal.ofBits .f32 0x40000000#32 = (r : EReal) := by
  obtain ⟨r, h, e⟩ := len_real n
  exact ⟨r - 2, by linarith, by rw [e, word_two, EReal.coe_sub]⟩

theorem below_real (L : EReal) (k : ℕ) : Rl (below L k) := Rl.ite (fun _ => Rl.one) Rl.zero

theorem pos_real {L : EReal} {r : ℝ} (h : 0 < r) (e : L = (r : EReal)) (k : ℕ) : Rl (posOf L k) := by
  subst e
  exact (Rl.div (Rl.add ⟨_, rfl⟩ Rl.one) h.ne').mul (below_real _ k)

theorem avg_real {s : Fin 512 → EReal} (hs : ∀ k, Rl (s k)) (L : EReal) (k : Fin 512) : Rl (avgOf s L k) := by
  unfold avgOf
  refine Rl.mul ?_ (below_real L _)
  by_cases h : k.val < 510
  · rw [dif_pos h]
    exact ((word_tenth.mul (hs _)).add (word_fifths.mul (hs _))).add (word_tenth.mul (hs _))
  · rw [dif_neg h]
    exact Rl.zero

theorem dist_real {a v : Fin 256 → EReal} (ha : ∀ d, Rl (a d)) (hv : ∀ d, Rl (v d)) : Rl (distOf a v) := by
  unfold distOf
  obtain ⟨t, ht, et⟩ := word_tiny
  rw [et, word_two]
  obtain ⟨r, hr⟩ : Rl ((∑ d, a d * a d) + (∑ d, v d * v d) - ((2 : ℝ) : EReal) * ∑ d, a d * v d) :=
    ((Rl.sum fun d => (ha d).mul (ha d)).add (Rl.sum fun d => (hv d).mul (hv d))).sub ((Rl.coe 2).mul (Rl.sum fun d => (ha d).mul (hv d)))
  rw [← hr, show Max.max (r : EReal) (t : EReal) = ((Max.max r t : ℝ) : EReal) from (EReal.coe_strictMono.monotone.map_max).symm, Ideal.sqrt_coe,
    if_neg (not_lt.2 (ht.le.trans (le_max_right _ _)))]
  exact ⟨_, rfl⟩

theorem gap_real {a b : EReal} (ha : Rl a) (hb : Rl b) : Rl (gapOf a b) := (ha.sub hb).max (ha.sub hb).neg

theorem win_real (K C : Nat) {w : Fin K → Fin K → Fin C → EReal} {p : Fin C → ℕ → ℕ → EReal} (hw : ∀ i j c, Rl (w i j c))
    (hp : ∀ c u v, Rl (p c u v)) (u x : ℕ) : Rl (win K C w p u x) :=
  Rl.sum fun _ => Rl.sum fun _ => Rl.sum fun _ => (hw _ _ _).mul (hp _ _ _)

theorem layerOne_real {w : Fin 30 → Fin 5 → Fin 5 → Fin 2 → EReal} {b : Fin 30 → EReal} {p : Fin 2 → ℕ → ℕ → EReal}
    (hw : ∀ o i j c, Rl (w o i j c)) (hb : ∀ o, Rl (b o)) (hp : ∀ c u v, Rl (p c u v)) (o : Fin 30) (u v : ℕ) : Rl (layerOne w b p o u v) :=
  Rl.ite (fun _ => ((win_real 5 2 (hw o) hp u _).add (hb o)).max Rl.zero) Rl.zero

theorem layerTwo_real {w : Fin 30 → Fin 5 → Fin 5 → Fin 30 → EReal} {b : Fin 30 → EReal} {p : Fin 30 → ℕ → ℕ → EReal}
    (hw : ∀ o i j c, Rl (w o i j c)) (hb : ∀ o, Rl (b o)) (hp : ∀ c u v, Rl (p c u v)) (o : Fin 30) (u v : ℕ) : Rl (layerTwo w b p o u v) :=
  Rl.ite (fun _ => ((win_real 5 30 (hw o) hp u _).add (hb o)).max Rl.zero) Rl.zero

/-- A softmax of real costs: real weights, none negative, with sum one. -/
theorem soft_real {f : Fin 512 → EReal} (hf : ∀ x, Rl (f x)) :
    ∃ a : Fin 512 → ℝ, (∀ x, soft f x = (a x : EReal)) ∧ (∀ x, 0 ≤ a x) ∧ ∑ x, a x = 1 := by
  choose g hg using hf
  obtain ⟨M, hM⟩ : Rl (Finset.univ.fold max (Ideal.ofBits .f32 0xFF800000#32) fun k => -f k) := by
    rw [word_bot]
    have hlt : (Finset.univ.fold max ⊥ fun k => -f k) < ⊤ :=
      Finset.fold_max_lt _ |>.2 ⟨bot_lt_top, fun k _ => by rw [← hg k, ← EReal.coe_neg]; exact EReal.coe_lt_top _⟩
    have hgt : ⊥ < (Finset.univ.fold max ⊥ fun k => -f k) :=
      Finset.lt_fold_max _ |>.2 (Or.inr ⟨0, Finset.mem_univ _, by rw [← hg 0, ← EReal.coe_neg]; exact EReal.bot_lt_coe _⟩)
    exact ⟨_, EReal.coe_toReal hlt.ne hgt.ne'⟩
  have he : ∀ x, Ideal.exp (-f x - Finset.univ.fold max (Ideal.ofBits .f32 0xFF800000#32) fun k => -f k) = ((Real.exp (-g x - M) : ℝ) : EReal) := fun x => by
    rw [← hM, ← hg x, ← EReal.coe_neg, ← EReal.coe_sub, Ideal.exp_coe]
  have hpos : 0 < ∑ l, Real.exp (-g l - M) := Finset.sum_pos (fun l _ => Real.exp_pos _) ⟨0, Finset.mem_univ _⟩
  refine ⟨fun x => Real.exp (-g x - M) * (1 / ∑ l, Real.exp (-g l - M)), fun x => ?_, fun x => by positivity, ?_⟩
  · unfold soft
    simp only [he]
    rw [sum_coe, Ideal.div_coe hpos.ne', ← EReal.coe_mul]
  · rw [← Finset.sum_mul, mul_one_div_cancel hpos.ne']

/-- The mean distance in the reference's order and in the kernel's: with the rows summing to one, the sum of the absolute values
    is 512, and both are the sum of the products over 512. -/
theorem mean_eq (d a : Fin 512 → Fin 512 → EReal) (hd : ∀ q x, Rl (d q x)) (f : Fin 512 → Fin 512 → EReal) (hf : ∀ q x, Rl (f q x))
    (ha : ∀ q x, a q x = soft (f q) x) :
    (∑ q, ∑ x, d q x * Ideal.div (a q x) (∑ y, ∑ z, max (a y z) (-a y z))) =
      ∑ s : Fin 8, (∑ j : Fin 64, ∑ x, d (⟨64 * s.val + j.val, by omega⟩ : Fin 512) x * a (⟨64 * s.val + j.val, by omega⟩ : Fin 512) x) *
        Ideal.ofBits .f32 0x3B000000#32 := by
  choose g hg using hd
  choose w hw h0 h1 using fun q => soft_real (hf q)
  have haw : ∀ q x, a q x = (w q x : EReal) := fun q x => (ha q x).trans (hw q x)
  have habs : ∀ q x, max (w q x : EReal) (-(w q x : EReal)) = (w q x : EReal) := fun q x =>
    max_eq_left (by rw [← EReal.coe_neg]; exact EReal.coe_le_coe_iff.2 (by linarith [h0 q x]))
  have hS : ∑ y, ∑ z, max (a y z) (-a y z) = ((512 : ℝ) : EReal) := by
    simp only [haw, habs, sum_coe, h1]
    simp
  have hL : ∀ q, (∑ x, d q x * Ideal.div (a q x) (∑ y, ∑ z, max (a y z) (-a y z))) = ((∑ x, g q x * w q x * (1 / 512) : ℝ) : EReal) := fun q => by
    rw [hS, ← sum_coe]
    refine Finset.sum_congr rfl fun x _ => ?_
    rw [Ideal.div_coe (by norm_num), haw, ← hg, ← EReal.coe_mul, ← EReal.coe_mul, mul_assoc]
  have hR : ∀ q, (∑ x, d q x * a q x) = ((∑ x, g q x * w q x : ℝ) : EReal) := fun q => by
    rw [← sum_coe]
    refine Finset.sum_congr rfl fun x _ => ?_
    rw [haw, ← hg, ← EReal.coe_mul]
  rw [sum_bands 8 64 512 rfl]
  refine Finset.sum_congr rfl fun s _ => ?_
  simp only [hL, hR]
  rw [sum_coe, sum_coe, word_part, ← EReal.coe_mul, Finset.sum_mul]
  refine congrArg _ (Finset.sum_congr rfl fun j _ => ?_)
  rw [Finset.sum_mul]

end Cert.Layers

end
-- ==== Proof.OnceMean.lean ====
/- The second reference's mean distance, read as a sum over rows and columns. -/
module

public import proofs.«01_k».proof.Proof.OnceConv
public import proofs.«01_k».proof.Proof.Finite

@[expose] public section

set_option maxRecDepth 16384

noncomputable section

namespace Cert.ReferenceOnceIdeal.Hand

open Cert.ReferenceOnceIdeal Cert.ReferenceOnceIdeal.Gen Cert.ReferenceOnceIdeal.Read Idealize.ShloMosaic Idealize.ShloMosaic.TcCoe Idealize.SL.Sem
open Cert.Layers
open Cert.ReferenceIdeal.Hand (costAt)

variable (x0 : FVec Ideal S4x512x256 .f32) (x1 : IVec S4 32) (x2 : FVec Ideal S30x2x5x5 .f32) (x3 : FVec Ideal S30 .f32)
  (x4 : FVec Ideal S30x30x5x5 .f32) (x5 : FVec Ideal S30 .f32) (x6 : FVec Ideal S1x30x3x3 .f32) (x7 : FVec Ideal S1 .f32)

/-- The flat index of an entry of one batch member's alignment. -/
abbrev flat (y x : Fin 512) : Fin 262144 := ⟨512 * y.val + x.val, by omega⟩

theorem abs_eq (z : Ideal .f32) : FloatOps.absf z = max z (-z) := rfl

/-- The mean distance: the sum over the flattened alignment, each entry over the sum of the absolute values. -/
theorem v467_read (b : Fin 4) :
    val_main_v467 (F := Ideal) x0 x1 x2 x3 x4 x5 x6 x7 (ix1 b) =
      ∑ k : Fin 262144, val_main_v466 (F := Ideal) x0 x1 (ix2 b k) *
        Ideal.div (val_main_v460 (F := Ideal) x0 x1 x2 x3 x4 x5 x6 x7 (ix2 b k))
          (∑ l : Fin 262144, max (val_main_v460 (F := Ideal) x0 x1 x2 x3 x4 x5 x6 x7 (ix2 b l)) (-val_main_v460 (F := Ideal) x0 x1 x2 x3 x4 x5 x6 x7 (ix2 b l))) := by
  generalize hv : val_main_v460 (F := Ideal) x0 x1 x2 x3 x4 x5 x6 x7 = v
  generalize hd : val_main_v466 (F := Ideal) x0 x1 = d
  pointwise [val_main_v467, val_main_v465, val_main_v464, val_main_v463, val_main_v462, val_main_v461, hv, hd]
  have hz : val_main_cst_21 (F := Ideal) (Shape.Idx.first h_S_) = 0 := Ideal.ofBits_zero_f32
  simp only [abs_eq, hz, zero_add]

theorem v460_read (b : Fin 4) (y x : Fin 512) : val_main_v460 (F := Ideal) x0 x1 x2 x3 x4 x5 x6 x7 (ix2 b (flat y x)) =
    val_main_v459 (F := Ideal) x0 x1 x2 x3 x4 x5 x6 x7 (ix3 b y x) := by
  generalize hv : val_main_v459 (F := Ideal) x0 x1 x2 x3 x4 x5 x6 x7 = v
  pointwise [val_main_v460, hv]
  exact congrArg₂ (fun p q => v (ix3 b p q)) (Fin.ext (show (512 * y.val + x.val) / 512 = y.val by omega)) (Fin.ext (show (512 * y.val + x.val) % 512 = x.val by omega))

theorem v466_read (b : Fin 4) (y x : Fin 512) : val_main_v466 (F := Ideal) x0 x1 (ix2 b (flat y x)) = val_main_v63 (F := Ideal) x0 x1 (ix3 b y x) := by
  generalize hv : val_main_v63 (F := Ideal) x0 x1 = v
  pointwise [val_main_v466, hv]
  exact congrArg₂ (fun p q => v (ix3 b p q)) (Fin.ext (show (512 * y.val + x.val) / 512 = y.val by omega)) (Fin.ext (show (512 * y.val + x.val) % 512 = x.val by omega))

/-- The mean distance, row by row. -/
theorem mean_read (b : Fin 4) :
    val_main_v467 (F := Ideal) x0 x1 x2 x3 x4 x5 x6 x7 (ix1 b) =
      ∑ q : Fin 512, ∑ x : Fin 512, Cert.ReferenceIdeal.Read.val_main_v63 (F := Ideal) x0 x1 (ix3 b q x) *
        Ideal.div (soft (costAt x0 x1 x2 x3 x4 x5 x6 x7 b q) x)
          (∑ y : Fin 512, ∑ z : Fin 512, max (soft (costAt x0 x1 x2 x3 x4 x5 x6 x7 b y) z) (-soft (costAt x0 x1 x2 x3 x4 x5 x6 x7 b y) z)) := by
  have h := v460_read x0 x1 x2 x3 x4 x5 x6 x7 b
  simp only [v459_read] at h
  rw [v467_read, sum_bands 512 512 262144 (by norm_num)]
  rw [sum_bands 512 512 262144 (by norm_num) fun l => max (val_main_v460 (F := Ideal) x0 x1 x2 x3 x4 x5 x6 x7 (ix2 b l)) (-val_main_v460 (F := Ideal) x0 x1 x2 x3 x4 x5 x6 x7 (ix2 b l))]
  simp only [h, v466_read, dist_same]

end Cert.ReferenceOnceIdeal.Hand

end
-- ==== Proof.RealInputs.lean ====
/- The precondition: what the sequence and the convolutions' weights hold are real numbers, and with them the images and the
   costs. -/
module

public import proofs.«01_k».proof.Proof.Gen.Pre_finite
public import proofs.«01_k».proof.Proof.Finite
public import proofs.«01_k».proof.Proof.Alignment
public import Idealize.ShloMosaic.Lib.Pointwise

@[expose] public section

set_option maxRecDepth 16384

noncomputable section

namespace Cert.Pre_finite

open Idealize.ShloMosaic Cert.Layers

/-- Where the comparison with infinity holds, the entry is real. -/
theorem real_of_bit (e : EReal) (h : (FloatOps.cmpf (F := Ideal) (φ := .f32) .olt (FloatOps.hostAbsf (F := Ideal) (φ := .f32) e) (Ideal.ofBits .f32 0x7F800000#32)) = 1#1) : Rl e := by
  rw [word_top] at h
  refine Rl.of_lt ?_
  by_contra g
  have : BitVec.ofBool (decide (max e (-e) < ⊤)) = 1#1 := h
  rw [decide_eq_false g] at this
  exact absurd this (by decide)

end Cert.Pre_finite

namespace Cert.ReferenceIdeal.Hand

open Cert.Layers Cert.ReferenceIdeal Idealize.ShloMosaic

variable (x0 : FVec Ideal S4x512x256 .f32) (x1 : IVec S4 32) (x2 : FVec Ideal S30x2x5x5 .f32) (x3 : FVec Ideal S30 .f32)
  (x4 : FVec Ideal S30x30x5x5 .f32) (x5 : FVec Ideal S30 .f32) (x6 : FVec Ideal S1x30x3x3 .f32) (x7 : FVec Ideal S1 .f32)

theorem dist_value (h0 : ∀ i, Rl (x0 i)) (b : Fin 4) (y x : Fin 512) : Rl (Read.val_main_v63 (F := Ideal) x0 x1 (ix3 b y x)) := by
  rw [ref_dist]
  refine dist_real (fun d => h0 _) fun d => ?_
  rw [ref_avg]
  exact avg_real (fun k => h0 _) _ _

theorem images_real (h0 : ∀ i, Rl (x0 i)) (b : Fin 4) (c : Fin 2) (u v : ℕ) : Rl (images x0 x1 b c u v) := by
  rw [images]
  by_cases h : (8 ≤ u ∧ u < 520) ∧ (2 ≤ v ∧ v < 514)
  · rw [dif_pos h, ref_stack]
    refine Rl.ite (fun _ => dist_value x0 x1 h0 _ _ _) ?_
    rw [ref_pos, ref_posAvg]
    obtain ⟨r, hr, er⟩ := len_real (x1 (ix1 b))
    obtain ⟨s, hs, es⟩ := less_real (x1 (ix1 b))
    exact gap_real (pos_real (by linarith) er _) (pos_real (by linarith) es _)
  · rw [dif_neg h]
    exact Rl.zero

theorem cost_real (h0 : ∀ i, Rl (x0 i)) (h2 : ∀ i, Rl (x2 i)) (h3 : ∀ i, Rl (x3 i)) (h4 : ∀ i, Rl (x4 i)) (h5 : ∀ i, Rl (x5 i))
    (h6 : ∀ i, Rl (x6 i)) (h7 : ∀ i, Rl (x7 i)) (b : Fin 4) (y x : Fin 512) : Rl (costAt x0 x1 x2 x3 x4 x5 x6 x7 b y x) := by
  rw [costAt]
  refine ((win_real 3 30 (fun _ _ _ => h6 _) (fun _ _ _ => ?_) _ _).add (h7 _)).add (dist_value x0 x1 h0 _ _ _)
  exact layerTwo_real (fun _ _ _ _ => h4 _) (fun _ => h5 _)
    (fun _ _ _ => layerOne_real (fun _ _ _ _ => h2 _) (fun _ => h3 _) (images_real x0 x1 h0 b) _ _ _) _ _ _

end Cert.ReferenceIdeal.Hand

end
-- ==== Proof.AlgebraicOnce.lean ====
/- The second reference's frame and its two value claims: all results but the mean distance for all arguments, and on real
   sequences and convolution weights all four. -/
module

public import proofs.«01_k».proof.Defs
public import proofs.«01_k».proof.Proof.Algebraic
public import proofs.«01_k».proof.Proof.Dis
public import proofs.«01_k».proof.Proof.OnceMean
public import proofs.«01_k».proof.Proof.RealInputs
public import proofs.«01_k».proof.Proof.Gen.On_all_but_dis
public import proofs.«01_k».proof.Proof.Gen.ReferenceOnceIdeal.Run
public import proofs.«01_k».proof.Proof.Gen.ReferenceOnceIdeal.Read

@[expose] public section

set_option maxRecDepth 16384

noncomputable section

namespace Cert.On_all_but_dis

open Idealize.ShloMosaic

variable {F : FTy → Type} [FloatOps F] [Facts]

/-- The mean distance's mask is nowhere set. -/
theorem fn_none (a0 : FVec F S4x512x256 .f32) (a1 : IVec S4 32) (a2 : FVec F S30x2x5x5 .f32) (a3 : FVec F S30 .f32) (a4 : FVec F S30x30x5x5 .f32)
    (a5 : FVec F S30 .f32) (a6 : FVec F S1x30x3x3 .f32) (a7 : FVec F S1 .f32) (a8 : FVec F S256x256 .f32) (a9 : FVec F S256 .f32)
    (a10 : FVec F S256x256 .f32) (a11 : FVec F S256 .f32) (i : S4.Idx) : (fn a0 a1 a2 a3 a4 a5 a6 a7 a8 a9 a10 a11).2.1 i ≠ 1#1 := by
  show (0#1 : BitVec 1) ≠ 1#1
  decide

end Cert.On_all_but_dis

namespace Cert.Proof

open Idealize.ShloMosaic Idealize.ShloMosaic.TcCoe Idealize.SL.Sem Cert.Layers

/-- The second reference runs, keeps its arguments and has no counters. -/
theorem frame_referenceOnceIdeal : Cert.quiescent_ReferenceOnceIdeal := fun m ρ _ =>
  (θ_run Cert.ReferenceOnceIdeal.defs _ _).mono (fun r h => ⟨fun c => (h c).2.2.2.2,
      Idealize.ShloMosaic.sem_eq_zero_of_no_sems (by decide) r.2⟩)
    (Cert.ReferenceOnceIdeal.Value.run (F := Ideal) m ρ)

/-- The mean distance in the second reference's order and in the kernel's. -/
theorem mean_same (x0 : FVec Ideal Cert.ReferenceIdeal.S4x512x256 .f32) (x1 : IVec Cert.ReferenceIdeal.S4 32)
    (x2 : FVec Ideal Cert.ReferenceIdeal.S30x2x5x5 .f32) (x3 : FVec Ideal Cert.ReferenceIdeal.S30 .f32)
    (x4 : FVec Ideal Cert.ReferenceIdeal.S30x30x5x5 .f32) (x5 : FVec Ideal Cert.ReferenceIdeal.S30 .f32)
    (x6 : FVec Ideal Cert.ReferenceIdeal.S1x30x3x3 .f32) (x7 : FVec Ideal Cert.ReferenceIdeal.S1 .f32)
    (h0 : ∀ i, Rl (x0 i)) (h2 : ∀ i, Rl (x2 i)) (h3 : ∀ i, Rl (x3 i)) (h4 : ∀ i, Rl (x4 i)) (h5 : ∀ i, Rl (x5 i))
    (h6 : ∀ i, Rl (x6 i)) (h7 : ∀ i, Rl (x7 i)) (b : Fin 4) :
    Cert.ReferenceOnceIdeal.Read.val_main_v467 (F := Ideal) x0 x1 x2 x3 x4 x5 x6 x7 (ix1 b) =
      ∑ k : Fin 8, (∑ j : Fin 64, ∑ x : Fin 512, Cert.ReferenceIdeal.Hand.images x0 x1 b 0 (64 * k.val + j.val + 8) (x.val + 2) *
        soft (Cert.KernelIdeal.Hand.costOf (fun o dy dx c => x2 (ix4 o c dy dx)) (fun o => x3 (ix1 o)) (fun o dy dx c => x4 (ix4 o c dy dx))
          (fun o => x5 (ix1 o)) (fun dy dx c => x6 (ix4 0 c dy dx)) (x7 (ix1 0)) (Cert.ReferenceIdeal.Hand.images x0 x1 b) (64 * k.val + j.val)) x) *
        Ideal.ofBits .f32 0x3B000000#32 := by
  refine (Cert.ReferenceOnceIdeal.Hand.mean_read x0 x1 x2 x3 x4 x5 x6 x7 b).trans ?_
  refine (mean_eq _ _ (fun q x => Cert.ReferenceIdeal.Hand.dist_value x0 x1 h0 b q x) _
    (fun q x => Cert.ReferenceIdeal.Hand.cost_real x0 x1 x2 x3 x4 x5 x6 x7 h0 h2 h3 h4 h5 h6 h7 b q x) fun q x => rfl).trans ?_
  refine Finset.sum_congr rfl fun k _ => congrArg (· * _) (Finset.sum_congr rfl fun j _ => Finset.sum_congr rfl fun x _ => ?_)
  rw [cost_eq]
  refine congrArg (· * _) ?_
  rw [Cert.ReferenceIdeal.Hand.images_dist, dif_pos (by omega), Cert.ReferenceIdeal.Hand.ref_dist]
  simp only [Nat.add_sub_cancel, Cert.ReferenceIdeal.Hand.ref_avg]

/-- The kernel's run: each result as the last contents have it, the arguments as they were. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v36_0) = Cert.KernelIdeal.Hand.W15 m ρ c (Proc.devRef .tc Cert.KernelIdeal.main_v36_0) ∧
      r.2.mem ((c.tc : Thread Cert.KernelIdeal.nD Cert.KernelIdeal.τ).loc Cert.KernelIdeal.main_v44) = Cert.KernelIdeal.Hand.W15 m ρ c (Proc.devRef .tc Cert.KernelIdeal.main_v44) ∧
      r.2.mem ((c.tc : Thread Cert.KernelIdeal.nD Cert.KernelIdeal.τ).loc Cert.KernelIdeal.main_v43) = Cert.KernelIdeal.Hand.W15 m ρ c (Proc.devRef .tc Cert.KernelIdeal.main_v43) ∧
      r.2.mem ((c.tc : Thread Cert.KernelIdeal.nD Cert.KernelIdeal.τ).loc Cert.KernelIdeal.main_v1_0) = Cert.KernelIdeal.Hand.W15 m ρ c (Proc.devRef .tc Cert.KernelIdeal.main_v1_0) ∧
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
      r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
      r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
      r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧
      r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧
      r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧
      r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧
      r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧
      r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) ∧
      r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) ∧
      r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10) ∧
      r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) := by
  refine (θ_run Cert.KernelIdeal.defs _ _).mono (fun r h c => ?_) (Cert.KernelIdeal.Hand.run_all m ρ)
  have keep : ∀ b, b ∈ Pipeline.ucRefs Cert.KernelIdeal.τ Cert.KernelIdeal.sig →
      r.2.mem (((c : Thread Cert.KernelIdeal.nD Cert.KernelIdeal.τ)).1, b) = Cert.KernelIdeal.Hand.W15 m ρ c b := fun b hb => h.1 c b hb
  have arg : ∀ a ∈ Cert.KernelIdeal.Hand.argRefs, Proc.devRef .tc a ∈ Pipeline.ucRefs Cert.KernelIdeal.τ Cert.KernelIdeal.sig →
      r.2.mem ((c : Thread Cert.KernelIdeal.nD Cert.KernelIdeal.τ).loc a) = m ((c : Thread Cert.KernelIdeal.nD Cert.KernelIdeal.τ).loc a) :=
    fun a ha hb => (keep _ hb).trans (Cert.KernelIdeal.Hand.W15_args m ρ c a ha)
  exact ⟨keep _ (Cert.KernelIdeal.Hand.mem_uc Cert.KernelIdeal.main_v36_0 (by decide)),
    keep _ (Cert.KernelIdeal.Hand.mem_uc Cert.KernelIdeal.main_v44 (by decide)),
    keep _ (Cert.KernelIdeal.Hand.mem_uc Cert.KernelIdeal.main_v43 (by decide)),
    keep _ (Cert.KernelIdeal.Hand.mem_uc Cert.KernelIdeal.main_v1_0 (by decide)),
    arg Cert.KernelIdeal.main_arg0 (by decide) (Cert.KernelIdeal.Hand.mem_uc Cert.KernelIdeal.main_arg0 (by decide)),
    arg Cert.KernelIdeal.main_arg1 (by decide) (Cert.KernelIdeal.Hand.mem_uc Cert.KernelIdeal.main_arg1 (by decide)),
    arg Cert.KernelIdeal.main_arg2 (by decide) (Cert.KernelIdeal.Hand.mem_uc Cert.KernelIdeal.main_arg2 (by decide)),
    arg Cert.KernelIdeal.main_arg3 (by decide) (Cert.KernelIdeal.Hand.mem_uc Cert.KernelIdeal.main_arg3 (by decide)),
    arg Cert.KernelIdeal.main_arg4 (by decide) (Cert.KernelIdeal.Hand.mem_uc Cert.KernelIdeal.main_arg4 (by decide)),
    arg Cert.KernelIdeal.main_arg5 (by decide) (Cert.KernelIdeal.Hand.mem_uc Cert.KernelIdeal.main_arg5 (by decide)),
    arg Cert.KernelIdeal.main_arg6 (by decide) (Cert.KernelIdeal.Hand.mem_uc Cert.KernelIdeal.main_arg6 (by decide)),
    arg Cert.KernelIdeal.main_arg7 (by decide) (Cert.KernelIdeal.Hand.mem_uc Cert.KernelIdeal.main_arg7 (by decide)),
    arg Cert.KernelIdeal.main_arg8 (by decide) (Cert.KernelIdeal.Hand.mem_uc Cert.KernelIdeal.main_arg8 (by decide)),
    arg Cert.KernelIdeal.main_arg9 (by decide) (Cert.KernelIdeal.Hand.mem_uc Cert.KernelIdeal.main_arg9 (by decide)),
    arg Cert.KernelIdeal.main_arg10 (by decide) (Cert.KernelIdeal.Hand.mem_uc Cert.KernelIdeal.main_arg10 (by decide)),
    arg Cert.KernelIdeal.main_arg11 (by decide) (Cert.KernelIdeal.Hand.mem_uc Cert.KernelIdeal.main_arg11 (by decide))⟩

/-- The second reference's run from the same arguments: the kernel's alignment, prediction and averaged sequence, and its own mean
    distance over the arguments. -/
theorem once_run (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceOnceIdeal.nD Cert.ReferenceOnceIdeal.τ Cert.ReferenceOnceIdeal.sig) → Buf (Elt Ideal) ℓ) (ρ' : Dev Cert.ReferenceOnceIdeal.nD → PrngReg)
    (hagree : ∀ c : Dev Cert.KernelIdeal.nD, m' ((c.tc : Thread Cert.ReferenceOnceIdeal.nD Cert.ReferenceOnceIdeal.τ).loc Cert.ReferenceOnceIdeal.main_arg0) = m ((c.tc : Thread Cert.KernelIdeal.nD Cert.KernelIdeal.τ).loc Cert.KernelIdeal.main_arg0) ∧
      m' ((c.tc : Thread Cert.ReferenceOnceIdeal.nD Cert.ReferenceOnceIdeal.τ).loc Cert.ReferenceOnceIdeal.main_arg1) = m ((c.tc : Thread Cert.KernelIdeal.nD Cert.KernelIdeal.τ).loc Cert.KernelIdeal.main_arg1) ∧
      m' ((c.tc : Thread Cert.ReferenceOnceIdeal.nD Cert.ReferenceOnceIdeal.τ).loc Cert.ReferenceOnceIdeal.main_arg2) = m ((c.tc : Thread Cert.KernelIdeal.nD Cert.KernelIdeal.τ).loc Cert.KernelIdeal.main_arg2) ∧
      m' ((c.tc : Thread Cert.ReferenceOnceIdeal.nD Cert.ReferenceOnceIdeal.τ).loc Cert.ReferenceOnceIdeal.main_arg3) = m ((c.tc : Thread Cert.KernelIdeal.nD Cert.KernelIdeal.τ).loc Cert.KernelIdeal.main_arg3) ∧
      m' ((c.tc : Thread Cert.ReferenceOnceIdeal.nD Cert.ReferenceOnceIdeal.τ).loc Cert.ReferenceOnceIdeal.main_arg4) = m ((c.tc : Thread Cert.KernelIdeal.nD Cert.KernelIdeal.τ).loc Cert.KernelIdeal.main_arg4) ∧
      m' ((c.tc : Thread Cert.ReferenceOnceIdeal.nD Cert.ReferenceOnceIdeal.τ).loc Cert.ReferenceOnceIdeal.main_arg5) = m ((c.tc : Thread Cert.KernelIdeal.nD Cert.KernelIdeal.τ).loc Cert.KernelIdeal.main_arg5) ∧
      m' ((c.tc : Thread Cert.ReferenceOnceIdeal.nD Cert.ReferenceOnceIdeal.τ).loc Cert.ReferenceOnceIdeal.main_arg6) = m ((c.tc : Thread Cert.KernelIdeal.nD Cert.KernelIdeal.τ).loc Cert.KernelIdeal.main_arg6) ∧
      m' ((c.tc : Thread Cert.ReferenceOnceIdeal.nD Cert.ReferenceOnceIdeal.τ).loc Cert.ReferenceOnceIdeal.main_arg7) = m ((c.tc : Thread Cert.KernelIdeal.nD Cert.KernelIdeal.τ).loc Cert.KernelIdeal.main_arg7) ∧
      m' ((c.tc : Thread Cert.ReferenceOnceIdeal.nD Cert.ReferenceOnceIdeal.τ).loc Cert.ReferenceOnceIdeal.main_arg8) = m ((c.tc : Thread Cert.KernelIdeal.nD Cert.KernelIdeal.τ).loc Cert.KernelIdeal.main_arg8) ∧
      m' ((c.tc : Thread Cert.ReferenceOnceIdeal.nD Cert.ReferenceOnceIdeal.τ).loc Cert.ReferenceOnceIdeal.main_arg9) = m ((c.tc : Thread Cert.KernelIdeal.nD Cert.KernelIdeal.τ).loc Cert.KernelIdeal.main_arg9) ∧
      m' ((c.tc : Thread Cert.ReferenceOnceIdeal.nD Cert.ReferenceOnceIdeal.τ).loc Cert.ReferenceOnceIdeal.main_arg10) = m ((c.tc : Thread Cert.KernelIdeal.nD Cert.KernelIdeal.τ).loc Cert.KernelIdeal.main_arg10) ∧
      m' ((c.tc : Thread Cert.ReferenceOnceIdeal.nD Cert.ReferenceOnceIdeal.τ).loc Cert.ReferenceOnceIdeal.main_arg11) = m ((c.tc : Thread Cert.KernelIdeal.nD Cert.KernelIdeal.τ).loc Cert.KernelIdeal.main_arg11)) :
    θ_run (Cert.ReferenceOnceIdeal.defs (F := Ideal)) (onTc (τ := Cert.ReferenceOnceIdeal.τ) (Cert.ReferenceOnceIdeal.main (F := Ideal))) ⟨m', fun _ => 0, ρ'⟩ (fun r => ∀ c : Dev Cert.ReferenceOnceIdeal.nD,
      r.2.mem ((c.tc : Thread Cert.ReferenceOnceIdeal.nD Cert.ReferenceOnceIdeal.τ).loc Cert.ReferenceOnceIdeal.main_v459) = Cert.KernelIdeal.Hand.W15 m ρ c (Proc.devRef .tc Cert.KernelIdeal.main_v36_0) ∧
      r.2.mem ((c.tc : Thread Cert.ReferenceOnceIdeal.nD Cert.ReferenceOnceIdeal.τ).loc Cert.ReferenceOnceIdeal.main_v467) = Cert.ReferenceOnceIdeal.Read.val_main_v467 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) ∧
      r.2.mem ((c.tc : Thread Cert.ReferenceOnceIdeal.nD Cert.ReferenceOnceIdeal.τ).loc Cert.ReferenceOnceIdeal.main_v485) = Cert.KernelIdeal.Hand.W15 m ρ c (Proc.devRef .tc Cert.KernelIdeal.main_v43) ∧
      r.2.mem ((c.tc : Thread Cert.ReferenceOnceIdeal.nD Cert.ReferenceOnceIdeal.τ).loc Cert.ReferenceOnceIdeal.main_v39) = Cert.KernelIdeal.Hand.W15 m ρ c (Proc.devRef .tc Cert.KernelIdeal.main_v1_0) ∧
      r.2.mem ((c.tc : Thread Cert.ReferenceOnceIdeal.nD Cert.ReferenceOnceIdeal.τ).loc Cert.ReferenceOnceIdeal.main_arg0) = m' ((c.tc : Thread Cert.ReferenceOnceIdeal.nD Cert.ReferenceOnceIdeal.τ).loc Cert.ReferenceOnceIdeal.main_arg0) ∧
      r.2.mem ((c.tc : Thread Cert.ReferenceOnceIdeal.nD Cert.ReferenceOnceIdeal.τ).loc Cert.ReferenceOnceIdeal.main_arg1) = m' ((c.tc : Thread Cert.ReferenceOnceIdeal.nD Cert.ReferenceOnceIdeal.τ).loc Cert.ReferenceOnceIdeal.main_arg1) ∧
      r.2.mem ((c.tc : Thread Cert.ReferenceOnceIdeal.nD Cert.ReferenceOnceIdeal.τ).loc Cert.ReferenceOnceIdeal.main_arg2) = m' ((c.tc : Thread Cert.ReferenceOnceIdeal.nD Cert.ReferenceOnceIdeal.τ).loc Cert.ReferenceOnceIdeal.main_arg2) ∧
      r.2.mem ((c.tc : Thread Cert.ReferenceOnceIdeal.nD Cert.ReferenceOnceIdeal.τ).loc Cert.ReferenceOnceIdeal.main_arg3) = m' ((c.tc : Thread Cert.ReferenceOnceIdeal.nD Cert.ReferenceOnceIdeal.τ).loc Cert.ReferenceOnceIdeal.main_arg3) ∧
      r.2.mem ((c.tc : Thread Cert.ReferenceOnceIdeal.nD Cert.ReferenceOnceIdeal.τ).loc Cert.ReferenceOnceIdeal.main_arg4) = m' ((c.tc : Thread Cert.ReferenceOnceIdeal.nD Cert.ReferenceOnceIdeal.τ).loc Cert.ReferenceOnceIdeal.main_arg4) ∧
      r.2.mem ((c.tc : Thread Cert.ReferenceOnceIdeal.nD Cert.ReferenceOnceIdeal.τ).loc Cert.ReferenceOnceIdeal.main_arg5) = m' ((c.tc : Thread Cert.ReferenceOnceIdeal.nD Cert.ReferenceOnceIdeal.τ).loc Cert.ReferenceOnceIdeal.main_arg5) ∧
      r.2.mem ((c.tc : Thread Cert.ReferenceOnceIdeal.nD Cert.ReferenceOnceIdeal.τ).loc Cert.ReferenceOnceIdeal.main_arg6) = m' ((c.tc : Thread Cert.ReferenceOnceIdeal.nD Cert.ReferenceOnceIdeal.τ).loc Cert.ReferenceOnceIdeal.main_arg6) ∧
      r.2.mem ((c.tc : Thread Cert.ReferenceOnceIdeal.nD Cert.ReferenceOnceIdeal.τ).loc Cert.ReferenceOnceIdeal.main_arg7) = m' ((c.tc : Thread Cert.ReferenceOnceIdeal.nD Cert.ReferenceOnceIdeal.τ).loc Cert.ReferenceOnceIdeal.main_arg7) ∧
      r.2.mem ((c.tc : Thread Cert.ReferenceOnceIdeal.nD Cert.ReferenceOnceIdeal.τ).loc Cert.ReferenceOnceIdeal.main_arg8) = m' ((c.tc : Thread Cert.ReferenceOnceIdeal.nD Cert.ReferenceOnceIdeal.τ).loc Cert.ReferenceOnceIdeal.main_arg8) ∧
      r.2.mem ((c.tc : Thread Cert.ReferenceOnceIdeal.nD Cert.ReferenceOnceIdeal.τ).loc Cert.ReferenceOnceIdeal.main_arg9) = m' ((c.tc : Thread Cert.ReferenceOnceIdeal.nD Cert.ReferenceOnceIdeal.τ).loc Cert.ReferenceOnceIdeal.main_arg9) ∧
      r.2.mem ((c.tc : Thread Cert.ReferenceOnceIdeal.nD Cert.ReferenceOnceIdeal.τ).loc Cert.ReferenceOnceIdeal.main_arg10) = m' ((c.tc : Thread Cert.ReferenceOnceIdeal.nD Cert.ReferenceOnceIdeal.τ).loc Cert.ReferenceOnceIdeal.main_arg10) ∧
      r.2.mem ((c.tc : Thread Cert.ReferenceOnceIdeal.nD Cert.ReferenceOnceIdeal.τ).loc Cert.ReferenceOnceIdeal.main_arg11) = m' ((c.tc : Thread Cert.ReferenceOnceIdeal.nD Cert.ReferenceOnceIdeal.τ).loc Cert.ReferenceOnceIdeal.main_arg11)) := by
  refine (θ_run Cert.ReferenceOnceIdeal.defs _ _).mono (fun r h c => ?_) (Cert.ReferenceOnceIdeal.Value.run (F := Ideal) m' ρ')
  obtain ⟨hA, hD, hP, hV, hargs⟩ := h c
  obtain ⟨e0, e1, e2, e3, e4, e5, e6, e7, e8, e9, e10, e11⟩ := hagree c
  clear h hagree
  have f0 := (StableHlo.launchContents_devRef m' c Cert.ReferenceOnceIdeal.main_arg0).trans e0
  have f1 := (StableHlo.launchContents_devRef m' c Cert.ReferenceOnceIdeal.main_arg1).trans e1
  have f2 := (StableHlo.launchContents_devRef m' c Cert.ReferenceOnceIdeal.main_arg2).trans e2
  have f3 := (StableHlo.launchContents_devRef m' c Cert.ReferenceOnceIdeal.main_arg3).trans e3
  have f4 := (StableHlo.launchContents_devRef m' c Cert.ReferenceOnceIdeal.main_arg4).trans e4
  have f5 := (StableHlo.launchContents_devRef m' c Cert.ReferenceOnceIdeal.main_arg5).trans e5
  have f6 := (StableHlo.launchContents_devRef m' c Cert.ReferenceOnceIdeal.main_arg6).trans e6
  have f7 := (StableHlo.launchContents_devRef m' c Cert.ReferenceOnceIdeal.main_arg7).trans e7
  have f8 := (StableHlo.launchContents_devRef m' c Cert.ReferenceOnceIdeal.main_arg8).trans e8
  have f9 := (StableHlo.launchContents_devRef m' c Cert.ReferenceOnceIdeal.main_arg9).trans e9
  have f10 := (StableHlo.launchContents_devRef m' c Cert.ReferenceOnceIdeal.main_arg10).trans e10
  have f11 := (StableHlo.launchContents_devRef m' c Cert.ReferenceOnceIdeal.main_arg11).trans e11
  refine ⟨?_, ?_, ?_, ?_, hargs⟩
  · funext i
    obtain ⟨b, y, x, rfl⟩ : ∃ b y x, i = ix3 b y x := ⟨i 0, i 1, i 2, by funext a; fin_cases a <;> rfl⟩
    refine (congrFun (hA.trans (Cert.ReferenceOnceIdeal.Read.val_main_v459_eq _)) _).trans ?_
    rw [f0, f1, f2, f3, f4, f5, f6, f7]
    refine (Cert.ReferenceOnceIdeal.Hand.v459_read _ _ _ _ _ _ _ _ b y x).trans ?_
    rw [cost_eq]
    exact (Cert.KernelIdeal.Hand.alignment_at m ρ c b y x).symm
  · funext i
    obtain ⟨b, rfl⟩ : ∃ b, i = ix1 b := ⟨i 0, by funext a; fin_cases a; rfl⟩
    refine (congrFun (hD.trans (Cert.ReferenceOnceIdeal.Read.val_main_v467_eq _)) _).trans ?_
    rw [f0, f1, f2, f3, f4, f5, f6, f7]
  · funext i
    obtain ⟨b, y, x, rfl⟩ : ∃ b y x, i = ix3 b y x := ⟨i 0, i 1, i 2, by funext a; fin_cases a <;> rfl⟩
    refine (congrFun (hP.trans (Cert.ReferenceOnceIdeal.Read.val_main_v485_eq _)) _).trans ?_
    rw [f0, f8, f9, f10, f11, Cert.ReferenceOnceIdeal.Hand.head_same]
    exact (Cert.ReferenceIdeal.Hand.ref_head _ _ _ _ _ b y x).trans (Cert.KernelIdeal.Hand.prediction_at m ρ c b y x).symm
  · funext i
    obtain ⟨b, y, x, rfl⟩ : ∃ b y x, i = ix3 b y x := ⟨i 0, i 1, i 2, by funext a; fin_cases a <;> rfl⟩
    refine (congrFun (hV.trans (Cert.ReferenceOnceIdeal.Read.val_main_v39_eq _)) _).trans ?_
    rw [f0, f1, Cert.ReferenceOnceIdeal.Hand.avg_same]
    exact (Cert.ReferenceIdeal.Hand.ref_avg _ _ b y x).trans (Cert.KernelIdeal.Hand.average_at m ρ c b y x).symm

/-- Over the reals: on real sequences and convolution weights, all four results are the second reference's. -/
theorem algebraicOnce : Cert.algebraic_KernelIdeal_ReferenceOnceIdeal_pre_finite := by
  intro m ρ m' ρ' hpre hagree
  refine ⟨fun c => Cert.KernelIdeal.Hand.W15 m ρ c (Proc.devRef .tc Cert.KernelIdeal.main_v36_0),
    fun c => Cert.KernelIdeal.Hand.W15 m ρ c (Proc.devRef .tc Cert.KernelIdeal.main_v44),
    fun c => Cert.KernelIdeal.Hand.W15 m ρ c (Proc.devRef .tc Cert.KernelIdeal.main_v43),
    fun c => Cert.KernelIdeal.Hand.W15 m ρ c (Proc.devRef .tc Cert.KernelIdeal.main_v1_0), kernel_run m ρ, ?_⟩
  refine (θ_run Cert.ReferenceOnceIdeal.defs _ _).mono (fun r h c => ?_) (once_run m ρ m' ρ' hagree)
  obtain ⟨hA, hD, hP, hV, hargs⟩ := h c
  obtain ⟨p0, p2, p3, p4, p5, p6, p7⟩ := hpre c
  refine ⟨hA, ?_, hP, hV, hargs⟩
  funext i
  obtain ⟨b, rfl⟩ : ∃ b, i = ix1 b := ⟨i 0, by funext a; fin_cases a; rfl⟩
  refine (congrFun hD _).trans ?_
  exact (mean_same _ _ _ _ _ _ _ _ (fun i => Cert.Pre_finite.real_of_bit _ (congrFun p0 i)) (fun i => Cert.Pre_finite.real_of_bit _ (congrFun p2 i))
    (fun i => Cert.Pre_finite.real_of_bit _ (congrFun p3 i)) (fun i => Cert.Pre_finite.real_of_bit _ (congrFun p4 i))
    (fun i => Cert.Pre_finite.real_of_bit _ (congrFun p5 i)) (fun i => Cert.Pre_finite.real_of_bit _ (congrFun p6 i))
    (fun i => Cert.Pre_finite.real_of_bit _ (congrFun p7 i)) b).trans (Cert.KernelIdeal.Hand.mean_at m ρ c b).symm

/-- Over the reals, for all arguments: all results but the mean distance are the second reference's. -/
theorem algebraicOnceRest : Cert.algebraic_KernelIdeal_ReferenceOnceIdeal_on_all_but_dis := by
  intro m ρ m' ρ' _ hagree
  refine ⟨fun c => Cert.KernelIdeal.Hand.W15 m ρ c (Proc.devRef .tc Cert.KernelIdeal.main_v36_0),
    fun c => Cert.KernelIdeal.Hand.W15 m ρ c (Proc.devRef .tc Cert.KernelIdeal.main_v44),
    fun c => Cert.KernelIdeal.Hand.W15 m ρ c (Proc.devRef .tc Cert.KernelIdeal.main_v43),
    fun c => Cert.KernelIdeal.Hand.W15 m ρ c (Proc.devRef .tc Cert.KernelIdeal.main_v1_0), ?_, ?_⟩
  · refine (θ_run Cert.KernelIdeal.defs _ _).mono (fun r h c => ?_) (kernel_run m ρ)
    obtain ⟨hA, hD, hP, hV, hargs⟩ := h c
    exact ⟨fun i _ => congrFun hA i, fun i _ => congrFun hD i, fun i _ => congrFun hP i, fun i _ => congrFun hV i, hargs⟩
  · refine (θ_run Cert.ReferenceOnceIdeal.defs _ _).mono (fun r h c => ?_) (once_run m ρ m' ρ' hagree)
    obtain ⟨hA, hD, hP, hV, hargs⟩ := h c
    exact ⟨fun i _ => congrFun hA i, fun i hi => absurd hi (Cert.On_all_but_dis.fn_none _ _ _ _ _ _ _ _ _ _ _ _ i), fun i _ => congrFun hP i,
      fun i _ => congrFun hV i, hargs⟩

end Cert.Proof

end
-- ==== Proof.lean ====
module

public import proofs.«01_k».proof.Defs
public import proofs.«01_k».proof.Proof.KernelRun
public import proofs.«01_k».proof.Proof.Algebraic
public import proofs.«01_k».proof.Proof.AlgebraicOnce

@[expose] public section

noncomputable section

namespace Cert.Proof

open Idealize.ShloMosaic Idealize.SL.Sem

/-- The kernel runs at the bits, keeps its arguments and ends with every counter at zero. -/
theorem frame_kernel : Cert.quiescent_Kernel := fun m ρ _ => Cert.Kernel.Hand.frame m ρ

/-- The same of the kernel over the reals. -/
theorem frame_kernelIdeal : Cert.quiescent_KernelIdeal := fun m ρ _ => Cert.KernelIdeal.Hand.frame m ρ

/-- The frames that are stated beside the precondition hold without it. -/
theorem frame_kernelIdeal_finite : Cert.quiescent_KernelIdeal_pre_finite := fun m ρ _ => Cert.KernelIdeal.Hand.frame m ρ

theorem frame_referenceOnceIdeal_finite : Cert.quiescent_ReferenceOnceIdeal_pre_finite := fun m ρ _ => frame_referenceOnceIdeal m ρ trivial

theorem claim : Cert.Claim :=
  ⟨Cert.Kernel.Gen.facts, Cert.KernelIdeal.Gen.facts, Cert.ReferenceIdeal.Gen.facts, Cert.ReferenceOnceIdeal.Gen.facts,
    Cert.Pre_finite.Gen.facts, Cert.On_inner_rows.Gen.facts, Cert.On_all_but_dis.Gen.facts, frame_kernel, frame_kernelIdeal, frame_kernelIdeal_finite, frame_referenceIdeal,
    frame_referenceOnceIdeal, frame_referenceOnceIdeal_finite, trivial, algebraic,
    algebraicOnceRest, algebraicOnce⟩

end Cert.Proof

end
